-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v70) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v84) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x4096x3072 : Shape := ⟨3, ![4, 4096, 3072]⟩
abbrev S4x4096x7168 : Shape := ⟨3, ![4, 4096, 7168]⟩
abbrev S4x4096x128 : Shape := ⟨3, ![4, 4096, 128]⟩
abbrev S1x128 : Shape := ⟨2, ![1, 128]⟩
abbrev S_ : Shape := ⟨0, ![]⟩

class Facts : Prop where
  bitsLt_bf16_f32 : FTy.bits .bf16 < FTy.bits .f32
  bcast_S_S4x4096x3072 : S_.BroadcastsInDim S4x4096x3072 (![] : Fin 0 → Fin S4x4096x3072.rank)
  bcast_S_S4x4096x128 : S_.BroadcastsInDim S4x4096x128 (![] : Fin 0 → Fin S4x4096x128.rank)

variable [Facts]

def fn {F : FTy → Type} [FloatOps F] (main_arg0 : FVec F S4x4096x3072 .bf16) (main_arg1 : FVec F S4x4096x7168 .bf16) (main_arg2 : FVec F S4x4096x128 .f32) (main_arg3 : FVec F S1x128 .f32) : IVec S4x4096x3072 1 × IVec S4x4096x128 1 :=
  let main_v0 : FVec F S4x4096x3072 .f32 := (extf .f32 · bitsLt_bf16_f32) main_arg0
  let main_v1 : FVec F S4x4096x3072 .f32 := Host.absf main_v0
  let main_cst : FVec F S_ .f32 := constant S_ .f32 0x7F800000#32
  let main_v2 : FVec F S4x4096x3072 .f32 := broadcastInDim S4x4096x3072 ![] bcast_S_S4x4096x3072 main_cst
  let main_v3 : IVec S4x4096x3072 1 := cmpf .olt main_v1 main_v2
  let main_v4 : FVec F S4x4096x128 .f32 := Host.absf main_arg2
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  (main_v3, main_v6)
-- ==== Pre_finite6.lean ====
abbrev S4x4096x2048 : Shape := ⟨3, ![4, 4096, 2048]⟩
abbrev S4x4096x1024 : Shape := ⟨3, ![4, 4096, 1024]⟩
abbrev S4x4096x4096 : Shape := ⟨3, ![4, 4096, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S4x256x1024 : Shape := ⟨3, ![4, 256, 1024]⟩
abbrev S1x512x2048 : Shape := ⟨3, ![1, 512, 2048]⟩
abbrev S_ : Shape := ⟨0, ![]⟩
abbrev S4x256x512 : Shape := ⟨3, ![4, 256, 512]⟩

class Facts : Prop where
  bcast_S_S1x2048 : S_.BroadcastsInDim S1x2048 (![] : Fin 0 → Fin S1x2048.rank)
  bcast_S_S1x2048x512 : S_.BroadcastsInDim S1x2048x512 (![] : Fin 0 → Fin S1x2048x512.rank)
  slices_S4x256x1024_S4x256x512_0_0_0 : S4x256x1024.Slices ![0, 0, 0] S4x256x512
  bitsLt_bf16_f32 : FTy.bits .bf16 < FTy.bits .f32
  bcast_S_S4x256x512 : S_.BroadcastsInDim S4x256x512 (![] : Fin 0 → Fin S4x256x512.rank)

variable [Facts]

def fn {F : FTy → Type} [FloatOps F] (main_arg0 : FVec F S4x4096x2048 .f32) (main_arg1 : FVec F S4x4096x1024 .bf16) (main_arg2 : FVec F S4x4096x1024 .bf16) (main_arg3 : FVec F S4x4096x4096 .bf16) (main_arg4 : FVec F S1x1024x2048 .f32) (main_arg5 : FVec F S1x1024x2048 .f32) (main_arg6 : FVec F S1x2048x2048 .f32) (main_arg7 : FVec F S1x2048 .f32) (main_arg8 : FVec F S1x2048x512 .f32) (main_arg9 : FVec F S4x256x1024 .bf16) (main_arg10 : FVec F S1x512x2048 .f32) : IVec S1x2048 1 × IVec S1x2048x512 1 × IVec S4x256x512 1 :=
  let main_v0 : FVec F S1x2048 .f32 := Host.absf main_arg7
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x512 .f32 := Host.absf main_arg8
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S4x256x512 .bf16 := (extractStridedSlice S4x256x512 ![0, 0, 0] · slices_S4x256x1024_S4x256x512_0_0_0) main_arg9
  let main_v7 : FVec F S4x256x512 .f32 := (extf .f32 · bitsLt_bf16_f32) main_v6
  let main_v8 : FVec F S4x256x512 .f32 := Host.absf main_v7
  let main_cst_1 : FVec F S_ .f32 := constant S_ .f32 0x7F800000#32
  let main_v9 : FVec F S4x256x512 .f32 := broadcastInDim S4x256x512 ![] bcast_S_S4x256x512 main_cst_1
  let main_v10 : IVec S4x256x512 1 := cmpf .olt main_v8 main_v9
  (main_v2, main_v5, main_v10)
-- ==== Kernel.lean ====
abbrev S4x4096x3072 : Shape := ⟨3, ![4, 4096, 3072]⟩
abbrev S4x4096x7168 : Shape := ⟨3, ![4, 4096, 7168]⟩
abbrev S4x4096x128 : Shape := ⟨3, ![4, 4096, 128]⟩
abbrev S1x128 : Shape := ⟨2, ![1, 128]⟩
abbrev S128 : Shape := ⟨1, ![128]⟩
abbrev S4x4096x1024 : Shape := ⟨3, ![4, 4096, 1024]⟩
abbrev S2x64x1024 : Shape := ⟨3, ![2, 64, 1024]⟩
abbrev S2x64x128 : Shape := ⟨3, ![2, 64, 128]⟩
abbrev S2x8x128x128 : Shape := ⟨4, ![2, 8, 128, 128]⟩
abbrev S64x64 : Shape := ⟨2, ![64, 64]⟩
abbrev S1x64x128 : Shape := ⟨3, ![1, 64, 128]⟩
abbrev S64x128 : Shape := ⟨2, ![64, 128]⟩
abbrev S128x64 : Shape := ⟨2, ![128, 64]⟩
abbrev S16x64 : Shape := ⟨2, ![16, 64]⟩
abbrev S64x1 : Shape := ⟨2, ![64, 1]⟩
abbrev S1x64 : Shape := ⟨2, ![1, 64]⟩
abbrev S1x1 : Shape := ⟨2, ![1, 1]⟩
abbrev S128x128 : Shape := ⟨2, ![128, 128]⟩
abbrev S64x256 : Shape := ⟨2, ![64, 256]⟩
abbrev S1x1x128x128 : Shape := ⟨4, ![1, 1, 128, 128]⟩
abbrev S64 : Shape := ⟨1, ![64]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x7168, .bf16⟩
  | .hbm, ⟨2, _⟩ => ⟨S4x4096x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S4x4096x1024, .bf16⟩
  | .local _ .vmem, ⟨0, _⟩ => ⟨S2x64x1024, .bf16⟩
  | .local _ .vmem, ⟨1, _⟩ => ⟨S2x64x1024, .bf16⟩
  | .local _ .vmem, ⟨2, _⟩ => ⟨S2x64x1024, .bf16⟩
  | .local _ .vmem, ⟨3, _⟩ => ⟨S2x64x1024, .bf16⟩
  | .local _ .vmem, ⟨4, _⟩ => ⟨S2x64x1024, .bf16⟩
  | .local _ .vmem, ⟨5, _⟩ => ⟨S2x64x1024, .bf16⟩
  | .local _ .vmem, ⟨6, _⟩ => ⟨S2x64x1024, .bf16⟩
  | .local _ .vmem, ⟨7, _⟩ => ⟨S2x64x1024, .bf16⟩
  | .local _ .vmem, ⟨8, _⟩ => ⟨S2x64x128, .f32⟩
  | .local _ .vmem, ⟨9, _⟩ => ⟨S2x64x128, .f32⟩
  | .local _ .vmem, ⟨10, _⟩ => ⟨S1x128, .f32⟩
  | .local _ .vmem, ⟨11, _⟩ => ⟨S2x64x1024, .bf16⟩
  | .local _ .vmem, ⟨12, _⟩ => ⟨S2x64x1024, .bf16⟩
  | .local _ .vmem, ⟨13, _⟩ => ⟨S2x8x128x128, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4096x3072 : Shape := ⟨3, ![4, 4096, 3072]⟩
abbrev S4x4096x7168 : Shape := ⟨3, ![4, 4096, 7168]⟩
abbrev S4x4096x128 : Shape := ⟨3, ![4, 4096, 128]⟩
abbrev S1x128 : Shape := ⟨2, ![1, 128]⟩
abbrev S4x4096x3x8x128 : Shape := ⟨5, ![4, 4096, 3, 8, 128]⟩
abbrev S4x4096x8 : Shape := ⟨3, ![4, 4096, 8]⟩
abbrev S4x4096x1x8x128 : Shape := ⟨5, ![4, 4096, 1, 8, 128]⟩
abbrev S4x4096x8x128 : Shape := ⟨4, ![4, 4096, 8, 128]⟩
abbrev S4096x4x8x128 : Shape := ⟨4, ![4096, 4, 8, 128]⟩
abbrev S4096x4x8 : Shape := ⟨3, ![4096, 4, 8]⟩
abbrev S_ : Shape := ⟨0, ![]⟩
abbrev S4x8x128x128 : Shape := ⟨4, ![4, 8, 128, 128]⟩
abbrev S1x4x8x128 : Shape := ⟨4, ![1, 4, 8, 128]⟩
abbrev S4x8x128 : Shape := ⟨3, ![4, 8, 128]⟩
abbrev S1x4x8 : Shape := ⟨3, ![1, 4, 8]⟩
abbrev S4x8 : Shape := ⟨2, ![4, 8]⟩
abbrev S4x8x1x1 : Shape := ⟨4, ![4, 8, 1, 1]⟩
abbrev S4x8x1 : Shape := ⟨3, ![4, 8, 1]⟩
abbrev S4x8x128x1 : Shape := ⟨4, ![4, 8, 128, 1]⟩
abbrev S4x8x1x128 : Shape := ⟨4, ![4, 8, 1, 128]⟩
abbrev S4x4096x8x1 : Shape := ⟨4, ![4, 4096, 8, 1]⟩
abbrev S4x4096x1024 : Shape := ⟨3, ![4, 4096, 1024]⟩
abbrev S128 : Shape := ⟨1, ![128]⟩
abbrev S1x1x1x128 : Shape := ⟨4, ![1, 1, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x7168, .bf16⟩
  | .hbm, ⟨2, _⟩ => ⟨S4x4096x128, .f32⟩
  | .hbm, ⟨3, _⟩ => ⟨S1x128, .f32⟩
  | .hbm, ⟨4, _⟩ => ⟨S4x4096x3072, .f32⟩
  | .hbm, ⟨5, _⟩ => ⟨S4x4096x3x8x128, .f32⟩
  | .hbm, ⟨6, _⟩ => ⟨S4x4096x8, .f32⟩
  | .hbm, ⟨7, _⟩ => ⟨S4x4096x8, .f32⟩
  | .hbm, ⟨8, _⟩ => ⟨S4x4096x1x8x128, .f32⟩
  | .hbm, ⟨9, _⟩ => ⟨S4x4096x8x128, .f32⟩
  | .hbm, ⟨10, _⟩ => ⟨S4x4096x1x8x128, .f32⟩
  | .hbm, ⟨11, _⟩ => ⟨S4x4096x8x128, .f32⟩
  | .hbm, ⟨12, _⟩ => ⟨S4x4096x1x8x128, .f32⟩
  | .hbm, ⟨13, _⟩ => ⟨S4x4096x8x128, .f32⟩
  | .hbm, ⟨14, _⟩ => ⟨S4096x4x8x128, .f32⟩
  | .hbm, ⟨15, _⟩ => ⟨S4096x4x8x128, .f32⟩
  | .hbm, ⟨16, _⟩ => ⟨S4096x4x8x128, .f32⟩
  | .hbm, ⟨17, _⟩ => ⟨S4096x4x8, .f32⟩
  | .hbm, ⟨18, _⟩ => ⟨S4096x4x8, .f32⟩
  | .hbm, ⟨19, _⟩ => ⟨S_, .f32⟩
  | .hbm, ⟨20, _⟩ => ⟨S4x8x128x128, .f32⟩
  | .hbm, ⟨21, _⟩ => ⟨S_, .f32⟩
  | .hbm, ⟨22, _⟩ => ⟨S4096x4x8x128, .f32⟩
  | .hbm, ⟨23, _⟩ => ⟨S_, .i32⟩
  | .hbm, ⟨24, _⟩ => ⟨S4096x4x8x128, .f32⟩
  | .hbm, ⟨25, _⟩ => ⟨S4096x4x8x128, .f32⟩
  | .hbm, ⟨26, _⟩ => ⟨S4096x4x8x128, .f32⟩
  | .hbm, ⟨27, _⟩ => ⟨S4096x4x8, .f32⟩
  | .hbm, ⟨28, _⟩ => ⟨S4096x4x8, .f32⟩
  | .hbm, ⟨29, _⟩ => ⟨S_, .i32⟩
  | .hbm, ⟨30, _⟩ => ⟨S4x8x128x128, .f32⟩
  | .hbm, ⟨31, _⟩ => ⟨S4096x4x8x128, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x8x128, .f32⟩
  | .hbm, ⟨38, _⟩ => ⟨S4x8x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x4x8x128, .f32⟩
  | .hbm, ⟨43, _⟩ => ⟨S4x8x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x8x128, .f32⟩
  | .hbm, ⟨48, _⟩ => ⟨S4x8x128, .f32⟩
  | .hbm, ⟨49, _⟩ => ⟨S_, .i32⟩
  | .hbm, ⟨50, _⟩ => ⟨S_, .i32⟩
  | .hbm, ⟨51, _⟩ => ⟨S1x4x8, .f32⟩
  | .hbm, ⟨52, _⟩ => ⟨S4x8, .f32⟩
  | .hbm, ⟨53, _⟩ => ⟨S_, .i32⟩
  | .hbm, ⟨54, _⟩ => ⟨S_, .i32⟩
  | .hbm, ⟨55, _⟩ => ⟨S1x4x8, .f32⟩
  | .hbm, ⟨56, _⟩ => ⟨S4x8, .f32⟩
  | .hbm, ⟨57, _⟩ => ⟨S4x8, .f32⟩
  | .hbm, ⟨58, _⟩ => ⟨S4x8x1x1, .f32⟩
  | .hbm, ⟨59, _⟩ => ⟨S4x8x128x128, .f32⟩
  | .hbm, ⟨60, _⟩ => ⟨S4x8x128x128, .f32⟩
  | .hbm, ⟨61, _⟩ => ⟨S4x8x1, .f32⟩
  | .hbm, ⟨62, _⟩ => ⟨S4x8x128, .f32⟩
  | .hbm, ⟨63, _⟩ => ⟨S4x8x128, .f32⟩
  | .hbm, ⟨64, _⟩ => ⟨S4x8x128, .f32⟩
  | .hbm, ⟨65, _⟩ => ⟨S4x8x128, .f32⟩
  | .hbm, ⟨66, _⟩ => ⟨S4x8x128x1, .f32⟩
  | .hbm, ⟨67, _⟩ => ⟨S4x8x1x128, .f32⟩
  | .hbm, ⟨68, _⟩ => ⟨S4x8x128x128, .f32⟩
  | .hbm, ⟨69, _⟩ => ⟨S4x8x128x128, .f32⟩
  | .hbm, ⟨70, _⟩ => ⟨S4x8x128x128, .f32⟩
  | .hbm, ⟨71, _⟩ => ⟨S4x8x128x128, .f32⟩
  | .hbm, ⟨72, _⟩ => ⟨S4x8x128, .f32⟩
  | .hbm, ⟨73, _⟩ => ⟨S1x4x8x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S4096x4x8x128, .f32⟩
  | .hbm, ⟨78, _⟩ => ⟨S_, .i32⟩
  | .hbm, ⟨79, _⟩ => ⟨S_, .i32⟩
  | .hbm, ⟨80, _⟩ => ⟨S4x4096x8x128, .f32⟩
  | .hbm, ⟨81, _⟩ => ⟨S4x4096x8x128, .f32⟩
  | .hbm, ⟨82, _⟩ => ⟨S_, .f32⟩
  | .hbm, ⟨83, _⟩ => ⟨S4x4096x8, .f32⟩
  | .hbm, ⟨84, _⟩ => ⟨S4x4096x8x1, .f32⟩
  | .hbm, ⟨85, _⟩ => ⟨S_, .f32⟩
  | .hbm, ⟨86, _⟩ => ⟨S4x4096x8x1, .f32⟩
  | .hbm, ⟨87, _⟩ => ⟨S4x4096x8x1, .f32⟩
  | .hbm, ⟨88, _⟩ => ⟨S_, .f32⟩
  | .hbm, ⟨89, _⟩ => ⟨S4x4096x8x1, .f32⟩
  | .hbm, ⟨90, _⟩ => ⟨S4x4096x8x1, .f32⟩
  | .hbm, ⟨91, _⟩ => ⟨S4x4096x8x1, .f32⟩
  | .hbm, ⟨92, _⟩ => ⟨S4x4096x8x128, .f32⟩
  | .hbm, ⟨93, _⟩ => ⟨S4x4096x8x128, .f32⟩
  | .hbm, ⟨94, _⟩ => ⟨S4x4096x1024, .bf16⟩
  | .hbm, ⟨95, _⟩ => ⟨S4x4096x1024, .f32⟩
  | .hbm, ⟨96, _⟩ => ⟨S4x4096x8x128, .f32⟩
  | .hbm, ⟨97, _⟩ => ⟨S128, .f32⟩
  | .hbm, ⟨98, _⟩ => ⟨S1x1x1x128, .f32⟩
  | .hbm, ⟨99, _⟩ => ⟨S4x4096x8x128, .f32⟩
  | .hbm, ⟨100, _⟩ => ⟨S4x4096x8x128, .f32⟩
  | .hbm, ⟨101, _⟩ => ⟨S4x4096x8x128, .f32⟩
  | .hbm, ⟨102, _⟩ => ⟨S4x4096x8x128, .f32⟩
  | .hbm, ⟨103, _⟩ => ⟨S_, .f32⟩
  | .hbm, ⟨104, _⟩ => ⟨S4x4096x8x128, .f32⟩
  | .hbm, ⟨105, _⟩ => ⟨S4x4096x8x128, .f32⟩
  | .hbm, ⟨106, _⟩ => ⟨S_, .f32⟩
  | .hbm, ⟨107, _⟩ => ⟨S4x4096x8x128, .f32⟩
  | .hbm, ⟨108, _⟩ => ⟨S4x4096x8x128, .f32⟩
  | .hbm, ⟨109, _⟩ => ⟨S4x4096x8x128, .f32⟩
  | .hbm, ⟨110, _⟩ => ⟨S4x4096x8x128, .f32⟩
  | .hbm, ⟨111, _⟩ => ⟨S4x4096x1024, .f32⟩
  | .hbm, ⟨112, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_c : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev main_v17_6 : Ref sig .tc := ⟨.hbm, 30, rfl⟩
abbrev main_v17_7 : Ref sig .tc := ⟨.hbm, 31, rfl⟩
abbrev main_while0c_c_11 : Ref sig .tc := ⟨.hbm, 32, rfl⟩
abbrev main_while0c_v40 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v40 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v41 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v42 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_v0 : Ref sig .tc := ⟨.hbm, 51, rfl⟩
abbrev main_while0b_v43 : Ref sig .tc := ⟨.hbm, 52, rfl⟩
abbrev main_while0b_call4_c : Ref sig .tc := ⟨.hbm, 53, rfl⟩
abbrev main_while0b_call4_c_0 : Ref sig .tc := ⟨.hbm, 54, rfl⟩
abbrev main_while0b_call4_v0 : Ref sig .tc := ⟨.hbm, 55, rfl⟩
abbrev main_while0b_v44 : Ref sig .tc := ⟨.hbm, 56, rfl⟩
abbrev main_while0b_v45 : Ref sig .tc := ⟨.hbm, 57, rfl⟩
abbrev main_while0b_v46 : Ref sig .tc := ⟨.hbm, 58, rfl⟩
abbrev main_while0b_v47 : Ref sig .tc := ⟨.hbm, 59, rfl⟩
abbrev main_while0b_v48 : Ref sig .tc := ⟨.hbm, 60, rfl⟩
abbrev main_while0b_v49 : Ref sig .tc := ⟨.hbm, 61, rfl⟩
abbrev main_while0b_v50 : Ref sig .tc := ⟨.hbm, 62, rfl⟩
abbrev main_while0b_v51 : Ref sig .tc := ⟨.hbm, 63, rfl⟩
abbrev main_while0b_v52 : Ref sig .tc := ⟨.hbm, 64, rfl⟩
abbrev main_while0b_v53 : Ref sig .tc := ⟨.hbm, 65, rfl⟩
abbrev main_while0b_v54 : Ref sig .tc := ⟨.hbm, 66, rfl⟩
abbrev main_while0b_v55 : Ref sig .tc := ⟨.hbm, 67, rfl⟩
abbrev main_while0b_v56 : Ref sig .tc := ⟨.hbm, 68, rfl⟩
abbrev main_while0b_v57 : Ref sig .tc := ⟨.hbm, 69, rfl⟩
abbrev main_while0b_v58 : Ref sig .tc := ⟨.hbm, 70, rfl⟩
abbrev main_while0b_v59 : Ref sig .tc := ⟨.hbm, 71, rfl⟩
abbrev main_while0b_v60 : Ref sig .tc := ⟨.hbm, 72, rfl⟩
abbrev main_while0b_call5_v0 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_c_1 : Ref sig .tc := ⟨.hbm, 76, rfl⟩
abbrev main_while0b_v61 : Ref sig .tc := ⟨.hbm, 77, rfl⟩
abbrev main_while0b_c_11 : Ref sig .tc := ⟨.hbm, 78, rfl⟩
abbrev main_while0b_v62 : Ref sig .tc := ⟨.hbm, 79, rfl⟩
abbrev main_v18 : Ref sig .tc := ⟨.hbm, 80, rfl⟩
abbrev main_v19 : Ref sig .tc := ⟨.hbm, 81, rfl⟩
abbrev main_cst_1 : Ref sig .tc := ⟨.hbm, 82, rfl⟩
abbrev main_v20 : Ref sig .tc := ⟨.hbm, 83, rfl⟩
abbrev main_v21 : Ref sig .tc := ⟨.hbm, 84, rfl⟩
abbrev main_cst_2 : Ref sig .tc := ⟨.hbm, 85, rfl⟩
abbrev main_v22 : Ref sig .tc := ⟨.hbm, 86, rfl⟩
abbrev main_v23 : Ref sig .tc := ⟨.hbm, 87, rfl⟩
abbrev main_cst_3 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_call6_v0 : Ref sig .tc := ⟨.hbm, 101, rfl⟩
abbrev main_call6_v1 : Ref sig .tc := ⟨.hbm, 102, rfl⟩
abbrev main_call6_cst : Ref sig .tc := ⟨.hbm, 103, rfl⟩
abbrev main_call6_v2 : Ref sig .tc := ⟨.hbm, 104, rfl⟩
abbrev main_call6_v3 : Ref sig .tc := ⟨.hbm, 105, rfl⟩
abbrev main_call6_cst_0 : Ref sig .tc := ⟨.hbm, 106, rfl⟩
abbrev main_call6_v4 : Ref sig .tc := ⟨.hbm, 107, rfl⟩
abbrev main_call6_v5 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1024x512 : Shape := ⟨2, ![1024, 512]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S4x4096x5632 : Shape := ⟨3, ![4, 4096, 5632]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel3.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1024x512 : Shape := ⟨2, ![1024, 512]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S4x4096x5632 : Shape := ⟨3, ![4, 4096, 5632]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel4.lean ====
abbrev S4x4096x2048 : Shape := ⟨3, ![4, 4096, 2048]⟩
abbrev S1x2048 : Shape := ⟨2, ![1, 2048]⟩
abbrev S1x2048x11280 : Shape := ⟨3, ![1, 2048, 11280]⟩
abbrev S2048x11280 : Shape := ⟨2, ![2048, 11280]⟩
abbrev S16384x2048 : Shape := ⟨2, ![16384, 2048]⟩
abbrev S2048 : Shape := ⟨1, ![2048]⟩
abbrev S2048x4096 : Shape := ⟨2, ![2048, 4096]⟩
abbrev S16384x4096 : Shape := ⟨2, ![16384, 4096]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11280, .f32⟩
  | .hbm, ⟨3, _⟩ => ⟨S2048x11280, .f32⟩
  | .hbm, ⟨4, _⟩ => ⟨S2048x11280, .bf16⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x4096, .bf16⟩
  | .hbm, ⟨9, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x4096x2048 : Shape := ⟨3, ![4, 4096, 2048]⟩
abbrev S1x2048 : Shape := ⟨2, ![1, 2048]⟩
abbrev S1x2048x11280 : Shape := ⟨3, ![1, 2048, 11280]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11280 : Shape := ⟨2, ![2048, 11280]⟩
abbrev S4x4096x11280 : Shape := ⟨3, ![4, 4096, 11280]⟩
abbrev S4x4096x4096 : Shape := ⟨3, ![4, 4096, 4096]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11280, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x11280, .f32⟩
  | .hbm, ⟨21, _⟩ => ⟨S4x4096x11280, .f32⟩
  | .hbm, ⟨22, _⟩ => ⟨S4x4096x4096, .f32⟩
  | .hbm, ⟨23, _⟩ => ⟨S16384x4096, .f32⟩
  | .hbm, ⟨24, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x2048 : Shape := ⟨2, ![1, 2048]⟩
abbrev S1x2048x11280 : Shape := ⟨3, ![1, 2048, 11280]⟩
abbrev S2048x11280 : Shape := ⟨2, ![2048, 11280]⟩
abbrev S2048x16 : Shape := ⟨2, ![2048, 16]⟩
abbrev S_ : Shape := ⟨0, ![]⟩
abbrev S2048x128 : Shape := ⟨2, ![2048, 128]⟩
abbrev S1x7168 : Shape := ⟨2, ![1, 7168]⟩
abbrev S1 : Shape := ⟨1, ![1]⟩
abbrev S1x1024 : Shape := ⟨2, ![1, 1024]⟩
abbrev S16384x2048 : Shape := ⟨2, ![16384, 2048]⟩
abbrev S2048 : Shape := ⟨1, ![2048]⟩
abbrev S16384x7168 : Shape := ⟨2, ![16384, 7168]⟩
abbrev S16384x128 : Shape := ⟨2, ![16384, 128]⟩
abbrev S1024x2048 : Shape := ⟨2, ![1024, 2048]⟩
abbrev S2048x1792 : Shape := ⟨2, ![2048, 1792]⟩
abbrev S1x1792 : Shape := ⟨2, ![1, 1792]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩

abbrev nBuf : Space → Nat
  | .hbm => 22
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11280, .f32⟩
  | .hbm, ⟨3, _⟩ => ⟨S2048x11280, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S_, .f32⟩
  | .hbm, ⟨10, _⟩ => ⟨S1x7168, .f32⟩
  | .hbm, ⟨11, _⟩ => ⟨S_, .i32⟩
  | .hbm, ⟨12, _⟩ => ⟨S1, .i32⟩
  | .hbm, ⟨13, _⟩ => ⟨S_, .f32⟩
  | .hbm, ⟨14, _⟩ => ⟨S1x1024, .f32⟩
  | .hbm, ⟨15, _⟩ => ⟨S1x7168, .f32⟩
  | .hbm, ⟨16, _⟩ => ⟨S2048x11280, .bf16⟩
  | .hbm, ⟨17, _⟩ => ⟨S16384x2048, .f32⟩
  | .hbm, ⟨18, _⟩ => ⟨S2048, .f32⟩
  | .hbm, ⟨19, _⟩ => ⟨S1x2048, .f32⟩
  | .hbm, ⟨20, _⟩ => ⟨S16384x7168, .bf16⟩
  | .hbm, ⟨21, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1x1792, .f32⟩
  | .local _ .vmem, ⟨6, _⟩ => ⟨S1x1792, .f32⟩
  | .local _ .vmem, ⟨7, _⟩ => ⟨S2048x128, .bf16⟩
  | .local _ .vmem, ⟨8, _⟩ => ⟨S1024x1792, .bf16⟩
  | .local _ .vmem, ⟨9, _⟩ => ⟨S1024x1792, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4x4096x2048 : Shape := ⟨3, ![4, 4096, 2048]⟩
abbrev S1x2048 : Shape := ⟨2, ![1, 2048]⟩
abbrev S1x2048x11280 : Shape := ⟨3, ![1, 2048, 11280]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11280 : Shape := ⟨2, ![2048, 11280]⟩
abbrev S4x4096x11280 : Shape := ⟨3, ![4, 4096, 11280]⟩
abbrev S4x4096x1024 : Shape := ⟨3, ![4, 4096, 1024]⟩
abbrev S4x4096x6144 : Shape := ⟨3, ![4, 4096, 6144]⟩
abbrev S4x4096x7168 : Shape := ⟨3, ![4, 4096, 7168]⟩
abbrev S4x4096x16 : Shape := ⟨3, ![4, 4096, 16]⟩
abbrev S4x4096x112 : Shape := ⟨3, ![4, 4096, 112]⟩
abbrev S4x4096x128 : Shape := ⟨3, ![4, 4096, 128]⟩
abbrev S16384x7168 : Shape := ⟨2, ![16384, 7168]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11280, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x11280, .f32⟩
  | .hbm, ⟨21, _⟩ => ⟨S4x4096x11280, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S4x4096x6144, .f32⟩
  | .hbm, ⟨27, _⟩ => ⟨S4x4096x7168, .f32⟩
  | .hbm, ⟨28, _⟩ => ⟨S4x4096x16, .f32⟩
  | .hbm, ⟨29, _⟩ => ⟨S_, .f32⟩
  | .hbm, ⟨30, _⟩ => ⟨S4x4096x112, .f32⟩
  | .hbm, ⟨31, _⟩ => ⟨S4x4096x128, .f32⟩
  | .hbm, ⟨32, _⟩ => ⟨S16384x7168, .f32⟩
  | .hbm, ⟨33, _⟩ => ⟨S16384x7168, .bf16⟩
  | .hbm, ⟨34, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel6.lean ====
abbrev S4x4096x2048 : Shape := ⟨3, ![4, 4096, 2048]⟩
abbrev S4x4096x1024 : Shape := ⟨3, ![4, 4096, 1024]⟩
abbrev S4x4096x4096 : Shape := ⟨3, ![4, 4096, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S4x256x1024 : Shape := ⟨3, ![4, 256, 1024]⟩
abbrev S1x512x2048 : Shape := ⟨3, ![1, 512, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩

abbrev nBuf : Space → Nat
  | .hbm => 24
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S4x4096x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x512, .f32⟩
  | .hbm, ⟨9, _⟩ => ⟨S4x256x1024, .bf16⟩
  | .hbm, ⟨10, _⟩ => ⟨S1x512x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S2048, .f32⟩
  | .hbm, ⟨18, _⟩ => ⟨S1x2048, .f32⟩
  | .hbm, ⟨19, _⟩ => ⟨S2048x512, .f32⟩
  | .hbm, ⟨20, _⟩ => ⟨S2048x512, .bf16⟩
  | .hbm, ⟨21, _⟩ => ⟨S512x2048, .f32⟩
  | .hbm, ⟨22, _⟩ => ⟨S512x2048, .bf16⟩
  | .hbm, ⟨23, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x512, .bf16⟩
  | .local _ .vmem, ⟨15, _⟩ => ⟨S1x256x1024, .bf16⟩
  | .local _ .vmem, ⟨16, _⟩ => ⟨S1x256x1024, .bf16⟩
  | .local _ .vmem, ⟨17, _⟩ => ⟨S512x2048, .bf16⟩
  | .local _ .vmem, ⟨18, _⟩ => ⟨S1x512x2048, .f32⟩
  | .local _ .vmem, ⟨19, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S4x4096x2048 : Shape := ⟨3, ![4, 4096, 2048]⟩
abbrev S4x4096x1024 : Shape := ⟨3, ![4, 4096, 1024]⟩
abbrev S4x4096x4096 : Shape := ⟨3, ![4, 4096, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S4x256x1024 : Shape := ⟨3, ![4, 256, 1024]⟩
abbrev S1x512x2048 : Shape := ⟨3, ![1, 512, 2048]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S2048x512 : Shape := ⟨2, ![2048, 512]⟩
abbrev S4x4096x512 : Shape := ⟨3, ![4, 4096, 512]⟩
abbrev S4x4096x4x128 : Shape := ⟨4, ![4, 4096, 4, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S512x2048 : Shape := ⟨2, ![512, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S4x4096x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x512, .f32⟩
  | .hbm, ⟨9, _⟩ => ⟨S4x256x1024, .bf16⟩
  | .hbm, ⟨10, _⟩ => ⟨S1x512x2048, .f32⟩
  | .hbm, ⟨11, _⟩ => ⟨S4x4096x1024, .f32⟩
  | .hbm, ⟨12, _⟩ => ⟨S1024x2048, .f32⟩
  | .hbm, ⟨13, _⟩ => ⟨S4x4096x2048, .f32⟩
  | .hbm, ⟨14, _⟩ => ⟨S4x4096x1024, .f32⟩
  | .hbm, ⟨15, _⟩ => ⟨S1024x2048, .f32⟩
  | .hbm, ⟨16, _⟩ => ⟨S4x4096x2048, .f32⟩
  | .hbm, ⟨17, _⟩ => ⟨S4x4096x4096, .f32⟩
  | .hbm, ⟨18, _⟩ => ⟨S4x4096x2048, .f32⟩
  | .hbm, ⟨19, _⟩ => ⟨S4x4096x4096, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S2048x2048, .f32⟩
  | .hbm, ⟨41, _⟩ => ⟨S4x4096x2048, .f32⟩
  | .hbm, ⟨42, _⟩ => ⟨S4x4096x2048, .f32⟩
  | .hbm, ⟨43, _⟩ => ⟨S2048, .f32⟩
  | .hbm, ⟨44, _⟩ => ⟨S4x4096x2048, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S1x1x2048, .f32⟩
  | .hbm, ⟨58, _⟩ => ⟨S4x4096x2048, .f32⟩
  | .hbm, ⟨59, _⟩ => ⟨S4x4096x2048, .f32⟩
  | .hbm, ⟨60, _⟩ => ⟨S2048x512, .f32⟩
  | .hbm, ⟨61, _⟩ => ⟨S4x4096x512, .f32⟩
  | .hbm, ⟨62, _⟩ => ⟨S4x4096x4x128, .f32⟩
  | .hbm, ⟨63, _⟩ => ⟨S4x256x1024, .f32⟩
  | .hbm, ⟨64, _⟩ => ⟨S4x256x2x4x128, .f32⟩
  | .hbm, ⟨65, _⟩ => ⟨S4x256x1x4x128, .f32⟩
  | .hbm, ⟨66, _⟩ => ⟨S4x256x4x128, .f32⟩
  | .hbm, ⟨67, _⟩ => ⟨S4x4x4096x256, .f32⟩
  | .hbm, ⟨68, _⟩ => ⟨S_, .f32⟩
  | .hbm, ⟨69, _⟩ => ⟨S4x4x4096x256, .f32⟩
  | .hbm, ⟨70, _⟩ => ⟨S4x4x4096x256, .f32⟩
  | .hbm, ⟨71, _⟩ => ⟨S_, .f32⟩
  | .hbm, ⟨72, _⟩ => ⟨S4x4x4096, .f32⟩
  | .hbm, ⟨73, _⟩ => ⟨S_, .f32⟩
  | .hbm, ⟨74, _⟩ => ⟨S4x4x4096, .f32⟩
  | .hbm, ⟨75, _⟩ => ⟨S4x4x4096, .f32⟩
  | .hbm, ⟨76, _⟩ => ⟨S4x4x4096x1, .f32⟩
  | .hbm, ⟨77, _⟩ => ⟨S4x4x4096x256, .f32⟩
  | .hbm, ⟨78, _⟩ => ⟨S4x4x4096x256, .f32⟩
  | .hbm, ⟨79, _⟩ => ⟨S4x4x4096x256, .f32⟩
  | .hbm, ⟨80, _⟩ => ⟨S_, .f32⟩
  | .hbm, ⟨81, _⟩ => ⟨S4x4x4096, .f32⟩
  | .hbm, ⟨82, _⟩ => ⟨S4x4x4096x1, .f32⟩
  | .hbm, ⟨83, _⟩ => ⟨S4x4x4096x256, .f32⟩
  | .hbm, ⟨84, _⟩ => ⟨S4x4x4096x256, .f32⟩
  | .hbm, ⟨85, _⟩ => ⟨S4x256x1x4x128, .f32⟩
  | .hbm, ⟨86, _⟩ => ⟨S4x256x4x128, .f32⟩
  | .hbm, ⟨87, _⟩ => ⟨S4x4x128x4096, .f32⟩
  | .hbm, ⟨88, _⟩ => ⟨S4x4096x4x128, .f32⟩
  | .hbm, ⟨89, _⟩ => ⟨S4x4096x512, .f32⟩
  | .hbm, ⟨90, _⟩ => ⟨S512x2048, .f32⟩
  | .hbm, ⟨91, _⟩ => ⟨S4x4096x2048, .f32⟩
  | .hbm, ⟨92, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel7.lean ====
abbrev S4x256x2048 : Shape := ⟨3, ![4, 256, 2048]⟩
abbrev S1x2048 : Shape := ⟨2, ![1, 2048]⟩
abbrev S1x2048x1024 : Shape := ⟨3, ![1, 2048, 1024]⟩
abbrev S1024x2048 : Shape := ⟨2, ![1024, 2048]⟩
abbrev S2048 : Shape := ⟨1, ![2048]⟩
abbrev S2048x1024 : Shape := ⟨2, ![2048, 1024]⟩
abbrev S1024x1024 : Shape := ⟨2, ![1024, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S1024x2048, .f32⟩
  | .hbm, ⟨4, _⟩ => ⟨S2048, .f32⟩
  | .hbm, ⟨5, _⟩ => ⟨S1x2048, .f32⟩
  | .hbm, ⟨6, _⟩ => ⟨S2048x1024, .f32⟩
  | .hbm, ⟨7, _⟩ => ⟨S2048x1024, .bf16⟩
  | .hbm, ⟨8, _⟩ => ⟨S1024x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x256x2048 : Shape := ⟨3, ![4, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x1024, .f32⟩
  | .hbm, ⟨21, _⟩ => ⟨S4x256x1024, .f32⟩
  | .hbm, ⟨22, _⟩ => ⟨S1024x1024, .f32⟩
  | .hbm, ⟨23, _⟩ => ⟨S1024x1024, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S4x4096x7168 : Shape := ⟨3, ![4, 4096, 7168]⟩
abbrev S4x4096x128 : Shape := ⟨3, ![4, 4096, 128]⟩
abbrev S1x4x3072 : Shape := ⟨3, ![1, 4, 3072]⟩
abbrev S1x8 : Shape := ⟨2, ![1, 8]⟩
abbrev S_ : Shape := ⟨0, ![]⟩
abbrev S2x128 : Shape := ⟨2, ![2, 128]⟩
abbrev S8 : Shape := ⟨1, ![8]⟩
abbrev S1 : Shape := ⟨1, ![1]⟩
abbrev S2 : Shape := ⟨1, ![2]⟩
abbrev S4x3072 : Shape := ⟨2, ![4, 3072]⟩
abbrev S4x4096x3072 : Shape := ⟨3, ![4, 4096, 3072]⟩
abbrev S1x256x3072 : Shape := ⟨3, ![1, 256, 3072]⟩
abbrev S1x8x3072 : Shape := ⟨3, ![1, 8, 3072]⟩
abbrev S1x256x128 : Shape := ⟨3, ![1, 256, 128]⟩
abbrev S256x3072 : Shape := ⟨2, ![256, 3072]⟩
abbrev S8x3072 : Shape := ⟨2, ![8, 3072]⟩
abbrev S256x256 : Shape := ⟨2, ![256, 256]⟩
abbrev S1x3072 : Shape := ⟨2, ![1, 3072]⟩
abbrev S248x3072 : Shape := ⟨2, ![248, 3072]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩
abbrev S1x128 : Shape := ⟨2, ![1, 128]⟩

abbrev nBuf : Space → Nat
  | .hbm => 24
  | .vmem => 12
  | .smem => 0
  | _ => 0

abbrev bufTy : (tb : Table) → Fin (tcTables nBuf tb) → BufTy
  | .hbm, ⟨0, _⟩ => ⟨S4x4096x7168, .bf16⟩
  | .hbm, ⟨1, _⟩ => ⟨S4x4096x128, .f32⟩
  | .hbm, ⟨2, _⟩ => ⟨S1x4x3072, .f32⟩
  | .hbm, ⟨3, _⟩ => ⟨S1x8, .f32⟩
  | .hbm, ⟨4, _⟩ => ⟨S1x8, .f32⟩
  | .hbm, ⟨5, _⟩ => ⟨S_, .f32⟩
  | .hbm, ⟨6, _⟩ => ⟨S2x128, .f32⟩
  | .hbm, ⟨7, _⟩ => ⟨S8, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S2x128, .f32⟩
  | .hbm, ⟨14, _⟩ => ⟨S8, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128, .f32⟩
  | .hbm, ⟨21, _⟩ => ⟨S4x3072, .f32⟩
  | .hbm, ⟨22, _⟩ => ⟨S4x4096x3072, .bf16⟩
  | .hbm, ⟨23, _⟩ => ⟨S4x4096x128, .f32⟩
  | .local _ .vmem, ⟨0, _⟩ => ⟨S1x256x3072, .bf16⟩
  | .local _ .vmem, ⟨1, _⟩ => ⟨S1x256x3072, .bf16⟩
  | .local _ .vmem, ⟨2, _⟩ => ⟨S1x8x3072, .bf16⟩
  | .local _ .vmem, ⟨3, _⟩ => ⟨S1x8x3072, .bf16⟩
  | .local _ .vmem, ⟨4, _⟩ => ⟨S1x256x128, .f32⟩
  | .local _ .vmem, ⟨5, _⟩ => ⟨S1x256x128, .f32⟩
  | .local _ .vmem, ⟨6, _⟩ => ⟨S4x3072, .f32⟩
  | .local _ .vmem, ⟨7, _⟩ => ⟨S2x128, .f32⟩
  | .local _ .vmem, ⟨8, _⟩ => ⟨S1x256x3072, .bf16⟩
  | .local _ .vmem, ⟨9, _⟩ => ⟨S1x256x3072, .bf16⟩
  | .local _ .vmem, ⟨10, _⟩ => ⟨S1x256x128, .f32⟩
  | .local _ .vmem, ⟨11, _⟩ => ⟨S1x256x128, .f32⟩
  | _, _ => ⟨S4x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S4x4096x7168 : Shape := ⟨3, ![4, 4096, 7168]⟩
abbrev S4x4096x128 : Shape := ⟨3, ![4, 4096, 128]⟩
abbrev S1x4x3072 : Shape := ⟨3, ![1, 4, 3072]⟩
abbrev S1x8 : Shape := ⟨2, ![1, 8]⟩
abbrev S4x4096x3072 : Shape := ⟨3, ![4, 4096, 3072]⟩
abbrev S_ : Shape := ⟨0, ![]⟩
abbrev S4x4099x3072 : Shape := ⟨3, ![4, 4099, 3072]⟩
abbrev S1x1x3072 : Shape := ⟨3, ![1, 1, 3072]⟩
abbrev S3072 : Shape := ⟨1, ![3072]⟩
abbrev S4x4096x3x8x128 : Shape := ⟨5, ![4, 4096, 3, 8, 128]⟩
abbrev S4x4096x1x8x128 : Shape := ⟨5, ![4, 4096, 1, 8, 128]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S8 : Shape := ⟨1, ![8]⟩
abbrev S1x1x8 : Shape := ⟨3, ![1, 1, 8]⟩
abbrev S4x4096x112 : Shape := ⟨3, ![4, 4096, 112]⟩

abbrev nBuf : Space → Nat
  | .hbm => 122
  | .vmem => 0
  | .smem => 0
  | _ => 0

abbrev bufTy : (tb : Table) → Fin (tcTables nBuf tb) → BufTy
  | .hbm, ⟨0, _⟩ => ⟨S4x4096x7168, .bf16⟩
  | .hbm, ⟨1, _⟩ => ⟨S4x4096x128, .f32⟩
  | .hbm, ⟨2, _⟩ => ⟨S1x4x3072, .f32⟩
  | .hbm, ⟨3, _⟩ => ⟨S1x8, .f32⟩
  | .hbm, ⟨4, _⟩ => ⟨S1x8, .f32⟩
  | .hbm, ⟨5, _⟩ => ⟨S4x4096x3072, .bf16⟩
  | .hbm, ⟨6, _⟩ => ⟨S4x4096x3072, .f32⟩
  | .hbm, ⟨7, _⟩ => ⟨S_, .i32⟩
  | .hbm, ⟨8, _⟩ => ⟨S_, .f32⟩
  | .hbm, ⟨9, _⟩ => ⟨S4x4099x3072, .f32⟩
  | .hbm, ⟨10, _⟩ => ⟨S4x4096x3072, .f32⟩
  | .hbm, ⟨11, _⟩ => ⟨S1x1x3072, .f32⟩
  | .hbm, ⟨12, _⟩ => ⟨S3072, .f32⟩
  | .hbm, ⟨13, _⟩ => ⟨S1x1x3072, .f32⟩
  | .hbm, ⟨14, _⟩ => ⟨S4x4096x3072, .f32⟩
  | .hbm, ⟨15, _⟩ => ⟨S4x4096x3072, .f32⟩
  | .hbm, ⟨16, _⟩ => ⟨S_, .f32⟩
  | .hbm, ⟨17, _⟩ => ⟨S4x4096x3072, .f32⟩
  | .hbm, ⟨18, _⟩ => ⟨S4x4096x3072, .f32⟩
  | .hbm, ⟨19, _⟩ => ⟨S4x4096x3072, .f32⟩
  | .hbm, ⟨20, _⟩ => ⟨S1x1x3072, .f32⟩
  | .hbm, ⟨21, _⟩ => ⟨S3072, .f32⟩
  | .hbm, ⟨22, _⟩ => ⟨S1x1x3072, .f32⟩
  | .hbm, ⟨23, _⟩ => ⟨S4x4096x3072, .f32⟩
  | .hbm, ⟨24, _⟩ => ⟨S4x4096x3072, .f32⟩
  | .hbm, ⟨25, _⟩ => ⟨S4x4096x3072, .f32⟩
  | .hbm, ⟨26, _⟩ => ⟨S4x4096x3072, .f32⟩
  | .hbm, ⟨27, _⟩ => ⟨S1x1x3072, .f32⟩
  | .hbm, ⟨28, _⟩ => ⟨S3072, .f32⟩
  | .hbm, ⟨29, _⟩ => ⟨S1x1x3072, .f32⟩
  | .hbm, ⟨30, _⟩ => ⟨S4x4096x3072, .f32⟩
  | .hbm, ⟨31, _⟩ => ⟨S4x4096x3072, .f32⟩
  | .hbm, ⟨32, _⟩ => ⟨S4x4096x3072, .f32⟩
  | .hbm, ⟨33, _⟩ => ⟨S4x4096x3072, .f32⟩
  | .hbm, ⟨34, _⟩ => ⟨S1x1x3072, .f32⟩
  | .hbm, ⟨35, _⟩ => ⟨S3072, .f32⟩
  | .hbm, ⟨36, _⟩ => ⟨S1x1x3072, .f32⟩
  | .hbm, ⟨37, _⟩ => ⟨S4x4096x3072, .f32⟩
  | .hbm, ⟨38, _⟩ => ⟨S4x4096x3072, .f32⟩
  | .hbm, ⟨39, _⟩ => ⟨S4x4096x3072, .f32⟩
  | .hbm, ⟨40, _⟩ => ⟨S4x4096x3072, .f32⟩
  | .hbm, ⟨41, _⟩ => ⟨S4x4096x3072, .f32⟩
  | .hbm, ⟨42, _⟩ => ⟨S_, .f32⟩
  | .hbm, ⟨43, _⟩ => ⟨S4x4096x3072, .f32⟩
  | .hbm, ⟨44, _⟩ => ⟨S4x4096x3072, .f32⟩
  | .hbm, ⟨45, _⟩ => ⟨S_, .f32⟩
  | .hbm, ⟨46, _⟩ => ⟨S4x4096x3072, .f32⟩
  | .hbm, ⟨47, _⟩ => ⟨S4x4096x3072, .f32⟩
  | .hbm, ⟨48, _⟩ => ⟨S4x4096x3072, .f32⟩
  | .hbm, ⟨49, _⟩ => ⟨S4x4096x3x8x128, .f32⟩
  | .hbm, ⟨50, _⟩ => ⟨S4x4096x1x8x128, .f32⟩
  | .hbm, ⟨51, _⟩ => ⟨S4x4096x8x128, .f32⟩
  | .hbm, ⟨52, _⟩ => ⟨S4x4096x8x128, .f32⟩
  | .hbm, ⟨53, _⟩ => ⟨S_, .f32⟩
  | .hbm, ⟨54, _⟩ => ⟨S4x4096x8, .f32⟩
  | .hbm, ⟨55, _⟩ => ⟨S4x4096x8x1, .f32⟩
  | .hbm, ⟨56, _⟩ => ⟨S_, .f32⟩
  | .hbm, ⟨57, _⟩ => ⟨S4x4096x8x1, .f32⟩
  | .hbm, ⟨58, _⟩ => ⟨S4x4096x8x1, .f32⟩
  | .hbm, ⟨59, _⟩ => ⟨S4x4096x8x1, .f32⟩
  | .hbm, ⟨60, _⟩ => ⟨S4x4096x8x128, .f32⟩
  | .hbm, ⟨61, _⟩ => ⟨S4x4096x8x128, .f32⟩
  | .hbm, ⟨62, _⟩ => ⟨S_, .f32⟩
  | .hbm, ⟨63, _⟩ => ⟨S4x4096x8x128, .f32⟩
  | .hbm, ⟨64, _⟩ => ⟨S4x4096x8x128, .f32⟩
  | .hbm, ⟨65, _⟩ => ⟨S4x4096x1x8x128, .f32⟩
  | .hbm, ⟨66, _⟩ => ⟨S4x4096x8x128, .f32⟩
  | .hbm, ⟨67, _⟩ => ⟨S4x4096x8x128, .f32⟩
  | .hbm, ⟨68, _⟩ => ⟨S_, .f32⟩
  | .hbm, ⟨69, _⟩ => ⟨S4x4096x8, .f32⟩
  | .hbm, ⟨70, _⟩ => ⟨S4x4096x8x1, .f32⟩
  | .hbm, ⟨71, _⟩ => ⟨S_, .f32⟩
  | .hbm, ⟨72, _⟩ => ⟨S4x4096x8x1, .f32⟩
  | .hbm, ⟨73, _⟩ => ⟨S4x4096x8x1, .f32⟩
  | .hbm, ⟨74, _⟩ => ⟨S4x4096x8x1, .f32⟩
  | .hbm, ⟨75, _⟩ => ⟨S4x4096x8x128, .f32⟩
  | .hbm, ⟨76, _⟩ => ⟨S4x4096x8x128, .f32⟩
  | .hbm, ⟨77, _⟩ => ⟨S4x4096x1x8x128, .f32⟩
  | .hbm, ⟨78, _⟩ => ⟨S4x4096x8x128, .f32⟩
  | .hbm, ⟨79, _⟩ => ⟨S4x4096x8, .f32⟩
  | .hbm, ⟨80, _⟩ => ⟨S4x4096x8, .f32⟩
  | .hbm, ⟨81, _⟩ => ⟨S4x4096x8, .f32⟩
  | .hbm, ⟨82, _⟩ => ⟨S_, .f32⟩
  | .hbm, ⟨83, _⟩ => ⟨S4x4096x8, .f32⟩
  | .hbm, ⟨84, _⟩ => ⟨S4x4096x8, .f32⟩
  | .hbm, ⟨85, _⟩ => ⟨S_, .f32⟩
  | .hbm, ⟨86, _⟩ => ⟨S4x4096x8, .f32⟩
  | .hbm, ⟨87, _⟩ => ⟨S4x4096x8, .f32⟩
  | .hbm, ⟨88, _⟩ => ⟨S8, .f32⟩
  | .hbm, ⟨89, _⟩ => ⟨S8, .f32⟩
  | .hbm, ⟨90, _⟩ => ⟨S8, .f32⟩
  | .hbm, ⟨91, _⟩ => ⟨S4x4096x8, .f32⟩
  | .hbm, ⟨92, _⟩ => ⟨S8, .f32⟩
  | .hbm, ⟨93, _⟩ => ⟨S1x1x8, .f32⟩
  | .hbm, ⟨94, _⟩ => ⟨S4x4096x8, .f32⟩
  | .hbm, ⟨95, _⟩ => ⟨S4x4096x8, .f32⟩
  | .hbm, ⟨96, _⟩ => ⟨S_, .f32⟩
  | .hbm, ⟨97, _⟩ => ⟨S4x4096x8, .f32⟩
  | .hbm, ⟨98, _⟩ => ⟨S4x4096x8, .f32⟩
  | .hbm, ⟨99, _⟩ => ⟨S4x4096x8, .f32⟩
  | .hbm, ⟨100, _⟩ => ⟨S4x4096x8, .f32⟩
  | .hbm, ⟨101, _⟩ => ⟨S4x4096x8, .i1⟩
  | .hbm, ⟨102, _⟩ => ⟨S4x4096x8, .f32⟩
  | .hbm, ⟨103, _⟩ => ⟨S4x4096x8, .f32⟩
  | .hbm, ⟨104, _⟩ => ⟨S4x4096x8, .f32⟩
  | .hbm, ⟨105, _⟩ => ⟨S4x4096x8, .f32⟩
  | .hbm, ⟨106, _⟩ => ⟨S4x4096x8, .f32⟩
  | .hbm, ⟨107, _⟩ => ⟨S4x4096x8, .f32⟩
  | .hbm, ⟨108, _⟩ => ⟨S4x4096x8, .f32⟩
  | .hbm, ⟨109, _⟩ => ⟨S4x4096x8, .f32⟩
  | .hbm, ⟨110, _⟩ => ⟨S1x1x8, .f32⟩
  | .hbm, ⟨111, _⟩ => ⟨S4x4096x8, .f32⟩
  | .hbm, ⟨112, _⟩ => ⟨S4x4096x8, .f32⟩
  | .hbm, ⟨113, _⟩ => ⟨S_, .f32⟩
  | .hbm, ⟨114, _⟩ => ⟨S4x4096x112, .f32⟩
  | .hbm, ⟨115, _⟩ => ⟨S4x4096x128, .f32⟩
  | .hbm, ⟨116, _⟩ => ⟨S4x4096x1x8x128, .f32⟩
  | .hbm, ⟨117, _⟩ => ⟨S4x4096x1x8x128, .f32⟩
  | .hbm, ⟨118, _⟩ => ⟨S4x4096x1x8x128, .f32⟩
  | .hbm, ⟨119, _⟩ => ⟨S4x4096x3x8x128, .f32⟩
  | .hbm, ⟨120, _⟩ => ⟨S4x4096x3072, .f32⟩
  | .hbm, ⟨121, _⟩ => ⟨S4x4096x3072, .bf16⟩
  | _, _ => ⟨S4x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_7 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Proof.RefRun.lean ====
/- The reference's run stated over one trip of its token loop. At a valuation that HOLDS a state (the carried buffers, the stacked
   inputs the loop reads, the trip's number) every value of one trip is the one `Cert.ReferenceIdeal.Step` names, one lemma each; so
   one trip keeps holding with `step` applied, what precedes the loop holds `init`, and the run's result is a function of the
   4096th state. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v17_6) = s.main_v17_6
  f_7 : V0 (Proc.devRef .tc main_v17_7) = s.main_v17_7
  f_0 : V0 (Proc.devRef .tc main_v17_0) = s.main_v17_0
  f_1 : V0 (Proc.devRef .tc main_v17_1) = s.main_v17_1
  f_2 : V0 (Proc.devRef .tc main_v17_2) = s.main_v17_2
  f_3 : V0 (Proc.devRef .tc main_v17_3) = s.main_v17_3
  f_4 : V0 (Proc.devRef .tc main_v17_4) = s.main_v17_4
  n_5 : V0 (Proc.devRef .tc main_v17_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x8x128 (V0 (Proc.devRef .tc main_v17_0)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_5]
  try rfl
set_option maxRecDepth 8192 in
theorem al_4 (h : Holds V0 s j) : (shapeCast S4x8x128 (Host.dynamicSlice S1x4x8x128 (V0 (Proc.devRef .tc main_v17_0)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128 : (Proc.devRef .tc main_while0b_v40 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x8x128 (V0 (Proc.devRef .tc main_v17_1)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_5]
  try rfl
set_option maxRecDepth 8192 in
theorem al_9 (h : Holds V0 s j) : (res_main_while0b_v41 V0 : (Proc.devRef .tc main_while0b_v41 : DevRef τ sig).ty.Contents (Elt F)) = Cert.ReferenceIdeal.Step.b9 j s := by
  unfold res_main_while0b_v41 Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_5]
  try rfl
set_option maxRecDepth 8192 in
theorem al_14 (h : Holds V0 s j) : (shapeCast S4x8x128 (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128 : (Proc.devRef .tc main_while0b_v42 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x8 (V0 (Proc.devRef .tc main_v17_3)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8 : (Proc.devRef .tc main_while0b_call3_v0 : DevRef τ sig).ty.Contents (Elt F)) = Cert.ReferenceIdeal.Step.b17 j s := by
  unfold Cert.ReferenceIdeal.Step.b17
  rw [← al_15 h, ← al_16 h, h.f_3, h.n_5]
  try rfl
set_option maxRecDepth 8192 in
theorem al_18 (h : Holds V0 s j) : (shapeCast S4x8 (Host.dynamicSlice S1x4x8 (V0 (Proc.devRef .tc main_v17_3)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8 : (Proc.devRef .tc main_while0b_v43 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call4_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8 : (Proc.devRef .tc main_while0b_call4_v0 : DevRef τ sig).ty.Contents (Elt F)) = Cert.ReferenceIdeal.Step.b21 j s := by
  unfold Cert.ReferenceIdeal.Step.b21
  rw [← al_19 h, ← al_20 h, h.f_4, h.n_5]
  try rfl
set_option maxRecDepth 8192 in
theorem al_22 (h : Holds V0 s j) : (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8 : (Proc.devRef .tc main_while0b_v44 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (Host.exp (shapeCast S4x8 (Host.dynamicSlice S1x4x8 (V0 (Proc.devRef .tc main_v17_3)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8) : (Proc.devRef .tc main_while0b_v45 : DevRef τ sig).ty.Contents (Elt F)) = Cert.ReferenceIdeal.Step.b23 j s := by
  unfold Cert.ReferenceIdeal.Step.b23
  rw [← al_18 h]
  try rfl
set_option maxRecDepth 8192 in
theorem al_24 (h : Holds V0 s j) : (broadcastInDim S4x8x1x1 ![0, 1] bcast_S4x8_S4x8x1x1_0_1 (Host.exp (shapeCast S4x8 (Host.dynamicSlice S1x4x8 (V0 (Proc.devRef .tc main_v17_3)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8)) : (Proc.devRef .tc main_while0b_v46 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S4x8x128x128 ![0, 1, 2, 3] bcast_S4x8x1x1_S4x8x128x128_0_1_2_3 (broadcastInDim S4x8x1x1 ![0, 1] bcast_S4x8_S4x8x1x1_0_1 (Host.exp (shapeCast S4x8 (Host.dynamicSlice S1x4x8 (V0 (Proc.devRef .tc main_v17_3)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8))) : (Proc.devRef .tc main_while0b_v47 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v48 V0 : (Proc.devRef .tc main_while0b_v48 : DevRef τ sig).ty.Contents (Elt F)) = Cert.ReferenceIdeal.Step.b26 j s := by
  unfold res_main_while0b_v48 Cert.ReferenceIdeal.Step.b26
  rw [← al_25 h, h.f_6]
  try rfl
set_option maxRecDepth 8192 in
theorem al_27 (h : Holds V0 s j) : (broadcastInDim S4x8x1 ![0, 1] bcast_S4x8_S4x8x1_0_1 (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8) : (Proc.devRef .tc main_while0b_v49 : DevRef τ sig).ty.Contents (Elt F)) = Cert.ReferenceIdeal.Step.b27 j s := by
  unfold Cert.ReferenceIdeal.Step.b27
  rw [← al_22 h]
  try rfl
set_option maxRecDepth 8192 in
theorem al_28 (h : Holds V0 s j) : (Host.dotGeneral dot_S4x8x128x128_S4x8x128_S4x8x128_2_2_3_n_01_01 none (res_main_while0b_v48 V0) (res_main_while0b_v41 V0) : (Proc.devRef .tc main_while0b_v50 : DevRef τ sig).ty.Contents (Elt F)) = Cert.ReferenceIdeal.Step.b28 j s := by
  unfold Cert.ReferenceIdeal.Step.b28
  rw [← al_26 h, ← al_9 h]
  try rfl
set_option maxRecDepth 8192 in
theorem al_29 (h : Holds V0 s j) : (subf (shapeCast S4x8x128 (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128) (Host.dotGeneral dot_S4x8x128x128_S4x8x128_S4x8x128_2_2_3_n_01_01 none (res_main_while0b_v48 V0) (res_main_while0b_v41 V0)) : (Proc.devRef .tc main_while0b_v51 : DevRef τ sig).ty.Contents (Elt F)) = Cert.ReferenceIdeal.Step.b29 j s := by
  unfold Cert.ReferenceIdeal.Step.b29
  rw [← al_14 h, ← al_28 h]
  try rfl
set_option maxRecDepth 8192 in
theorem al_30 (h : Holds V0 s j) : (broadcastInDim S4x8x128 ![0, 1, 2] bcast_S4x8x1_S4x8x128_0_1_2 (broadcastInDim S4x8x1 ![0, 1] bcast_S4x8_S4x8x1_0_1 (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8)) : (Proc.devRef .tc main_while0b_v52 : DevRef τ sig).ty.Contents (Elt F)) = Cert.ReferenceIdeal.Step.b30 j s := by
  unfold Cert.ReferenceIdeal.Step.b30
  rw [← al_27 h]
  try rfl
set_option maxRecDepth 8192 in
theorem al_31 (h : Holds V0 s j) : (mulf (broadcastInDim S4x8x128 ![0, 1, 2] bcast_S4x8x1_S4x8x128_0_1_2 (broadcastInDim S4x8x1 ![0, 1] bcast_S4x8_S4x8x1_0_1 (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8))) (subf (shapeCast S4x8x128 (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128) (Host.dotGeneral dot_S4x8x128x128_S4x8x128_S4x8x128_2_2_3_n_01_01 none (res_main_while0b_v48 V0) (res_main_while0b_v41 V0))) : (Proc.devRef .tc main_while0b_v53 : DevRef τ sig).ty.Contents (Elt F)) = Cert.ReferenceIdeal.Step.b31 j s := by
  unfold Cert.ReferenceIdeal.Step.b31
  rw [← al_30 h, ← al_29 h]
  try rfl
set_option maxRecDepth 8192 in
theorem al_32 (h : Holds V0 s j) : (broadcastInDim S4x8x128x1 ![0, 1, 2] bcast_S4x8x128_S4x8x128x1_0_1_2 (res_main_while0b_v41 V0) : (Proc.devRef .tc main_while0b_v54 : DevRef τ sig).ty.Contents (Elt F)) = Cert.ReferenceIdeal.Step.b32 j s := by
  unfold Cert.ReferenceIdeal.Step.b32
  rw [← al_9 h]
  try rfl
set_option maxRecDepth 8192 in
theorem al_33 (h : Holds V0 s j) : (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8))) (subf (shapeCast S4x8x128 (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128) (Host.dotGeneral dot_S4x8x128x128_S4x8x128_S4x8x128_2_2_3_n_01_01 none (res_main_while0b_v48 V0) (res_main_while0b_v41 V0)))) : (Proc.devRef .tc main_while0b_v55 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S4x8x128x128 ![0, 1, 2, 3] bcast_S4x8x128x1_S4x8x128x128_0_1_2_3 (broadcastInDim S4x8x128x1 ![0, 1, 2] bcast_S4x8x128_S4x8x128x1_0_1_2 (res_main_while0b_v41 V0)) : (Proc.devRef .tc main_while0b_v56 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (broadcastInDim S4x8x128x128 ![0, 1, 2, 3] bcast_S4x8x1x128_S4x8x128x128_0_1_2_3 (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8))) (subf (shapeCast S4x8x128 (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128) (Host.dotGeneral dot_S4x8x128x128_S4x8x128_S4x8x128_2_2_3_n_01_01 none (res_main_while0b_v48 V0) (res_main_while0b_v41 V0))))) : (Proc.devRef .tc main_while0b_v57 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (mulf (broadcastInDim S4x8x128x128 ![0, 1, 2, 3] bcast_S4x8x128x1_S4x8x128x128_0_1_2_3 (broadcastInDim S4x8x128x1 ![0, 1, 2] bcast_S4x8x128_S4x8x128x1_0_1_2 (res_main_while0b_v41 V0))) (broadcastInDim S4x8x128x128 ![0, 1, 2, 3] bcast_S4x8x1x128_S4x8x128x128_0_1_2_3 (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 (shapeCast S4x8 (Host.dynamicSlice S1x4x8 (V0 (Proc.devRef .tc main_v17_4)) (fun k => (((![V0 (Proc.devRef .tc main_v17_5), constantI S_ 32 0#32, constantI S_ 32 0#32] : Fin 3 → (⟨S_, .i32⟩ : BufTy).Contents (Elt F))) k (Shape.Idx.first h_S_)).toInt) sliceFits_S4096x4x8_S1x4x8) shapeCasts_S1x4x8_S4x8))) (subf (shapeCast S4x8x128 (Host.dynamicSlice S1x4x8x128 (V0 (Proc.devRef .tc main_v17_2)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128) (Host.dotGeneral dot_S4x8x128x128_S4x8x128_S4x8x128_2_2_3_n_01_01 none (res_main_while0b_v48 V0) (res_main_while0b_v41 V0)))))) : (Proc.devRef .tc main_while0b_v58 : DevRef τ sig).ty.Contents (Elt F)) = Cert.ReferenceIdeal.Step.b36 j s := by
  unfold Cert.ReferenceIdeal.Step.b36
  rw [← al_34 h, ← al_35 h]
  try rfl
set_option maxRecDepth 8192 in
theorem al_37 (h : Holds V0 s j) : (res_main_while0b_v59 V0 : (Proc.devRef .tc main_while0b_v59 : DevRef τ sig).ty.Contents (Elt F)) = Cert.ReferenceIdeal.Step.b37 j s := by
  unfold res_main_while0b_v59 Cert.ReferenceIdeal.Step.b37
  rw [← al_26 h, ← al_36 h]
  try rfl
set_option maxRecDepth 8192 in
theorem al_38 (h : Holds V0 s j) : (Host.dotGeneral dot_S4x8x128x128_S4x8x128_S4x8x128_2_2_3_n_01_01 none (res_main_while0b_v59 V0) (shapeCast S4x8x128 (Host.dynamicSlice S1x4x8x128 (V0 (Proc.devRef .tc main_v17_0)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128) : (Proc.devRef .tc main_while0b_v60 : DevRef τ sig).ty.Contents (Elt F)) = Cert.ReferenceIdeal.Step.b38 j s := by
  unfold Cert.ReferenceIdeal.Step.b38
  rw [← al_37 h, ← al_4 h]
  try rfl
set_option maxRecDepth 8192 in
theorem al_39 (h : Holds V0 s j) : (broadcastInDim S1x4x8x128 ![1, 2, 3] bcast_S4x8x128_S1x4x8x128_1_2_3 (Host.dotGeneral dot_S4x8x128x128_S4x8x128_S4x8x128_2_2_3_n_01_01 none (res_main_while0b_v59 V0) (shapeCast S4x8x128 (Host.dynamicSlice S1x4x8x128 (V0 (Proc.devRef .tc main_v17_0)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128)) : (Proc.devRef .tc main_while0b_call5_v0 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (constantI S_ 32 0#32 : (Proc.devRef .tc main_while0b_call5_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call5_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call5_c_1 : DevRef τ sig).ty.Contents (Elt F)) = Cert.ReferenceIdeal.Step.b42 j s := by
  unfold Cert.ReferenceIdeal.Step.b42
  rfl
set_option maxRecDepth 8192 in
theorem al_43 (h : Holds V0 s j) : (Host.dynamicUpdateSlice (V0 (Proc.devRef .tc main_v17_7)) (broadcastInDim S1x4x8x128 ![1, 2, 3] bcast_S4x8x128_S1x4x8x128_1_2_3 (Host.dotGeneral dot_S4x8x128x128_S4x8x128_S4x8x128_2_2_3_n_01_01 none (res_main_while0b_v59 V0) (shapeCast S4x8x128 (Host.dynamicSlice S1x4x8x128 (V0 (Proc.devRef .tc main_v17_0)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128))) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) updateFits_S4096x4x8x128_S1x4x8x128 : (Proc.devRef .tc main_while0b_v61 : DevRef τ sig).ty.Contents (Elt F)) = Cert.ReferenceIdeal.Step.b43 j s := by
  unfold Cert.ReferenceIdeal.Step.b43
  rw [← al_39 h, ← al_40 h, ← al_41 h, ← al_42 h, h.f_7, h.n_5]
  try rfl

/-! One trip's step of the carried values is `step`, field by field; a counter steps to the next number. -/

theorem step_6 (h : Holds V0 s j) : step_main_v17_6 V0 = (step j s).main_v17_6 := by
  unfold step_main_v17_6 Cert.ReferenceIdeal.Step.step
  show id (res_main_while0b_v59 V0) = _
  rw [al_37 h]
  try rfl
theorem step_7 (h : Holds V0 s j) : step_main_v17_7 V0 = (step j s).main_v17_7 := by
  unfold step_main_v17_7 Cert.ReferenceIdeal.Step.step
  show id (Host.dynamicUpdateSlice (V0 (Proc.devRef .tc main_v17_7)) (broadcastInDim S1x4x8x128 ![1, 2, 3] bcast_S4x8x128_S1x4x8x128_1_2_3 (Host.dotGeneral dot_S4x8x128x128_S4x8x128_S4x8x128_2_2_3_n_01_01 none (res_main_while0b_v59 V0) (shapeCast S4x8x128 (Host.dynamicSlice S1x4x8x128 (V0 (Proc.devRef .tc main_v17_0)) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) sliceFits_S4096x4x8x128_S1x4x8x128) shapeCasts_S1x4x8x128_S4x8x128))) (fun k => (((![V0 (Proc.devRef .tc main_v17_5), constantI S_ 32 0#32, constantI S_ 32 0#32, constantI S_ 32 0#32] : Fin 4 → (⟨S_, .i32⟩ : BufTy).Contents (Elt F))) k (Shape.Idx.first h_S_)).toInt) updateFits_S4096x4x8x128_S1x4x8x128) = _
  exact al_43 h
theorem step_5 (h : Holds V0 s j) : step_main_v17_5 V0 = constantI S_ 32 (BitVec.ofNat 32 (j + 1)) := by
  unfold step_main_v17_5
  rw [h.n_5]
  funext i
  show BitVec.ofNat 32 j + 1#32 = BitVec.ofNat 32 (j + 1)
  simp only [BitVec.ofNat_add]

set_option maxRecDepth 8192 in
theorem out_main_v39_holds (h : Holds V0 s j) {x_main_arg1 : (⟨S4x4096x7168, .bf16⟩ : BufTy).Contents (Elt F)} (h_main_arg1 : V0 (Proc.devRef .tc main_arg1) = x_main_arg1) {x_main_arg3 : (⟨S1x128, .f32⟩ : BufTy).Contents (Elt F)} (h_main_arg3 : V0 (Proc.devRef .tc main_arg3) = x_main_arg3) : out_main_v39 V0 = Cert.ReferenceIdeal.Step.R_main_v39 s x_main_arg1 x_main_arg3 := by
  unfold out_main_v39 Cert.ReferenceIdeal.Step.R_main_v39
  rw [h.f_7, h_main_arg1, h_main_arg3]
  try rfl

/-- One trip keeps the valuation holding: `step` of the state, the same set-up values, the next number. -/
theorem holds_step (h : Holds V0 s j) : Holds (STEP V0) (step j s) (j + 1) where
  f_6 := (STEP_main_v17_6 V0).trans (step_6 h)
  f_7 := (STEP_main_v17_7 V0).trans (step_7 h)
  n_5 := (STEP_main_v17_5 V0).trans (step_5 h)
  f_0 := (STEP_main_v17_0 V0).trans h.f_0
  f_1 := (STEP_main_v17_1 V0).trans h.f_1
  f_2 := (STEP_main_v17_2 V0).trans h.f_2
  f_3 := (STEP_main_v17_3 V0).trans h.f_3
  f_4 := (STEP_main_v17_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v39) = Cert.ReferenceIdeal.Step.R_main_v39 (it c 4096) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 4096
    ⟨(h c).1.trans (out_main_v39_holds hk (iter_main_arg1 m c 4096) (iter_main_arg3 m c 4096)), (h c).2.1, (h c).2.2.1, (h c).2.2.2.1, (h c).2.2.2.2⟩) (Value.run m ρ)

end Cert.ReferenceIdeal.RefRun

end
-- ==== Proof.Chain.lean ====
/- One chain of the chunked kernel — one batch row, one head, one 64-token chunk — as functions of the blocks it loads. The kernel runs
   sixteen such chains per grid point, stage by stage; every chain's stored values are these functions at that chain's loads. -/
module

public import proofs.«01_k».proof.Proof.Gen.KernelIdeal.Value

@[expose] public section

noncomputable section

namespace Cert.KernelIdeal.Chain

open Idealize.ShloMosaic Idealize.SL.Sem Cert.KernelIdeal Cert.KernelIdeal.Gen

variable {F : FTy → Type} [FloatOps F]

/-- The running sum of the gates down a chunk's rows: the three-way split product with the lower triangle of ones. -/
def cumCols (gb : Vec F S1x64x128 .f32) : FVec F S64x128 .f32 := k0_pay10 gb

/-- The same sums along a row, one row per head: the split product of the transposed gates with the upper triangle. -/
def cumRows (gb : Vec F S1x64x128 .f32) : FVec F S16x64 .f32 := k0_pay17 k0_pay6 (k0_pay8 gb)

/-- A loaded bf16 block widened. -/
def wide (x : Vec F S1x64x128 .bf16) : FVec F S64x128 .f32 :=
  extf .f32 (shapeCast S64x128 x shapeCasts_S1x64x128_S64x128 : FVec F S64x128 .bf16) bitsLt_bf16_f32

/-- The decay from token `j` to token `i` of the chunk, zero above the diagonal. -/
def dec (gc : FVec F S64x1 .f32) (gr : FVec F S1x64 .f32) : FVec F S64x64 .f32 :=
  exp (select k0_pay3 (subf (broadcastTo S64x64 gc broadcasts_S64x1_S64x64) (broadcastTo S64x64 gr broadcasts_S1x64_S64x64))
    (broadcast S64x64 (Scalar.ofBits .f32 0xFF800000#32)))

/-- The keys scaled by their betas. -/
def kb (k : FVec F S64x128 .f32) (b : FVec F S64x1 .f32) : FVec F S64x128 .f32 :=
  mulf k (broadcastTo S64x128 b broadcasts_S64x1_S64x128)

/-- The products of the scaled keys, and below them of the queries, with the keys. -/
def both (q k : FVec F S64x128 .f32) (b : FVec F S64x1 .f32) : FVec F S128x64 .f32 :=
  matmul dot_S128x128_S64x128_S128x64_1_1_0_0_n_n none
    (truncf .bf16 (concatenate S128x128 0 [⟨S64x128, kb k b⟩, ⟨S64x128, q⟩] concatenates_S64x128_S64x128_S128x128_d0) bitsLt_bf16_f32)
    (truncf .bf16 k bitsLt_bf16_f32) (constant S128x64 .f32 0x00000000#32)

/-- The strictly lower triangular matrix the chunk inverts `1 +` of. -/
def low (bo : FVec F S128x64 .f32) (dc : FVec F S64x64 .f32) : FVec F S64x64 .f32 :=
  select k0_pay4 (mulf (extractStridedSlice S64x64 ![0, 0] bo slices_S128x64_o0_0_S64x64) dc)
    (broadcast S64x64 (Scalar.ofBits .f32 0x00000000#32))

/-- Its square. -/
def sq (m : FVec F S64x64 .f32) : FVec F S64x64 .f32 :=
  matmul dot_S64x64_S64x64_S64x64_1_0_0_1_n_n none (truncf .bf16 m bitsLt_bf16_f32) (truncf .bf16 m bitsLt_bf16_f32)
    (constant S64x64 .f32 0x00000000#32)

/-- One doubling's product: the partial inverse stacked on the power, times the power. -/
def dbl (x p : FVec F S64x64 .f32) : FVec F S128x64 .f32 :=
  matmul dot_S128x64_S64x64_S128x64_1_0_0_1_n_n none
    (truncf .bf16 (concatenate S128x64 0 [⟨S64x64, x⟩, ⟨S64x64, p⟩] concatenates_S64x64_S64x64_S128x64_d0) bitsLt_bf16_f32)
    (truncf .bf16 p bitsLt_bf16_f32) (constant S128x64 .f32 0x00000000#32)

/-- The partial inverse after a doubling. -/
def nx (x p : FVec F S64x64 .f32) : FVec F S64x64 .f32 :=
  addf x (extractStridedSlice S64x64 ![0, 0] (dbl x p) slices_S128x64_o0_0_S64x64)

/-- The power after a doubling. -/
def np (x p : FVec F S64x64 .f32) : FVec F S64x64 .f32 :=
  extractStridedSlice S64x64 ![64, 0] (dbl x p) slices_S128x64_o64_0_S64x64

/-- `j` doublings of a partial inverse and a power. -/
def dbls : ℕ → FVec F S64x64 .f32 → FVec F S64x64 .f32 → FVec F S64x64 .f32 × FVec F S64x64 .f32
  | 0, x, p => (x, p)
  | j + 1, x, p => (nx (dbls j x p).1 (dbls j x p).2, np (dbls j x p).1 (dbls j x p).2)

/-- The chunk's inverse: five doublings of `1 - m` and `m²`. -/
def inv (m : FVec F S64x64 .f32) : FVec F S64x64 .f32 := (dbls 5 (subf k0_pay7 m) (sq m)).1

/-- The inverse times the two right-hand sides side by side. -/
def sol (x : FVec F S64x64 .f32) (k v : FVec F S64x128 .f32) (b gc : FVec F S64x1 .f32) : FVec F S64x256 .f32 :=
  matmul dot_S64x64_S64x256_S64x256_1_0_0_1_n_n none (truncf .bf16 x bitsLt_bf16_f32)
    (truncf .bf16 (concatenate S64x256 1 [⟨S64x128, mulf v (broadcastTo S64x128 b broadcasts_S64x1_S64x128)⟩,
      ⟨S64x128, mulf (kb k b) (broadcastTo S64x128 (exp gc) broadcasts_S64x1_S64x128)⟩] concatenates_S64x128_S64x128_S64x256_d1) bitsLt_bf16_f32)
    (constant S64x256 .f32 0x00000000#32)

/-- The second solution, and below it the decayed queries, times the state. -/
def ws (so : FVec F S64x256 .f32) (q : FVec F S64x128 .f32) (gc : FVec F S64x1 .f32) (s : FVec F S128x128 .f32) : FVec F S128x128 .f32 :=
  matmul dot_S128x128_S128x128_S128x128_1_0_0_1_n_n none
    (truncf .bf16 (concatenate S128x128 0 [⟨S64x128, extractStridedSlice S64x128 ![0, 128] so slices_S64x256_o0_128_S64x128⟩,
      ⟨S64x128, mulf q (broadcastTo S64x128 (exp gc) broadcasts_S64x1_S64x128)⟩] concatenates_S64x128_S64x128_S128x128_d0) bitsLt_bf16_f32)
    (truncf .bf16 s bitsLt_bf16_f32) (constant S128x128 .f32 0x00000000#32)

/-- The corrected values. -/
def vn (so : FVec F S64x256 .f32) (w : FVec F S128x128 .f32) : FVec F S64x128 .f32 :=
  subf (extractStridedSlice S64x128 ![0, 0] so slices_S64x256_o0_0_S64x128) (extractStridedSlice S64x128 ![0, 0] w slices_S128x128_o0_0_S64x128)

/-- The keys decayed to the chunk's end. -/
def kdec (k : FVec F S64x128 .f32) (gl : FVec F S1x1 .f32) (gc : FVec F S64x1 .f32) : FVec F S64x128 .f32 :=
  mulf k (broadcastTo S64x128 (exp (subf (broadcastTo S64x1 gl broadcasts_S1x1_S64x1) gc)) broadcasts_S64x1_S64x128)

/-- The state after the chunk. -/
def st (s : FVec F S128x128 .f32) (gl : FVec F S1x1 .f32) (kd vn : FVec F S64x128 .f32) : FVec F S1x1x128x128 .f32 :=
  shapeCast S1x1x128x128 (addf (mulf s (broadcastTo S128x128 (exp gl) broadcasts_S1x1_S128x128))
    (matmul dot_S64x128_S64x128_S128x128_0_0_1_1_n_n none (truncf .bf16 kd bitsLt_bf16_f32) (truncf .bf16 vn bitsLt_bf16_f32)
      (constant S128x128 .f32 0x00000000#32))) shapeCasts_S128x128_S1x1x128x128

/-- The chunk's outputs before the norm. -/
def out (w : FVec F S128x128 .f32) (bo : FVec F S128x64 .f32) (dc : FVec F S64x64 .f32) (vn : FVec F S64x128 .f32) : FVec F S64x128 .f32 :=
  addf (extractStridedSlice S64x128 ![64, 0] w slices_S128x128_o64_0_S64x128)
    (matmul dot_S64x64_S64x128_S64x128_1_0_0_1_n_n none
      (truncf .bf16 (mulf (extractStridedSlice S64x64 ![64, 0] bo slices_S128x64_o64_0_S64x64) dc) bitsLt_bf16_f32)
      (truncf .bf16 vn bitsLt_bf16_f32) (constant S64x128 .f32 0x00000000#32))

/-- The norm over a row, the norm's weight and the gate. -/
def fin (o : FVec F S64x128 .f32) (on : Vec F S1x128 .f32) (z : Vec F S1x64x128 .bf16) : FVec F S1x64x128 .bf16 :=
  k0_pay1 o (shapeCast S64x1 (multiReduction .add [1] S64 (mulf o o) 0x00000000#32 reduces_S64x128_S64 (.inl rfl) rfl) shapeCasts_S64_S64x1) on z

/-- The last entry of a row of running sums. -/
def last (gr : FVec F S1x64 .f32) : FVec F S1x1 .f32 := extractStridedSlice S1x1 ![0, 63] gr slices_S1x64_o0_63_S1x1

/-- A chain's solutions, of its loads. -/
def cSol (q k v : FVec F S64x128 .f32) (b gc : FVec F S64x1 .f32) (gr : FVec F S1x64 .f32) : FVec F S64x256 .f32 :=
  sol (inv (low (both q k b) (dec gc gr))) k v b gc

/-- A chain's product of solutions and queries with the state. -/
def cWs (q k v : FVec F S64x128 .f32) (b gc : FVec F S64x1 .f32) (gr : FVec F S1x64 .f32) (s : FVec F S128x128 .f32) : FVec F S128x128 .f32 :=
  ws (cSol q k v b gc gr) q gc s

/-- A chain's corrected values. -/
def cVn (q k v : FVec F S64x128 .f32) (b gc : FVec F S64x1 .f32) (gr : FVec F S1x64 .f32) (s : FVec F S128x128 .f32) : FVec F S64x128 .f32 :=
  vn (cSol q k v b gc gr) (cWs q k v b gc gr s)

/-- A chain's next state. -/
def cSt (q k v : FVec F S64x128 .f32) (b gc : FVec F S64x1 .f32) (gr : FVec F S1x64 .f32) (s : FVec F S128x128 .f32) : FVec F S1x1x128x128 .f32 :=
  st s (last gr) (kdec k (last gr) gc) (cVn q k v b gc gr s)

/-- A chain's stored output. -/
def cOut (q k v : FVec F S64x128 .f32) (b gc : FVec F S64x1 .f32) (gr : FVec F S1x64 .f32) (s : FVec F S128x128 .f32)
    (on : Vec F S1x128 .f32) (z : Vec F S1x64x128 .bf16) : FVec F S1x64x128 .bf16 :=
  fin (out (cWs q k v b gc gr s) (both q k b) (dec gc gr) (cVn q k v b gc gr s)) on z

end Cert.KernelIdeal.Chain

end
-- ==== Proof.Pieces.lean ====
/- What one grid point stores: sixteen blocks of the output and sixteen of the carried state, each the chain functions of `Chain` at that batch row's
   and head's slices of the point's input blocks — for the points that continue a sequence and for those that begin one (where the state read is zero). -/
module

public import proofs.«01_k».proof.Proof.Chain
public import Idealize.ShloMosaic.Lib.Pipeline.ReadBack
public import Idealize.ShloMosaic.Lib.ValueIdx

@[expose] public section

set_option maxRecDepth 65536

noncomputable section

namespace Cert.KernelIdeal.Chain

open Idealize.ShloMosaic Idealize.SL.Sem Cert.KernelIdeal Cert.KernelIdeal.Gen Idealize.ShloMosaic.ValueIdx

variable {F : FTy → Type} [FloatOps F]

/-- The slice of batch row `r` and head `h` lies in the block of queries. -/
theorem inbQ (r : Fin 2) (h : Fin 8) : ∀ a, (![r.val, 0, 128 * h.val] : Fin 3 → ℕ) a + S1x64x128.size a ≤ S2x64x1024.size a := by
  revert r h; decide

/-- The slice of batch row `r` lies in the block of gates. -/
theorem inbG (r : Fin 2) : ∀ a, (![r.val, 0, 0] : Fin 3 → ℕ) a + S1x64x128.size a ≤ S2x64x128.size a := by
  revert r; decide

/-- The matrix of batch row `r` and head `h` lies in the state. -/
theorem inbS (r : Fin 2) (h : Fin 8) : ∀ a, (![r.val, h.val, 0, 0] : Fin 4 → ℕ) a + S1x1x128x128.size a ≤ S2x8x128x128.size a := by
  revert r h; decide

/-- The slice of a 1024-wide block at batch row `r` and head `h`. -/
abbrev rQ (r : Fin 2) (h : Fin 8) : Rect S2x64x1024 := Rect.unit (s := S2x64x1024) ![r.val, 0, 128 * h.val] S1x64x128.size (inbQ r h)

/-- The slice of the gates at batch row `r`. -/
abbrev rG (r : Fin 2) : Rect S2x64x128 := Rect.unit (s := S2x64x128) ![r.val, 0, 0] S1x64x128.size (inbG r)

/-- The state's matrix at batch row `r` and head `h`. -/
abbrev rS (r : Fin 2) (h : Fin 8) : Rect S2x8x128x128 := Rect.unit (s := S2x8x128x128) ![r.val, h.val, 0, 0] S1x1x128x128.size (inbS r h)

/-- The column of betas of head `h`. -/
def bCol (gb : Vec F S1x64x128 .f32) (h : Fin 8) : FVec F S64x1 .f32 :=
  extractStridedSlice S64x1 ![0, h.val] (shapeCast S64x128 gb shapeCasts_S1x64x128_S64x128 : FVec F S64x128 .f32)
    (by revert h; decide)

/-- The column of running sums of head `h`. -/
def gCol (gb : Vec F S1x64x128 .f32) (h : Fin 8) : FVec F S64x1 .f32 :=
  extractStridedSlice S64x1 ![0, 8 + h.val] (cumCols gb) (by revert h; decide)

/-- The row of running sums of head `h`. -/
def gRow (gb : Vec F S1x64x128 .f32) (h : Fin 8) : FVec F S1x64 .f32 :=
  extractStridedSlice S1x64 ![8 + h.val, 0] (cumRows gb) (by revert h; decide)

/-- The state's matrix a chain starts from, as a square. -/
def sq0 (s : Vec F S1x1x128x128 .f32) : FVec F S128x128 .f32 := shapeCast S128x128 s shapeCasts_S1x1x128x128_S128x128

/-- The state stored for batch row `r` and head `h`, of the point's blocks and of the state matrix `s` read. -/
def kSt (Q K V : Vec F S2x64x1024 .bf16) (GB : Vec F S2x64x128 .f32) (r : Fin 2) (h : Fin 8) (s : Vec F S1x1x128x128 .f32) :
    FVec F S1x1x128x128 .f32 :=
  cSt (wide (View.ld (Val := Elt F) Q (rQ r h))) (wide (View.ld (Val := Elt F) K (rQ r h))) (wide (View.ld (Val := Elt F) V (rQ r h)))
    (bCol (View.ld (Val := Elt F) GB (rG r)) h) (gCol (View.ld (Val := Elt F) GB (rG r)) h) (gRow (View.ld (Val := Elt F) GB (rG r)) h) (sq0 s)

/-- The output stored for batch row `r` and head `h`. -/
def kOut (Q K V Z : Vec F S2x64x1024 .bf16) (GB : Vec F S2x64x128 .f32) (N : Vec F S1x128 .f32) (r : Fin 2) (h : Fin 8) (s : Vec F S1x1x128x128 .f32) :
    FVec F S1x64x128 .bf16 :=
  cOut (wide (View.ld (Val := Elt F) Q (rQ r h))) (wide (View.ld (Val := Elt F) K (rQ r h))) (wide (View.ld (Val := Elt F) V (rQ r h)))
    (bCol (View.ld (Val := Elt F) GB (rG r)) h) (gCol (View.ld (Val := Elt F) GB (rG r)) h) (gRow (View.ld (Val := Elt F) GB (rG r)) h) (sq0 s)
    (View.ld (Val := Elt F) N (Rect.unit (s := S1x128) ![0, 0] S1x128.size inb_S1x128_S1x128_0_0)) (View.ld (Val := Elt F) Z (rQ r h))

/-- The batch rows and heads, last stored first. -/
def order : List (Fin 2 × Fin 8) :=
  [(1, 7), (1, 6), (1, 5), (1, 4), (1, 3), (1, 2), (1, 1), (1, 0), (0, 7), (0, 6), (0, 5), (0, 4), (0, 3), (0, 2), (0, 1), (0, 0)]

theorem mem_order (r : Fin 2) (h : Fin 8) : (r, h) ∈ order := by revert r h; decide

/-- The pieces of the state, of the matrices read. -/
def stPieces (Q K V : Vec F S2x64x1024 .bf16) (GB : Vec F S2x64x128 .f32) (s : Fin 2 → Fin 8 → Vec F S1x1x128x128 .f32) :
    List (View.Piece (Elt F) S2x8x128x128 .f32) :=
  order.map fun p => ⟨rS p.1 p.2, kSt Q K V GB p.1 p.2 (s p.1 p.2)⟩

/-- The pieces of the output, of the state matrices read. -/
def outPieces (Q K V Z : Vec F S2x64x1024 .bf16) (GB : Vec F S2x64x128 .f32) (N : Vec F S1x128 .f32) (s : Fin 2 → Fin 8 → Vec F S1x1x128x128 .f32) :
    List (View.Piece (Elt F) S2x64x1024 .bf16) :=
  order.map fun p => ⟨rQ p.1 p.2, kOut Q K V Z GB N p.1 p.2 (s p.1 p.2)⟩

theorem st_list_A (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : cond0_0 i)
    (x0 x1 x2 x3 : Vec F S2x64x1024 .bf16) (x4 : Vec F S2x64x128 .f32) (x5 : Vec F S1x128 .f32) :
    (kernelRun0_A c i arg2 harg2 arg3 harg3 arg4 harg4 arg5 harg5 arg6 harg6 arg7 harg7 arg8 harg8 arg9 harg9 hc0 x0 x1 x2 x3 x4 x5).2.1 = stPieces (arg2.view.read (Elt F) (harg2.unread x0)) (arg3.view.read (Elt F) (harg3.unread x1)) (arg4.view.read (Elt F) (harg4.unread x2)) (arg6.view.read (Elt F) (harg6.unread x4)) (fun r h => arg9.view.readCov kernelRun0_A.sl.HS0_1 (rS r h).toLoadRect) ++ kernelRun0_A.sl.HS0_1 := rfl

theorem out_list_A (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : cond0_0 i)
    (x0 x1 x2 x3 : Vec F S2x64x1024 .bf16) (x4 : Vec F S2x64x128 .f32) (x5 : Vec F S1x128 .f32) :
    (kernelRun0_A c i arg2 harg2 arg3 harg3 arg4 harg4 arg5 harg5 arg6 harg6 arg7 harg7 arg8 harg8 arg9 harg9 hc0 x0 x1 x2 x3 x4 x5).1 = outPieces (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (fun r h => arg9.view.readCov kernelRun0_A.sl.HS0_1 (rS r h).toLoadRect) := rfl

theorem st_list_B (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : ¬cond0_0 i)
    (x0 x1 x2 x3 : Vec F S2x64x1024 .bf16) (x4 : Vec F S2x64x128 .f32) (x5 : Vec F S1x128 .f32) (xs0 : Vec F S2x8x128x128 .f32) :
    (kernelRun0_B c i arg2 harg2 arg3 harg3 arg4 harg4 arg5 harg5 arg6 harg6 arg7 harg7 arg8 harg8 arg9 harg9 hc0 x0 x1 x2 x3 x4 x5 xs0).2.1 = stPieces (arg2.view.read (Elt F) (harg2.unread x0)) (arg3.view.read (Elt F) (harg3.unread x1)) (arg4.view.read (Elt F) (harg4.unread x2)) (arg6.view.read (Elt F) (harg6.unread x4)) (fun r h => View.ld (arg9.view.read (Elt F) (harg9.unread xs0)) (rS r h)) := rfl

theorem out_list_B (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : ¬cond0_0 i)
    (x0 x1 x2 x3 : Vec F S2x64x1024 .bf16) (x4 : Vec F S2x64x128 .f32) (x5 : Vec F S1x128 .f32) (xs0 : Vec F S2x8x128x128 .f32) :
    (kernelRun0_B c i arg2 harg2 arg3 harg3 arg4 harg4 arg5 harg5 arg6 harg6 arg7 harg7 arg8 harg8 arg9 harg9 hc0 x0 x1 x2 x3 x4 x5 xs0).1 = outPieces (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (fun r h => View.ld (arg9.view.read (Elt F) (harg9.unread xs0)) (rS r h)) := rfl

end Cert.KernelIdeal.Chain

end
-- ==== Proof.Stored.lean ====
/- The contents a grid point leaves in its output block and in the carried state, at an index: the chain of that index's batch row and head. -/
module

public import proofs.«01_k».proof.Proof.Pieces
public import Idealize.ShloMosaic.Lib.Pointwise

@[expose] public section

set_option maxRecDepth 16384

noncomputable section

namespace Cert.KernelIdeal.Chain

open Idealize.ShloMosaic Idealize.SL.Sem Cert.KernelIdeal Cert.KernelIdeal.Gen

variable {F : FTy → Type} [FloatOps F]

/-- Where element `(i, d)` of the slice of batch row `r` and head `h` stands in a 1024-wide block. -/
theorem emb_rQ (r : Fin 2) (h : Fin 8) (i : Fin 64) (d : Fin 128) :
    (rQ r h).emb (ix3 0 i d : S1x64x128.Idx) = (ix3 r i ⟨128 * h.val + d.val, by omega⟩ : S2x64x1024.Idx) := by
  funext a
  refine Fin.ext ?_
  rw [Rect.emb_apply]
  revert a
  simp [Fin.forall_fin_succ, ix3]

/-- Where element `(a, d)` of the matrix of batch row `r` and head `h` stands in the state. -/
theorem emb_rS (r : Fin 2) (h : Fin 8) (a d : Fin 128) :
    (rS r h).emb (ix4 0 0 a d : S1x1x128x128.Idx) = (ix4 r h a d : S2x8x128x128.Idx) := by
  funext b
  refine Fin.ext ?_
  rw [Rect.emb_apply]
  revert b
  simp [Fin.forall_fin_succ, ix4]

/-- The slices of a block, one per batch row and head, glued. -/
def glueQ (f : Fin 2 → Fin 8 → Vec F S1x64x128 .bf16) : Vec F S2x64x1024 .bf16 := fun y =>
  f (y 0) ⟨(y 2).val / 128, by have h : (y 2).val < 1024 := (y 2).isLt; omega⟩ (ix3 0 (y 1) ⟨(y 2).val % 128, Nat.mod_lt _ (by norm_num)⟩)

/-- The matrices of a state glued. -/
def glueS (f : Fin 2 → Fin 8 → Vec F S1x1x128x128 .f32) : Vec F S2x8x128x128 .f32 := fun y => f (y 0) (y 1) (ix4 0 0 (y 2) (y 3))

theorem glueQ_apply (f : Fin 2 → Fin 8 → Vec F S1x64x128 .bf16) (r : Fin 2) (h : Fin 8) (i : Fin 64) (d : Fin 128) :
    glueQ f (ix3 r i ⟨128 * h.val + d.val, by omega⟩) = f r h (ix3 0 i d) := by
  have e1 : (128 * h.val + d.val) / 128 = h.val := by omega
  have e2 : (128 * h.val + d.val) % 128 = d.val := by omega
  simp only [glueQ, ix3, e1, e2]

theorem glueQ_emb (f : Fin 2 → Fin 8 → Vec F S1x64x128 .bf16) (r : Fin 2) (h : Fin 8) (x : S1x64x128.Idx) :
    f r h x = glueQ f ((rQ r h).emb x) := by
  idx_vars x
  obtain rfl : x0 = 0 := Subsingleton.elim _ _
  rw [emb_rQ, glueQ_apply]

theorem glueS_emb (f : Fin 2 → Fin 8 → Vec F S1x1x128x128 .f32) (r : Fin 2) (h : Fin 8) (x : S1x1x128x128.Idx) :
    f r h x = glueS f ((rS r h).emb x) := by
  idx_vars x
  obtain rfl : x0 = 0 := Subsingleton.elim _ _
  obtain rfl : x1 = 0 := Subsingleton.elim _ _
  rw [emb_rS]; rfl

theorem cover_st (Q K V : Vec F S2x64x1024 .bf16) (GB : Vec F S2x64x128 .f32) (s : Fin 2 → Fin 8 → Vec F S1x1x128x128 .f32) (y : S2x8x128x128.Idx) :
    ∃ p ∈ stPieces Q K V GB s, y ∈ p.1.set := by
  refine ⟨_, List.mem_map_of_mem (mem_order (y 0) (y 1)), ?_⟩
  have e : y = (rS (y 0) (y 1)).emb (ix4 0 0 (y 2) (y 3) : S1x1x128x128.Idx) := by
    idx_vars y
    exact (emb_rS y0 y1 y2 y3).symm
  have := (rS (y 0) (y 1)).idx_mem (ix4 0 0 (y 2) (y 3) : S1x1x128x128.Idx)
  exact e ▸ this

theorem canon_st (Q K V : Vec F S2x64x1024 .bf16) (GB : Vec F S2x64x128 .f32) (s : Fin 2 → Fin 8 → Vec F S1x1x128x128 .f32)
    (L : List (View.Piece (Elt F) S2x8x128x128 .f32)) :
    View.canon (stPieces Q K V GB s ++ L) = glueS fun r h => kSt Q K V GB r h (s r h) := by
  funext y
  refine View.canon_append_of_pieces _ _ _ (fun p hp x => ?_) y (cover_st Q K V GB s y)
  obtain ⟨⟨r, h⟩, _, rfl⟩ := List.mem_map.mp hp
  exact glueS_emb (fun r h => kSt Q K V GB r h (s r h)) r h x

theorem canon_out (Q K V Z : Vec F S2x64x1024 .bf16) (GB : Vec F S2x64x128 .f32) (N : Vec F S1x128 .f32) (s : Fin 2 → Fin 8 → Vec F S1x1x128x128 .f32)
    (hc : ∀ y, ∃ p ∈ outPieces Q K V Z GB N s, y ∈ p.1.set) :
    View.canon (outPieces Q K V Z GB N s) = glueQ fun r h => kOut Q K V Z GB N r h (s r h) := by
  funext y
  refine View.canon_apply_of_pieces _ _ (fun p hp x => ?_) y (hc y)
  obtain ⟨⟨r, h⟩, _, rfl⟩ := List.mem_map.mp hp
  exact glueQ_emb (fun r h => kOut Q K V Z GB N r h (s r h)) r h x

/-- The output block of a point that begins a sequence. -/
theorem out0_A_6_eq (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : cond0_0 i)
    (x0 x1 x2 x3 : Vec F S2x64x1024 .bf16) (x4 : Vec F S2x64x128 .f32) (x5 : Vec F S1x128 .f32) :
    out0_A_6 c i arg2 harg2 arg3 harg3 arg4 harg4 arg5 harg5 arg6 harg6 arg7 harg7 arg8 harg8 arg9 harg9 hc0 x0 x1 x2 x3 x4 x5 = glueQ fun r h => kOut x0 x1 x2 x3 x4 x5 r h (fun _ => Scalar.ofBits .f32 0x00000000#32) := by
  have hz : (fun r h => arg9.view.readCov (Val := Elt F) kernelRun0_A.sl.HS0_1 (rS r h).toLoadRect)
      = fun (r : Fin 2) (h : Fin 8) => ((fun _ => Scalar.ofBits .f32 0x00000000#32) : Vec F S1x1x128x128 .f32) := by
    funext r h
    exact View.readCov_fill arg9.view _ _ _ (rS r h) (by decide)
  have hc := cover0_A_6 (F := F) c i arg2 harg2 arg3 harg3 arg4 harg4 arg5 harg5 arg6 harg6 arg7 harg7 arg8 harg8 arg9 harg9 hc0 x0 x1 x2 x3 x4 x5
  rw [out_list_A c i arg2 harg2 arg3 harg3 arg4 harg4 arg5 harg5 arg6 harg6 arg7 harg7 arg8 harg8 arg9 harg9 hc0 x0 x1 x2 x3 x4 x5] at hc
  unfold out0_A_6
  rw [out_list_A c i arg2 harg2 arg3 harg3 arg4 harg4 arg5 harg5 arg6 harg6 arg7 harg7 arg8 harg8 arg9 harg9 hc0 x0 x1 x2 x3 x4 x5, View.read_writes_eq_canon _ _ _ hc, canon_out _ _ _ _ _ _ _ hc]
  simp only [harg2.read_unread, harg3.read_unread, harg4.read_unread, harg5.read_unread, harg6.read_unread, harg7.read_unread]
  exact congrArg (fun s : Fin 2 → Fin 8 → Vec F S1x1x128x128 .f32 => glueQ fun r h => kOut x0 x1 x2 x3 x4 x5 r h (s r h)) hz

/-- The state a point that begins a sequence leaves. -/
theorem sout0_A_0_eq (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : cond0_0 i)
    (x0 x1 x2 x3 : Vec F S2x64x1024 .bf16) (x4 : Vec F S2x64x128 .f32) (x5 : Vec F S1x128 .f32) :
    sout0_A_0 c i arg2 harg2 arg3 harg3 arg4 harg4 arg5 harg5 arg6 harg6 arg7 harg7 arg8 harg8 arg9 harg9 hc0 x0 x1 x2 x3 x4 x5 = glueS fun r h => kSt x0 x1 x2 x4 r h (fun _ => Scalar.ofBits .f32 0x00000000#32) := by
  have hz : (fun r h => arg9.view.readCov (Val := Elt F) kernelRun0_A.sl.HS0_1 (rS r h).toLoadRect)
      = fun (r : Fin 2) (h : Fin 8) => ((fun _ => Scalar.ofBits .f32 0x00000000#32) : Vec F S1x1x128x128 .f32) := by
    funext r h
    exact View.readCov_fill arg9.view _ _ _ (rS r h) (by decide)
  have hc := scover0_A_0 (F := F) c i arg2 harg2 arg3 harg3 arg4 harg4 arg5 harg5 arg6 harg6 arg7 harg7 arg8 harg8 arg9 harg9 hc0 x0 x1 x2 x3 x4 x5
  rw [st_list_A c i arg2 harg2 arg3 harg3 arg4 harg4 arg5 harg5 arg6 harg6 arg7 harg7 arg8 harg8 arg9 harg9 hc0 x0 x1 x2 x3 x4 x5] at hc
  unfold sout0_A_0
  rw [st_list_A c i arg2 harg2 arg3 harg3 arg4 harg4 arg5 harg5 arg6 harg6 arg7 harg7 arg8 harg8 arg9 harg9 hc0 x0 x1 x2 x3 x4 x5, View.read_writes_eq_canon _ _ _ hc, canon_st]
  simp only [harg2.read_unread, harg3.read_unread, harg4.read_unread, harg6.read_unread]
  exact congrArg (fun s : Fin 2 → Fin 8 → Vec F S1x1x128x128 .f32 => glueS fun r h => kSt x0 x1 x2 x4 r h (s r h)) hz

/-- The output block of a point that continues a sequence. -/
theorem out0_B_6_eq (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : ¬cond0_0 i)
    (x0 x1 x2 x3 : Vec F S2x64x1024 .bf16) (x4 : Vec F S2x64x128 .f32) (x5 : Vec F S1x128 .f32) (xs0 : Vec F S2x8x128x128 .f32) :
    out0_B_6 c i arg2 harg2 arg3 harg3 arg4 harg4 arg5 harg5 arg6 harg6 arg7 harg7 arg8 harg8 arg9 harg9 hc0 x0 x1 x2 x3 x4 x5 xs0 = glueQ fun r h => kOut x0 x1 x2 x3 x4 x5 r h (View.ld (Val := Elt F) xs0 (rS r h)) := by
  have hc := cover0_B_6 (F := F) c i arg2 harg2 arg3 harg3 arg4 harg4 arg5 harg5 arg6 harg6 arg7 harg7 arg8 harg8 arg9 harg9 hc0 x0 x1 x2 x3 x4 x5 xs0
  rw [out_list_B c i arg2 harg2 arg3 harg3 arg4 harg4 arg5 harg5 arg6 harg6 arg7 harg7 arg8 harg8 arg9 harg9 hc0 x0 x1 x2 x3 x4 x5 xs0] at hc
  unfold out0_B_6
  rw [out_list_B c i arg2 harg2 arg3 harg3 arg4 harg4 arg5 harg5 arg6 harg6 arg7 harg7 arg8 harg8 arg9 harg9 hc0 x0 x1 x2 x3 x4 x5 xs0, View.read_writes_eq_canon _ _ _ hc, canon_out _ _ _ _ _ _ _ hc]
  simp only [harg2.read_unread, harg3.read_unread, harg4.read_unread, harg5.read_unread, harg6.read_unread, harg7.read_unread, harg9.read_unread]

/-- The state a point that continues a sequence leaves. -/
theorem sout0_B_0_eq (c : Dev nD) (i : grid0.Coords) (arg2 : Memref sig .tc .vmem S2x64x1024 .bf16) (harg2 : arg2.IsWhole) (arg3 : Memref sig .tc .vmem S2x64x1024 .bf16) (harg3 : arg3.IsWhole) (arg4 : Memref sig .tc .vmem S2x64x1024 .bf16) (harg4 : arg4.IsWhole) (arg5 : Memref sig .tc .vmem S2x64x1024 .bf16) (harg5 : arg5.IsWhole) (arg6 : Memref sig .tc .vmem S2x64x128 .f32) (harg6 : arg6.IsWhole) (arg7 : Memref sig .tc .vmem S1x128 .f32) (harg7 : arg7.IsWhole) (arg8 : Memref sig .tc .vmem S2x64x1024 .bf16) (harg8 : arg8.IsWhole) (arg9 : Memref sig .tc .vmem S2x8x128x128 .f32) (harg9 : arg9.IsWhole) (hc0 : ¬cond0_0 i)
    (x0 x1 x2 x3 : Vec F S2x64x1024 .bf16) (x4 : Vec F S2x64x128 .f32) (x5 : Vec F S1x128 .f32) (xs0 : Vec F S2x8x128x128 .f32) :
    sout0_B_0 c i arg2 harg2 arg3 harg3 arg4 harg4 arg5 harg5 arg6 harg6 arg7 harg7 arg8 harg8 arg9 harg9 hc0 x0 x1 x2 x3 x4 x5 xs0 = glueS fun r h => kSt x0 x1 x2 x4 r h (View.ld (Val := Elt F) xs0 (rS r h)) := by
  have hc := scover0_B_0 (F := F) c i arg2 harg2 arg3 harg3 arg4 harg4 arg5 harg5 arg6 harg6 arg7 harg7 arg8 harg8 arg9 harg9 hc0 x0 x1 x2 x3 x4 x5 xs0
  rw [st_list_B c i arg2 harg2 arg3 harg3 arg4 harg4 arg5 harg5 arg6 harg6 arg7 harg7 arg8 harg8 arg9 harg9 hc0 x0 x1 x2 x3 x4 x5 xs0] at hc
  unfold sout0_B_0
  rw [st_list_B c i arg2 harg2 arg3 harg3 arg4 harg4 arg5 harg5 arg6 harg6 arg7 harg7 arg8 harg8 arg9 harg9 hc0 x0 x1 x2 x3 x4 x5 xs0, View.read_writes_eq_canon _ _ _ hc, ← List.append_nil (stPieces _ _ _ _ _), canon_st]
  simp only [harg2.read_unread, harg3.read_unread, harg4.read_unread, harg6.read_unread, harg9.read_unread]

end Cert.KernelIdeal.Chain

end
-- ==== Proof.Read.lean ====
/- The chain functions read at an index over the extended reals. -/
module

public import proofs.«01_k».proof.Proof.Chain
public import Idealize.ShloMosaic.Lib.Pointwise

@[expose] public section

set_option maxRecDepth 16384

noncomputable section

namespace Cert.KernelIdeal.Chain

open Idealize.ShloMosaic Idealize.SL.Sem Cert.KernelIdeal Cert.KernelIdeal.Gen

/-- A row and a column number of a chunk compared as words. -/
theorem sge_word (i j : Fin 64) : IntOp.cmpi .sge (BitVec.ofNat 32 i.val) (BitVec.ofNat 32 j.val) = if j ≤ i then 1#1 else 0#1 := by
  revert i j; decide +kernel

theorem sgt_word (i j : Fin 64) : IntOp.cmpi .sgt (BitVec.ofNat 32 i.val) (BitVec.ofNat 32 j.val) = if j < i then 1#1 else 0#1 := by
  revert i j; decide +kernel

theorem sle_word (i j : Fin 64) : IntOp.cmpi .sle (BitVec.ofNat 32 i.val) (BitVec.ofNat 32 j.val) = if i ≤ j then 1#1 else 0#1 := by
  revert i j; decide +kernel

theorem eq_word (i j : Fin 64) : IntOp.cmpi .eq (BitVec.ofNat 32 i.val) (BitVec.ofNat 32 j.val) = if i = j then 1#1 else 0#1 := by
  revert i j; decide +kernel

theorem select_if {α : Type} (p : Prop) [Decidable p] (a b : α) : Scalar.select (if p then 1#1 else 0#1) a b = if p then a else b := by
  split_ifs <;> rfl

/-- A bit converted to a float is one or zero. -/
theorem bit_if (p : Prop) [Decidable p] :
    (FloatOps.sitofp .f32 (BitVec.setWidth 32 (if p then 1#1 else 0#1)) : Ideal .f32) = (if p then 1 else 0 : EReal) := by
  split_ifs
  · show ((((1 : ℤ) : ℝ)) : EReal) = 1
    norm_num
  · show ((((0 : ℤ) : ℝ)) : EReal) = 0
    norm_num

theorem wide_apply (x : Vec Ideal S1x64x128 .bf16) (i : Fin 64) (a : Fin 128) : wide (F := Ideal) x (ix2 i a) = x (ix3 0 i a) := by
  unfold wide
  pointwise

theorem neg_inf : (Ideal.ofBits .f32 0xFF800000#32 : EReal) = ⊥ := by
  simp [Ideal.ofBits, Ideal.ieee]

theorem dec_apply (gc : FVec Ideal S64x1 .f32) (gr : FVec Ideal S1x64 .f32) (i j : Fin 64) :
    dec gc gr (ix2 i j) = if j ≤ i then Ideal.exp (gc (ix2 i 0) - gr (ix2 0 j)) else 0 := by
  unfold dec k0_pay3
  pointwise
  rw [sge_word, select_if]
  split_ifs
  · rfl
  · rw [neg_inf]; rfl

theorem both_top (q k : FVec Ideal S64x128 .f32) (b : FVec Ideal S64x1 .f32) (i j : Fin 64) :
    both q k b (ix2 ⟨i.val, by omega⟩ j) = ∑ a, k (ix2 i a) * b (ix2 i 0) * k (ix2 j a) := by
  unfold both kb
  pointwise

theorem both_bot (q k : FVec Ideal S64x128 .f32) (b : FVec Ideal S64x1 .f32) (i j : Fin 64) :
    both q k b (ix2 ⟨64 + i.val, by omega⟩ j) = ∑ a, q (ix2 i a) * k (ix2 j a) := by
  unfold both kb
  pointwise

theorem low_apply (bo : FVec Ideal S128x64 .f32) (dc : FVec Ideal S64x64 .f32) (i j : Fin 64) :
    low bo dc (ix2 i j) = if j < i then bo (ix2 ⟨i.val, by omega⟩ j) * dc (ix2 i j) else 0 := by
  unfold low k0_pay4
  pointwise
  rw [sgt_word, select_if]

theorem one_sub_apply (m : FVec Ideal S64x64 .f32) (i j : Fin 64) :
    subf (k0_pay7 (F := Ideal)) m (ix2 i j) = (if i = j then 1 else 0) - m (ix2 i j) := by
  unfold k0_pay7
  pointwise
  rw [eq_word, bit_if]

theorem sq_apply (m : FVec Ideal S64x64 .f32) (i j : Fin 64) : sq m (ix2 i j) = ∑ l, m (ix2 i l) * m (ix2 l j) := by
  unfold sq
  pointwise

theorem nx_apply (x p : FVec Ideal S64x64 .f32) (i j : Fin 64) :
    nx x p (ix2 i j) = x (ix2 i j) + ∑ l, x (ix2 i l) * p (ix2 l j) := by
  unfold nx dbl
  pointwise

theorem np_apply (x p : FVec Ideal S64x64 .f32) (i j : Fin 64) :
    np x p (ix2 i j) = ∑ l, p (ix2 i l) * p (ix2 l j) := by
  unfold np dbl
  pointwise

theorem sol_left (x : FVec Ideal S64x64 .f32) (k v : FVec Ideal S64x128 .f32) (b gc : FVec Ideal S64x1 .f32) (i : Fin 64) (d : Fin 128) :
    sol x k v b gc (ix2 i ⟨d.val, by omega⟩) = ∑ l, x (ix2 i l) * (v (ix2 l d) * b (ix2 l 0)) := by
  unfold sol kb
  pointwise

theorem sol_right (x : FVec Ideal S64x64 .f32) (k v : FVec Ideal S64x128 .f32) (b gc : FVec Ideal S64x1 .f32) (i : Fin 64) (d : Fin 128) :
    sol x k v b gc (ix2 i ⟨128 + d.val, by omega⟩) = ∑ l, x (ix2 i l) * (k (ix2 l d) * b (ix2 l 0) * Ideal.exp (gc (ix2 l 0))) := by
  unfold sol kb
  pointwise

theorem ws_top (so : FVec Ideal S64x256 .f32) (q : FVec Ideal S64x128 .f32) (gc : FVec Ideal S64x1 .f32) (s : FVec Ideal S128x128 .f32)
    (i : Fin 64) (d : Fin 128) : ws so q gc s (ix2 ⟨i.val, by omega⟩ d) = ∑ a : Fin 128, so (ix2 i ⟨128 + a.val, by omega⟩) * s (ix2 a d) := by
  unfold ws
  pointwise

theorem ws_bot (so : FVec Ideal S64x256 .f32) (q : FVec Ideal S64x128 .f32) (gc : FVec Ideal S64x1 .f32) (s : FVec Ideal S128x128 .f32)
    (i : Fin 64) (d : Fin 128) :
    ws so q gc s (ix2 ⟨64 + i.val, by omega⟩ d) = ∑ a : Fin 128, q (ix2 i a) * Ideal.exp (gc (ix2 i 0)) * s (ix2 a d) := by
  unfold ws
  pointwise

theorem vn_apply (so : FVec Ideal S64x256 .f32) (w : FVec Ideal S128x128 .f32) (i : Fin 64) (d : Fin 128) :
    vn so w (ix2 i d) = so (ix2 i ⟨d.val, by omega⟩) - w (ix2 ⟨i.val, by omega⟩ d) := by
  unfold vn
  pointwise

theorem kdec_apply (k : FVec Ideal S64x128 .f32) (gl : FVec Ideal S1x1 .f32) (gc : FVec Ideal S64x1 .f32) (i : Fin 64) (a : Fin 128) :
    kdec k gl gc (ix2 i a) = k (ix2 i a) * Ideal.exp (gl (ix2 0 0) - gc (ix2 i 0)) := by
  unfold kdec
  pointwise

theorem st_apply (s : FVec Ideal S128x128 .f32) (gl : FVec Ideal S1x1 .f32) (kd v : FVec Ideal S64x128 .f32) (a d : Fin 128) :
    st s gl kd v (ix4 0 0 a d) = s (ix2 a d) * Ideal.exp (gl (ix2 0 0)) + ∑ j, kd (ix2 j a) * v (ix2 j d) := by
  unfold st
  pointwise

theorem out_apply (w : FVec Ideal S128x128 .f32) (bo : FVec Ideal S128x64 .f32) (dc : FVec Ideal S64x64 .f32) (v : FVec Ideal S64x128 .f32)
    (i : Fin 64) (d : Fin 128) :
    out w bo dc v (ix2 i d) = w (ix2 ⟨64 + i.val, by omega⟩ d) + ∑ j : Fin 64, bo (ix2 ⟨64 + i.val, by omega⟩ j) * dc (ix2 i j) * v (ix2 j d) := by
  unfold out
  pointwise

theorem fin_apply (o : FVec Ideal S64x128 .f32) (on : Vec Ideal S1x128 .f32) (z : Vec Ideal S1x64x128 .bf16) (i : Fin 64) (d : Fin 128) :
    fin o on z (ix3 0 i d) = o (ix2 i d)
      * Ideal.rsqrt (Ideal.div (∑ x, o (ix2 i x) * o (ix2 i x)) (Ideal.ofBits .f32 0x43000000#32) + Ideal.ofBits .f32 0x358637BD#32)
      * on (ix2 0 d) * (z (ix3 0 i d) * Ideal.logistic (z (ix3 0 i d))) := by
  unfold fin k0_pay1
  pointwise

theorem last_apply (gr : FVec Ideal S1x64 .f32) : last gr (ix2 0 0) = gr (ix2 0 63) := by
  unfold last
  pointwise

theorem cumCols_apply (gb : Vec Ideal S1x64x128 .f32) (i : Fin 64) (c : Fin 128) :
    cumCols gb (ix2 i c) = (∑ x : Fin 64, (if x ≤ i then 1 else 0) * gb (ix3 0 x c))
      + (∑ x : Fin 64, (if x ≤ i then 1 else 0) * (gb (ix3 0 x c) - gb (ix3 0 x c)))
      + ∑ x : Fin 64, (if x ≤ i then 1 else 0) * (gb (ix3 0 x c) - gb (ix3 0 x c) - (gb (ix3 0 x c) - gb (ix3 0 x c))) := by
  unfold cumCols k0_pay10 k0_pay8 k0_pay5 k0_pay3
  pointwise
  simp only [sge_word, bit_if]

theorem cumRows_apply (gb : Vec Ideal S1x64x128 .f32) (i : Fin 64) (c : Fin 16) :
    cumRows gb (ix2 c i) = (∑ x : Fin 64, gb (ix3 0 x ⟨c.val, by omega⟩) * (if x ≤ i then 1 else 0))
      + (∑ x : Fin 64, (gb (ix3 0 x ⟨c.val, by omega⟩) - gb (ix3 0 x ⟨c.val, by omega⟩)) * (if x ≤ i then 1 else 0))
      + ∑ x : Fin 64, (gb (ix3 0 x ⟨c.val, by omega⟩) - gb (ix3 0 x ⟨c.val, by omega⟩) - (gb (ix3 0 x ⟨c.val, by omega⟩) - gb (ix3 0 x ⟨c.val, by omega⟩))) * (if x ≤ i then 1 else 0) := by
  unfold cumRows k0_pay17 k0_pay6 k0_pay8
  pointwise
  simp only [sle_word, bit_if]

end Cert.KernelIdeal.Chain

end
-- ==== Proof.Chunk.lean ====
/- The mathematics of the chunked delta rule over the reals: a recurrence taken token by token, and the same recurrence taken `n` tokens at a time with a
   triangular matrix inverted by repeated squaring. Nothing here mentions a program. -/
module

public import Mathlib.LinearAlgebra.Matrix.NonsingularInverse
public import Mathlib.Analysis.SpecialFunctions.Exp
public import Mathlib.Algebra.BigOperators.Fin
public import Mathlib.Tactic.Ring
public import Mathlib.Tactic.Linarith
public import Mathlib.Tactic.NoncommRing

@[expose] public section

noncomputable section

namespace Delta

open Finset

/-! ## The inverse by doublings -/

section Inverse

variable {n : ℕ}

/-- A power `p` of a strictly lower triangular matrix vanishes off the entries at least `p` below the diagonal. -/
theorem pow_low (M : Matrix (Fin n) (Fin n) ℝ) (h : ∀ i j, ¬ j < i → M i j = 0) (p : ℕ) :
    ∀ i j : Fin n, ¬ (j.val + p ≤ i.val) → (M ^ p) i j = 0 := by
  induction p with
  | zero =>
    intro i j hij
    rw [pow_zero, Matrix.one_apply_ne]
    rintro rfl
    exact hij (by simp)
  | succ p ih =>
    intro i j hij
    rw [pow_succ, Matrix.mul_apply]
    refine Finset.sum_eq_zero fun l _ => ?_
    by_cases hl : j < l
    · rw [ih i l (fun hh => hij (by have : j.val < l.val := hl; omega)), zero_mul]
    · rw [h l j hl, mul_zero]

/-- Its `n`-th power is zero. -/
theorem pow_low_eq_zero (M : Matrix (Fin n) (Fin n) ℝ) (h : ∀ i j, ¬ j < i → M i j = 0) (p : ℕ) (hp : n ≤ p) : M ^ p = 0 := by
  ext i j
  exact pow_low M h p i j (by have := i.isLt; omega)

/-- `j` doublings of a partial inverse `x` and a power `p`: `x + x p` and `p p`. -/
def doubles : ℕ → Matrix (Fin n) (Fin n) ℝ → Matrix (Fin n) (Fin n) ℝ → Matrix (Fin n) (Fin n) ℝ × Matrix (Fin n) (Fin n) ℝ
  | 0, x, p => (x, p)
  | j + 1, x, p => ((doubles j x p).1 + (doubles j x p).1 * (doubles j x p).2, (doubles j x p).2 * (doubles j x p).2)

theorem doubles_spec (M : Matrix (Fin n) (Fin n) ℝ) (j : ℕ) :
    (1 + M) * (doubles j (1 - M) (M * M)).1 = 1 - (doubles j (1 - M) (M * M)).2 ∧ (doubles j (1 - M) (M * M)).2 = M ^ 2 ^ (j + 1) := by
  induction j with
  | zero =>
    refine ⟨?_, ?_⟩
    · simp only [doubles]; noncomm_ring
    · simp only [doubles]; rw [zero_add, pow_one, pow_two]
  | succ j ih =>
    obtain ⟨h1, h2⟩ := ih
    refine ⟨?_, ?_⟩
    · simp only [doubles]
      rw [mul_add, ← mul_assoc, h1]; noncomm_ring
    · simp only [doubles]
      rw [h2, ← pow_add]; congr 1; rw [pow_succ 2 (j + 1)]; omega

/-- The inverse of `1 + M`, as five doublings give it. -/
def inverse (M : Matrix (Fin n) (Fin n) ℝ) : Matrix (Fin n) (Fin n) ℝ := (doubles 5 (1 - M) (M * M)).1

/-- Five doublings invert `1 + M` for a strictly lower triangular `M` of at most 64 rows. -/
theorem inverse_mul (M : Matrix (Fin n) (Fin n) ℝ) (h : ∀ i j, ¬ j < i → M i j = 0) (hn : n ≤ 64) : inverse M * (1 + M) = 1 := by
  rw [mul_eq_one_comm]
  have := doubles_spec M 5
  rw [inverse, this.1, this.2, pow_low_eq_zero M h _ (by simpa using hn), sub_zero]

end Inverse

/-! ## The recurrence -/

section Recurrence

variable {D : ℕ} (k v : ℕ → Fin D → ℝ) (β g : ℕ → ℝ)

/-- The state after `t` tokens: decayed, then corrected by the outer product of the key with the scaled error of its prediction. -/
def state : ℕ → Fin D → Fin D → ℝ
  | 0 => fun _ _ => 0
  | t + 1 => fun a d => state t a d * Real.exp (g t)
      + k t a * (β t * (v t d - ∑ a', state t a' d * Real.exp (g t) * k t a'))

/-- The scaled error of token `t`. -/
def err (t : ℕ) (d : Fin D) : ℝ := β t * (v t d - ∑ a', state k v β g t a' d * Real.exp (g t) * k t a')

/-- The gates' running sum over the first `i` tokens from token `s`. -/
def run (s i : ℕ) : ℝ := ∑ j ∈ range i, g (s + j)

theorem run_succ (s i : ℕ) : run g s (i + 1) = run g s i + g (s + i) := by simp [run, sum_range_succ]

/-- The state `i` tokens after token `s`, unrolled. -/
theorem state_add (s i : ℕ) (a d : Fin D) :
    state k v β g (s + i) a d = Real.exp (run g s i) * state k v β g s a d
      + ∑ j ∈ range i, Real.exp (run g s i - run g s (j + 1)) * k (s + j) a * err k v β g (s + j) d := by
  induction i with
  | zero => simp [run]
  | succ i ih =>
    have hs : state k v β g (s + (i + 1)) a d
        = state k v β g (s + i) a d * Real.exp (g (s + i)) + k (s + i) a * err k v β g (s + i) d := rfl
    rw [hs, ih, sum_range_succ, sub_self, Real.exp_zero, run_succ, add_mul, sum_mul, Real.exp_add]
    have : ∀ j ∈ range i, Real.exp (run g s i - run g s (j + 1)) * k (s + j) a * err k v β g (s + j) d * Real.exp (g (s + i))
        = Real.exp (run g s i + g (s + i) - run g s (j + 1)) * k (s + j) a * err k v β g (s + j) d := by
      intro j _
      rw [show run g s i + g (s + i) - run g s (j + 1) = (run g s i - run g s (j + 1)) + g (s + i) by ring, Real.exp_add]
      ring
    rw [sum_congr rfl this]
    ring

/-- The decayed state at token `s + i` before its correction. -/
theorem decayed_add (s i : ℕ) (a d : Fin D) :
    state k v β g (s + i) a d * Real.exp (g (s + i)) = Real.exp (run g s (i + 1)) * state k v β g s a d
      + ∑ j ∈ range i, Real.exp (run g s (i + 1) - run g s (j + 1)) * k (s + j) a * err k v β g (s + j) d := by
  have h := state_add k v β g s (i + 1) a d
  have hs : state k v β g (s + (i + 1)) a d
      = state k v β g (s + i) a d * Real.exp (g (s + i)) + k (s + i) a * err k v β g (s + i) d := rfl
  rw [hs, sum_range_succ, sub_self, Real.exp_zero] at h
  linarith

variable (q : ℕ → Fin D → ℝ) {n : ℕ}

/-- The strictly lower triangular matrix of a chunk of `n` tokens from token `s`. -/
def lower (s : ℕ) : Matrix (Fin n) (Fin n) ℝ := fun i j =>
  if j < i then (∑ a, k (s + i) a * β (s + i) * k (s + j) a) * Real.exp (run g s (i + 1) - run g s (j + 1)) else 0

/-- The scaled values. -/
def bv (s : ℕ) : Matrix (Fin n) (Fin D) ℝ := fun i d => v (s + i) d * β (s + i)

/-- The scaled, decayed keys. -/
def bk (s : ℕ) : Matrix (Fin n) (Fin D) ℝ := fun i a => k (s + i) a * β (s + i) * Real.exp (run g s (i + 1))

/-- The errors of a chunk. -/
def errs (s : ℕ) : Matrix (Fin n) (Fin D) ℝ := fun i d => err k v β g (s + i) d

/-- The state as a matrix. -/
def stM (s : ℕ) : Matrix (Fin D) (Fin D) ℝ := fun a d => state k v β g s a d

theorem sum_fin_lt (i : Fin n) (f : ℕ → ℝ) : (∑ j : Fin n, if j < i then f j else 0) = ∑ j ∈ range i, f j := by
  have h1 : (∑ j : Fin n, if j < i then f j else 0) = ∑ j ∈ range n, if j < i.val then f j else 0 := by
    rw [Finset.sum_range]; rfl
  rw [h1, ← Finset.sum_filter]
  congr 1
  ext j; simp only [mem_filter, mem_range]; have := i.isLt; omega

theorem sum_fin_le (i : Fin n) (f : ℕ → ℝ) : (∑ j : Fin n, if j ≤ i then f j else 0) = ∑ j ∈ range (i + 1), f j := by
  have h1 : (∑ j : Fin n, if j ≤ i then f j else 0) = ∑ j ∈ range n, if j ≤ i.val then f j else 0 := by
    rw [Finset.sum_range]; rfl
  rw [h1, ← Finset.sum_filter]
  congr 1
  ext j; simp only [mem_filter, mem_range]; have := i.isLt; omega

/-- The errors solve the chunk's triangular system. -/
theorem errs_eq (s : ℕ) : (1 + (lower k β g s : Matrix (Fin n) (Fin n) ℝ)) * (errs k v β g s : Matrix (Fin n) (Fin D) ℝ)
      = (bv v β s : Matrix (Fin n) (Fin D) ℝ) - (bk k β g s : Matrix (Fin n) (Fin D) ℝ) * stM k v β g s := by
  ext i d
  rw [Matrix.add_mul, Matrix.one_mul, Matrix.add_apply, Matrix.sub_apply, Matrix.mul_apply, Matrix.mul_apply]
  have h1 : (∑ j : Fin n, lower k β g s i j * errs k v β g s j d)
      = ∑ j ∈ range i, (∑ a, k (s + i) a * β (s + i) * k (s + j) a) * Real.exp (run g s (i + 1) - run g s (j + 1)) * err k v β g (s + j) d := by
    rw [← sum_fin_lt i]
    refine sum_congr rfl fun j _ => ?_
    simp only [lower, errs]
    split_ifs <;> simp
  rw [h1]
  have h2 : errs k v β g s i d = v (s + i) d * β (s + i)
      - ∑ a, k (s + i) a * β (s + i) * (state k v β g (s + i) a d * Real.exp (g (s + i))) := by
    simp only [errs, err]
    rw [mul_sub, mul_sum, mul_comm]
    congr 1
    exact sum_congr rfl fun a _ => by ring
  rw [h2]
  simp only [decayed_add, bv, bk, stM]
  simp only [mul_add, sum_add_distrib, mul_sum, sum_mul]
  rw [Finset.sum_comm (s := univ) (t := range i)]
  have e1 : ∀ j ∈ range i, (∑ a, k (s + i) a * β (s + i) * (Real.exp (run g s (i + 1) - run g s (j + 1)) * k (s + j) a * err k v β g (s + j) d))
      = ∑ a, k (s + i) a * β (s + i) * k (s + j) a * Real.exp (run g s (i + 1) - run g s (j + 1)) * err k v β g (s + j) d :=
    fun j _ => sum_congr rfl fun a _ => by ring
  have e2 : ∀ a ∈ (univ : Finset (Fin D)), k (s + i) a * β (s + i) * (Real.exp (run g s (i + 1)) * state k v β g s a d)
      = k (s + i) a * β (s + i) * Real.exp (run g s (i + 1)) * state k v β g s a d := fun a _ => by ring
  rw [sum_congr rfl e1, sum_congr rfl e2]
  ring

/-- The chunk's corrected values, as the inverse gives them, are its errors. -/
theorem solved (s : ℕ) (hn : n ≤ 64) :
    inverse (lower k β g s : Matrix (Fin n) (Fin n) ℝ) * (bv v β s : Matrix (Fin n) (Fin D) ℝ)
      - inverse (lower k β g s : Matrix (Fin n) (Fin n) ℝ) * (bk k β g s : Matrix (Fin n) (Fin D) ℝ) * stM k v β g s = errs k v β g s := by
  rw [Matrix.mul_assoc, ← Matrix.mul_sub, ← errs_eq, ← Matrix.mul_assoc,
    inverse_mul _ (fun i j h => by simp [lower, h]) hn, Matrix.one_mul]

/-- The state after the chunk. -/
theorem state_chunk (s : ℕ) (a d : Fin D) :
    state k v β g (s + n) a d = state k v β g s a d * Real.exp (run g s n)
      + ∑ j : Fin n, k (s + j) a * Real.exp (run g s n - run g s (j + 1)) * errs k v β g s j d := by
  rw [state_add, Finset.sum_range, mul_comm]
  congr 1
  exact sum_congr rfl fun j _ => by simp only [errs]; ring

/-- A token's output: its query against the state that includes it. -/
def outp (t : ℕ) (d : Fin D) : ℝ := ∑ a, state k v β g (t + 1) a d * q t a

/-- A token's output in the chunk's terms. -/
theorem outp_chunk (s : ℕ) (i : Fin n) (d : Fin D) :
    outp k v β g q (s + i) d = (∑ a, q (s + i) a * Real.exp (run g s (i + 1)) * state k v β g s a d)
      + ∑ j : Fin n, (∑ a, q (s + i) a * k (s + j) a) * (if j ≤ i then Real.exp (run g s (i + 1) - run g s (j + 1)) else 0) * errs k v β g s j d := by
  have h1 : (∑ j : Fin n, (∑ a, q (s + i) a * k (s + j) a) * (if j ≤ i then Real.exp (run g s (i + 1) - run g s (j + 1)) else 0) * errs k v β g s j d)
      = ∑ j ∈ range (i + 1), (∑ a, q (s + i) a * k (s + j) a) * Real.exp (run g s (i + 1) - run g s (j + 1)) * err k v β g (s + j) d := by
    rw [← sum_fin_le i]
    refine sum_congr rfl fun j _ => ?_
    simp only [errs]
    split_ifs <;> simp
  rw [h1, outp]
  simp only [add_assoc s, state_add, add_mul, sum_add_distrib, sum_mul]
  rw [Finset.sum_comm (s := univ) (t := range (i + 1))]
  congr 1
  · exact sum_congr rfl fun a _ => by ring
  · exact sum_congr rfl fun j _ => sum_congr rfl fun a _ => by ring

end Recurrence

end Delta

end
-- ==== Proof.RealChain.lean ====
/- The chain functions at real operands: a chain of 64 tokens computes the delta rule's errors, outputs and next state. -/
module

public import proofs.«01_k».proof.Proof.Read
public import proofs.«01_k».proof.Proof.Chunk

@[expose] public section

set_option maxRecDepth 16384

noncomputable section

namespace Cert.KernelIdeal.Chain

open Idealize.ShloMosaic Idealize.SL.Sem Cert.KernelIdeal Cert.KernelIdeal.Gen

/-- A sum of reals among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A choice between two reals. -/
theorem coe_ite (p : Prop) [Decidable p] (a b : ℝ) : (if p then (a : EReal) else (b : EReal)) = ((if p then a else b : ℝ) : EReal) := by
  split_ifs <;> rfl

variable {gb : Vec Ideal S1x64x128 .f32}

/-- The running sums of real gates. -/
theorem cumCols_real {c : Fin 128} {g : ℕ → ℝ} {s : ℕ} (h : ∀ x : Fin 64, gb (ix3 0 x c) = (g (s + x) : ℝ)) (i : Fin 64) :
    cumCols gb (ix2 i c) = (Delta.run g s (i + 1) : ℝ) := by
  rw [cumCols_apply]
  simp only [h, ← EReal.coe_sub, sub_self, EReal.coe_zero, sub_zero, mul_zero, Finset.sum_const_zero, add_zero]
  have : ∀ x : Fin 64, (if x ≤ i then (1 : EReal) else 0) * ((g (s + x) : ℝ) : EReal) = ((if x ≤ i then g (s + x) else 0 : ℝ) : EReal) := by
    intro x; split_ifs <;> simp
  simp only [this, coe_sum]
  rw [Delta.sum_fin_le i (fun x => g (s + x))]
  rfl

theorem cumRows_real {c : Fin 16} {g : ℕ → ℝ} {s : ℕ} (h : ∀ x : Fin 64, gb (ix3 0 x ⟨c.val, by omega⟩) = (g (s + x) : ℝ)) (i : Fin 64) :
    cumRows gb (ix2 c i) = (Delta.run g s (i + 1) : ℝ) := by
  rw [cumRows_apply]
  simp only [h, ← EReal.coe_sub, sub_self, EReal.coe_zero, sub_zero, zero_mul, Finset.sum_const_zero, add_zero]
  have : ∀ x : Fin 64, ((g (s + x) : ℝ) : EReal) * (if x ≤ i then (1 : EReal) else 0) = ((if x ≤ i then g (s + x) else 0 : ℝ) : EReal) := by
    intro x; split_ifs <;> simp
  simp only [this, coe_sum]
  rw [Delta.sum_fin_le i (fun x => g (s + x))]
  rfl

/-- The doublings at real matrices. -/
theorem dbls_real {x p : FVec Ideal S64x64 .f32} {X P : Matrix (Fin 64) (Fin 64) ℝ}
    (hx : ∀ i j, x (ix2 i j) = (X i j : ℝ)) (hp : ∀ i j, p (ix2 i j) = (P i j : ℝ)) (n : ℕ) :
    (∀ i j, (dbls n x p).1 (ix2 i j) = ((Delta.doubles n X P).1 i j : ℝ)) ∧ ∀ i j, (dbls n x p).2 (ix2 i j) = ((Delta.doubles n X P).2 i j : ℝ) := by
  induction n with
  | zero => exact ⟨hx, hp⟩
  | succ n ih =>
    obtain ⟨h1, h2⟩ := ih
    refine ⟨fun i j => ?_, fun i j => ?_⟩
    · simp only [dbls, nx_apply, h1, h2, ← EReal.coe_mul, coe_sum, ← EReal.coe_add]; rfl
    · simp only [dbls, np_apply, h2, ← EReal.coe_mul, coe_sum]; rfl

/-- The inverse of a real matrix. -/
theorem inv_real {m : FVec Ideal S64x64 .f32} {M : Matrix (Fin 64) (Fin 64) ℝ} (hm : ∀ i j, m (ix2 i j) = (M i j : ℝ)) (i j : Fin 64) :
    inv m (ix2 i j) = (Delta.inverse M i j : ℝ) := by
  refine (dbls_real (X := 1 - M) (P := M * M) (fun i j => ?_) (fun i j => ?_) 5).1 i j
  · rw [one_sub_apply, hm, Matrix.sub_apply, Matrix.one_apply, EReal.coe_sub]
    congr 1
    split_ifs <;> simp
  · simp only [sq_apply, hm, ← EReal.coe_mul, coe_sum]; rfl

section

variable {q k v : FVec Ideal S64x128 .f32} {b gc : FVec Ideal S64x1 .f32} {gr : FVec Ideal S1x64 .f32} {S : FVec Ideal S128x128 .f32}
variable {Q K V : ℕ → Fin 128 → ℝ} {β g : ℕ → ℝ} {s : ℕ}
variable (hq : ∀ (i : Fin 64) a, q (ix2 i a) = (Q (s + i) a : ℝ)) (hk : ∀ (i : Fin 64) a, k (ix2 i a) = (K (s + i) a : ℝ))
  (hv : ∀ (i : Fin 64) a, v (ix2 i a) = (V (s + i) a : ℝ)) (hb : ∀ i : Fin 64, b (ix2 i 0) = (β (s + i) : ℝ))
  (hgc : ∀ i : Fin 64, gc (ix2 i 0) = (Delta.run g s (i + 1) : ℝ)) (hgr : ∀ i : Fin 64, gr (ix2 0 i) = (Delta.run g s (i + 1) : ℝ))
  (hS : ∀ a d, S (ix2 a d) = (Delta.state K V β g s a d : ℝ))

include hgc hgr in
theorem dec_real (i j : Fin 64) :
    dec gc gr (ix2 i j) = ((if j ≤ i then Real.exp (Delta.run g s (i + 1) - Delta.run g s (j + 1)) else 0 : ℝ) : EReal) := by
  rw [dec_apply, hgc, hgr, ← EReal.coe_sub, Ideal.exp_coe, ← coe_ite]
  rfl

include hk hb hgc hgr in
theorem low_real (i j : Fin 64) : low (both q k b) (dec gc gr) (ix2 i j) = (Delta.lower K β g s i j : ℝ) := by
  rw [low_apply, both_top, dec_real hgc hgr]
  simp only [hk, hb, ← EReal.coe_mul, coe_sum]
  rw [← EReal.coe_zero, coe_ite]
  congr 1
  unfold Delta.lower
  split_ifs with h h'
  · rfl
  · exact absurd (le_of_lt h) h'
  · rfl

include hk hv hb hgc hgr in
theorem sol_left_real (i : Fin 64) (d : Fin 128) :
    cSol q k v b gc gr (ix2 i ⟨d.val, by omega⟩) = (((Delta.inverse (Delta.lower K β g s) * Delta.bv V β s : Matrix (Fin 64) (Fin 128) ℝ) i d : ℝ) : EReal) := by
  unfold cSol
  rw [sol_left]
  simp only [inv_real (low_real hk hb hgc hgr), hv, hb, ← EReal.coe_mul, coe_sum]
  rfl

include hk hb hgc hgr in
theorem sol_right_real (i : Fin 64) (d : Fin 128) :
    cSol q k v b gc gr (ix2 i ⟨128 + d.val, by omega⟩)
      = (((Delta.inverse (Delta.lower K β g s) * Delta.bk K β g s : Matrix (Fin 64) (Fin 128) ℝ) i d : ℝ) : EReal) := by
  unfold cSol
  rw [sol_right]
  simp only [inv_real (low_real hk hb hgc hgr), hk, hb, hgc, Ideal.exp_coe, ← EReal.coe_mul, coe_sum]
  rfl

include hk hv hb hgc hgr hS in
theorem vn_real (i : Fin 64) (d : Fin 128) : cVn q k v b gc gr S (ix2 i d) = (Delta.errs K V β g s i d : ℝ) := by
  unfold cVn cWs
  rw [vn_apply, ws_top, sol_left_real hk hv hb hgc hgr]
  simp only [sol_right_real hk hb hgc hgr, hS, ← EReal.coe_mul, coe_sum, ← EReal.coe_sub]
  rw [← Delta.solved K V β g s (le_refl 64)]
  rfl

include hk hv hb hgc hgr hS in
/-- A chain's next state is the delta rule's, 64 tokens on. -/
theorem st_real (a d : Fin 128) : cSt q k v b gc gr S (ix4 0 0 a d) = (Delta.state K V β g (s + 64) a d : ℝ) := by
  unfold cSt
  rw [st_apply, Delta.state_chunk]
  simp only [last_apply, kdec_apply, hk, hgr, hgc, hS, vn_real hk hv hb hgc hgr hS, ← EReal.coe_sub, Ideal.exp_coe, ← EReal.coe_mul, coe_sum, ← EReal.coe_add]
  rfl

include hq hk hv hb hgc hgr hS in
/-- A chain's outputs before the norm are the delta rule's. -/
theorem out_real (i : Fin 64) (d : Fin 128) :
    out (cWs q k v b gc gr S) (both q k b) (dec gc gr) (cVn q k v b gc gr S) (ix2 i d) = (Delta.outp K V β g Q (s + i) d : ℝ) := by
  rw [out_apply, Delta.outp_chunk]
  unfold cWs
  rw [ws_bot]
  simp only [both_bot, hq, hk, hgc, hS, vn_real hk hv hb hgc hgr hS, dec_real hgc hgr, Ideal.exp_coe, ← EReal.coe_mul, coe_sum, ← EReal.coe_add]

end

end Cert.KernelIdeal.Chain

end
-- ==== Proof.Blocks.lean ====
/- The blocks the grid points load, as parts of the argument arrays: point `t` takes batch rows `2 (t / 64)` and the next, tokens from `64 (t % 64)`. -/
module

public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.KernelIdeal.Chain

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

theorem index0 : ∀ t : Fin cfg0.N, win0_0.index t = ![t.val / 64, t.val % 64, 0] := (by decide +kernel : ∀ t : Fin grid0.N, _)

/-- Window 0's block at an index. -/
theorem blk0 (c : Dev nD) (t : Fin cfg0.N) (r : Fin 2) (i : Fin 64) (x : Fin 1024) (b : Fin 4) (n : Fin 4096)
    (hb : b.val = 2 * (t.val / 64) + r.val) (hn : n.val = 64 * (t.val % 64) + i.val) :
    (iblk m c 0 t : Vec F S2x64x1024 .bf16) (ix3 r i x) = m ((c : Thread nD τ).loc main_arg0) (ix3 b n ⟨0 + x.val, by omega⟩) := by
  have hi := index0 t
  unfold iblk
  rw [View.read_apply, ← V_main_arg0 m c]
  show V m c main_arg0 _ = V m c main_arg0 _
  congr 1
  funext a
  apply Fin.ext
  match a with
  | ⟨0, _⟩ => show win0_0.index t 0 * 2 + 1 * r.val = b.val; rw [hi, hb]; show t.val / 64 * 2 + 1 * r.val = _; omega
  | ⟨1, _⟩ => show win0_0.index t 1 * 64 + 1 * i.val = n.val; rw [hi, hn]; show t.val % 64 * 64 + 1 * i.val = _; omega
  | ⟨2, _⟩ => show win0_0.index t 2 * 1024 + 1 * x.val = 0 + x.val; rw [hi]; show 0 * 1024 + 1 * x.val = _; omega

theorem index1 : ∀ t : Fin cfg0.N, win0_1.index t = ![t.val / 64, t.val % 64, 1] := (by decide +kernel : ∀ t : Fin grid0.N, _)

/-- Window 1's block at an index. -/
theorem blk1 (c : Dev nD) (t : Fin cfg0.N) (r : Fin 2) (i : Fin 64) (x : Fin 1024) (b : Fin 4) (n : Fin 4096)
    (hb : b.val = 2 * (t.val / 64) + r.val) (hn : n.val = 64 * (t.val % 64) + i.val) :
    (iblk m c 1 t : Vec F S2x64x1024 .bf16) (ix3 r i x) = m ((c : Thread nD τ).loc main_arg0) (ix3 b n ⟨1024 + x.val, by omega⟩) := by
  have hi := index1 t
  unfold iblk
  rw [View.read_apply, ← V_main_arg0 m c]
  show V m c main_arg0 _ = V m c main_arg0 _
  congr 1
  funext a
  apply Fin.ext
  match a with
  | ⟨0, _⟩ => show win0_1.index t 0 * 2 + 1 * r.val = b.val; rw [hi, hb]; show t.val / 64 * 2 + 1 * r.val = _; omega
  | ⟨1, _⟩ => show win0_1.index t 1 * 64 + 1 * i.val = n.val; rw [hi, hn]; show t.val % 64 * 64 + 1 * i.val = _; omega
  | ⟨2, _⟩ => show win0_1.index t 2 * 1024 + 1 * x.val = 1024 + x.val; rw [hi]; show 1 * 1024 + 1 * x.val = _; omega

theorem index2 : ∀ t : Fin cfg0.N, win0_2.index t = ![t.val / 64, t.val % 64, 2] := (by decide +kernel : ∀ t : Fin grid0.N, _)

/-- Window 2's block at an index. -/
theorem blk2 (c : Dev nD) (t : Fin cfg0.N) (r : Fin 2) (i : Fin 64) (x : Fin 1024) (b : Fin 4) (n : Fin 4096)
    (hb : b.val = 2 * (t.val / 64) + r.val) (hn : n.val = 64 * (t.val % 64) + i.val) :
    (iblk m c 2 t : Vec F S2x64x1024 .bf16) (ix3 r i x) = m ((c : Thread nD τ).loc main_arg0) (ix3 b n ⟨2048 + x.val, by omega⟩) := by
  have hi := index2 t
  unfold iblk
  rw [View.read_apply, ← V_main_arg0 m c]
  show V m c main_arg0 _ = V m c main_arg0 _
  congr 1
  funext a
  apply Fin.ext
  match a with
  | ⟨0, _⟩ => show win0_2.index t 0 * 2 + 1 * r.val = b.val; rw [hi, hb]; show t.val / 64 * 2 + 1 * r.val = _; omega
  | ⟨1, _⟩ => show win0_2.index t 1 * 64 + 1 * i.val = n.val; rw [hi, hn]; show t.val % 64 * 64 + 1 * i.val = _; omega
  | ⟨2, _⟩ => show win0_2.index t 2 * 1024 + 1 * x.val = 2048 + x.val; rw [hi]; show 2 * 1024 + 1 * x.val = _; omega

theorem index3 : ∀ t : Fin cfg0.N, win0_3.index t = ![t.val / 64, t.val % 64, 6] := (by decide +kernel : ∀ t : Fin grid0.N, _)

/-- Window 3's block at an index. -/
theorem blk3 (c : Dev nD) (t : Fin cfg0.N) (r : Fin 2) (i : Fin 64) (x : Fin 1024) (b : Fin 4) (n : Fin 4096)
    (hb : b.val = 2 * (t.val / 64) + r.val) (hn : n.val = 64 * (t.val % 64) + i.val) :
    (iblk m c 3 t : Vec F S2x64x1024 .bf16) (ix3 r i x) = m ((c : Thread nD τ).loc main_arg1) (ix3 b n ⟨6144 + x.val, by omega⟩) := by
  have hi := index3 t
  unfold iblk
  rw [View.read_apply, ← V_main_arg1 m c]
  show V m c main_arg1 _ = V m c main_arg1 _
  congr 1
  funext a
  apply Fin.ext
  match a with
  | ⟨0, _⟩ => show win0_3.index t 0 * 2 + 1 * r.val = b.val; rw [hi, hb]; show t.val / 64 * 2 + 1 * r.val = _; omega
  | ⟨1, _⟩ => show win0_3.index t 1 * 64 + 1 * i.val = n.val; rw [hi, hn]; show t.val % 64 * 64 + 1 * i.val = _; omega
  | ⟨2, _⟩ => show win0_3.index t 2 * 1024 + 1 * x.val = 6144 + x.val; rw [hi]; show 6 * 1024 + 1 * x.val = _; omega

theorem index4 : ∀ t : Fin cfg0.N, win0_4.index t = ![t.val / 64, t.val % 64, 0] := (by decide +kernel : ∀ t : Fin grid0.N, _)

/-- Window 4's block at an index. -/
theorem blk4 (c : Dev nD) (t : Fin cfg0.N) (r : Fin 2) (i : Fin 64) (x : Fin 128) (b : Fin 4) (n : Fin 4096)
    (hb : b.val = 2 * (t.val / 64) + r.val) (hn : n.val = 64 * (t.val % 64) + i.val) :
    (iblk m c 4 t : Vec F S2x64x128 .f32) (ix3 r i x) = m ((c : Thread nD τ).loc main_arg2) (ix3 b n ⟨0 + x.val, by omega⟩) := by
  have hi := index4 t
  unfold iblk
  rw [View.read_apply, ← V_main_arg2 m c]
  show V m c main_arg2 _ = V m c main_arg2 _
  congr 1
  funext a
  apply Fin.ext
  match a with
  | ⟨0, _⟩ => show win0_4.index t 0 * 2 + 1 * r.val = b.val; rw [hi, hb]; show t.val / 64 * 2 + 1 * r.val = _; omega
  | ⟨1, _⟩ => show win0_4.index t 1 * 64 + 1 * i.val = n.val; rw [hi, hn]; show t.val % 64 * 64 + 1 * i.val = _; omega
  | ⟨2, _⟩ => show win0_4.index t 2 * 128 + 1 * x.val = 0 + x.val; rw [hi]; show 0 * 128 + 1 * x.val = _; omega

/-- The norm's weight as the kernel's row. -/
theorem V_main_v1 (c : Dev nD) (d : Fin 128) :
    V m c main_v1 (ix2 0 d) = m ((c : Thread nD τ).loc main_arg3) (ix2 0 d) := by
  unfold V
  after_reads_at

theorem index5 : ∀ t : Fin cfg0.N, win0_5.index t = ![0, 0] := (by decide +kernel : ∀ t : Fin grid0.N, _)

/-- Window 5's block at an index. -/
theorem blk5 (c : Dev nD) (t : Fin cfg0.N) (d : Fin 128) :
    (iblk m c 5 t : Vec F S1x128 .f32) (ix2 0 d) = m ((c : Thread nD τ).loc main_arg3) (ix2 0 d) := by
  have hi := index5 t
  rw [← V_main_v1 m c d]
  unfold iblk
  rw [View.read_apply]
  show V m c main_v1 _ = V m c main_v1 _
  congr 1
  funext a
  apply Fin.ext
  match a with
  | ⟨0, _⟩ => show win0_5.index t 0 * 1 + 1 * 0 = 0; rw [hi]; rfl
  | ⟨1, _⟩ => show win0_5.index t 1 * 128 + 1 * d.val = d.val; rw [hi]; show 0 * 128 + 1 * d.val = _; omega

end Cert.KernelIdeal.Chain

end
-- ==== Proof.KernelValue.lean ====
/- The kernel's result over the extended reals, for finite queries, keys, values and gates: the delta rule's outputs, normalised, weighted and gated. -/
module

public import proofs.«01_k».proof.Proof.Stored
public import proofs.«01_k».proof.Proof.RealChain
public import proofs.«01_k».proof.Proof.Blocks
public import proofs.«01_k».proof.Proof.Gen.KernelIdeal.Value

@[expose] public section

set_option maxRecDepth 16384

noncomputable section

namespace Cert.KernelIdeal.Chain

open Idealize.ShloMosaic Idealize.ShloMosaic.TcCoe Idealize.SL.Sem Cert.KernelIdeal Cert.KernelIdeal.Gen

/-! ## A chain's loads at an index -/

section Loads

theorem ld_rQ (X : Vec Ideal S2x64x1024 .bf16) (r : Fin 2) (h : Fin 8) (i : Fin 64) (d : Fin 128) :
    View.ld (Val := Elt Ideal) X (rQ r h) (ix3 0 i d : S1x64x128.Idx) = X (ix3 r i ⟨128 * h.val + d.val, by omega⟩) :=
  congrArg X (emb_rQ r h i d)

theorem ld_rS (X : Vec Ideal S2x8x128x128 .f32) (r : Fin 2) (h : Fin 8) (a d : Fin 128) :
    View.ld (Val := Elt Ideal) X (rS r h) (ix4 0 0 a d : S1x1x128x128.Idx) = X (ix4 r h a d) :=
  congrArg X (emb_rS r h a d)

theorem ld_rG (X : Vec Ideal S2x64x128 .f32) (r : Fin 2) (i : Fin 64) (d : Fin 128) :
    View.ld (Val := Elt Ideal) X (rG r) (ix3 0 i d : S1x64x128.Idx) = X (ix3 r i d) := by
  refine congrArg X ?_
  funext a
  refine Fin.ext ?_
  show ((rG r).emb (ix3 0 i d : S1x64x128.Idx) a).val = _
  rw [Rect.emb_apply]
  revert a
  simp [Fin.forall_fin_succ, ix3]

theorem bCol_apply (gb : Vec Ideal S1x64x128 .f32) (h : Fin 8) (i : Fin 64) : bCol gb h (ix2 i 0) = gb (ix3 0 i ⟨h.val, by omega⟩) := by
  unfold bCol
  pointwise

theorem gCol_apply (gb : Vec Ideal S1x64x128 .f32) (h : Fin 8) (i : Fin 64) : gCol gb h (ix2 i 0) = cumCols gb (ix2 i ⟨8 + h.val, by omega⟩) := by
  unfold gCol
  pointwise

theorem gRow_apply (gb : Vec Ideal S1x64x128 .f32) (h : Fin 8) (i : Fin 64) : gRow gb h (ix2 0 i) = cumRows gb (ix2 ⟨8 + h.val, by omega⟩ i) := by
  unfold gRow
  pointwise

theorem sq0_apply (s : Vec Ideal S1x1x128x128 .f32) (a d : Fin 128) : sq0 s (ix2 a d) = s (ix4 0 0 a d) := by
  unfold sq0
  pointwise

end Loads

/-! ## A chain's stored values for real blocks -/

section Chains

variable {Q K V Z : Vec Ideal S2x64x1024 .bf16} {GB : Vec Ideal S2x64x128 .f32} {N : Vec Ideal S1x128 .f32} {r : Fin 2} {h : Fin 8} {S : Vec Ideal S1x1x128x128 .f32}
variable {q k v : ℕ → Fin 128 → ℝ} {β g : ℕ → ℝ} {s : ℕ}
variable (hq : ∀ (i : Fin 64) (a : Fin 128), Q (ix3 r i ⟨128 * h.val + a.val, by omega⟩) = (q (s + i) a : ℝ))
  (hk : ∀ (i : Fin 64) (a : Fin 128), K (ix3 r i ⟨128 * h.val + a.val, by omega⟩) = (k (s + i) a : ℝ))
  (hv : ∀ (i : Fin 64) (a : Fin 128), V (ix3 r i ⟨128 * h.val + a.val, by omega⟩) = (v (s + i) a : ℝ))
  (hb : ∀ i : Fin 64, GB (ix3 r i ⟨h.val, by omega⟩) = (β (s + i) : ℝ))
  (hg : ∀ i : Fin 64, GB (ix3 r i ⟨8 + h.val, by omega⟩) = (g (s + i) : ℝ))
  (hS : ∀ a d, S (ix4 0 0 a d) = (Delta.state k v β g s a d : ℝ))

include hk hv hb hg hS in
/-- The state stored. -/
theorem kSt_real (a d : Fin 128) : kSt Q K V GB r h S (ix4 0 0 a d) = (Delta.state k v β g (s + 64) a d : ℝ) := by
  unfold kSt
  refine st_real (s := s) (fun i a => ?_) (fun i a => ?_) (fun i => ?_) (fun i => ?_) (fun i => ?_) (fun a d => ?_) a d
  · rw [wide_apply, ld_rQ, hk]
  · rw [wide_apply, ld_rQ, hv]
  · rw [bCol_apply, ld_rG, hb]
  · rw [gCol_apply]; exact cumCols_real (fun x => (ld_rG GB r x _).trans (hg x)) i
  · rw [gRow_apply]; exact cumRows_real (fun x => (ld_rG GB r x _).trans (hg x)) i
  · rw [sq0_apply, hS]

/-- A row of real outputs, normalised, weighted and gated. -/
def gated (o : Fin 128 → ℝ) (w z : EReal) (d : Fin 128) : EReal :=
  (o d : EReal) * Ideal.rsqrt (Ideal.div (∑ x, (o x : EReal) * (o x : EReal)) (Ideal.ofBits .f32 0x43000000#32) + Ideal.ofBits .f32 0x358637BD#32)
    * w * (z * Ideal.logistic z)

include hq hk hv hb hg hS in
/-- The output stored. -/
theorem kOut_real (i : Fin 64) (d : Fin 128) :
    kOut Q K V Z GB N r h S (ix3 0 i d)
      = gated (Delta.outp k v β g q (s + i)) (N (ix2 0 d)) (Z (ix3 r i ⟨128 * h.val + d.val, by omega⟩)) d := by
  have ho := out_real (q := wide (View.ld (Val := Elt Ideal) Q (rQ r h))) (k := wide (View.ld (Val := Elt Ideal) K (rQ r h)))
    (v := wide (View.ld (Val := Elt Ideal) V (rQ r h))) (b := bCol (View.ld (Val := Elt Ideal) GB (rG r)) h)
    (gc := gCol (View.ld (Val := Elt Ideal) GB (rG r)) h) (gr := gRow (View.ld (Val := Elt Ideal) GB (rG r)) h) (S := sq0 S)
    (Q := q) (K := k) (V := v) (β := β) (g := g) (s := s)
    (fun i a => by rw [wide_apply, ld_rQ, hq]) (fun i a => by rw [wide_apply, ld_rQ, hk]) (fun i a => by rw [wide_apply, ld_rQ, hv])
    (fun i => by rw [bCol_apply, ld_rG, hb]) (fun i => by rw [gCol_apply]; exact cumCols_real (fun x => (ld_rG GB r x _).trans (hg x)) i)
    (fun i => by rw [gRow_apply]; exact cumRows_real (fun x => (ld_rG GB r x _).trans (hg x)) i) (fun a d => by rw [sq0_apply, hS])
  unfold kOut cOut
  rw [fin_apply]
  simp only [ho, ld_rQ]
  unfold gated
  have hN : View.ld (Val := Elt Ideal) N (Rect.unit (s := S1x128) ![0, 0] S1x128.size inb_S1x128_S1x128_0_0) (ix2 0 d) = N (ix2 0 d) := ?_
  · rw [hN]
    have hZ : View.ld (Val := Elt Ideal) Z (rQ r h) (ix3 0 i d) = Z (ix3 r i ⟨128 * h.val + d.val, by omega⟩) := ld_rQ Z r h i d
    rw [hZ]
  refine congrArg N ?_
  funext a
  refine Fin.ext ?_
  show ((Rect.unit (s := S1x128) ![0, 0] S1x128.size inb_S1x128_S1x128_0_0).emb (ix2 0 d : S1x128.Idx) a).val = _
  rw [Rect.emb_apply]
  revert a
  simp [Fin.forall_fin_succ, ix2]

end Chains

/-! ## The launched arrays as real sequences -/

/-- A finite sequence of 4096 tokens continued by zeros. -/
def tok (f : Fin 4096 → ℝ) (n : ℕ) : ℝ := if h : n < 4096 then f ⟨n, h⟩ else 0

theorem tok_lt (f : Fin 4096 → ℝ) (n : Fin 4096) : tok f n.val = f n := by unfold tok; rw [dif_pos n.isLt]

/-- Head `h` of batch row `b` of the `p`-th of queries, keys and values. -/
def part (A : S4x4096x3072.Idx → EReal) (p : Fin 3) (b : Fin 4) (h : Fin 8) (n : ℕ) (a : Fin 128) : ℝ :=
  tok (fun n => (A (ix3 b n ⟨1024 * p.val + 128 * h.val + a.val, by omega⟩)).toReal) n

theorem part_lt (A : S4x4096x3072.Idx → EReal) (p : Fin 3) (b : Fin 4) (h : Fin 8) (n : Fin 4096) (a : Fin 128) :
    part A p b h n.val a = (A (ix3 b n ⟨1024 * p.val + 128 * h.val + a.val, by omega⟩)).toReal := tok_lt _ n

/-- Its betas (`p = 0`) and log-gates (`p = 1`). -/
def gate (A : S4x4096x128.Idx → EReal) (p : Fin 2) (b : Fin 4) (h : Fin 8) (n : ℕ) : ℝ :=
  tok (fun n => (A (ix3 b n ⟨8 * p.val + h.val, by omega⟩)).toReal) n

theorem gate_lt (A : S4x4096x128.Idx → EReal) (p : Fin 2) (b : Fin 4) (h : Fin 8) (n : Fin 4096) :
    gate A p b h n.val = (A (ix3 b n ⟨8 * p.val + h.val, by omega⟩)).toReal := tok_lt _ n

/-- The state of the delta rule before token `n`. -/
def stateOf (A : S4x4096x3072.Idx → EReal) (G : S4x4096x128.Idx → EReal) (b : Fin 4) (h : Fin 8) : ℕ → Fin 128 → Fin 128 → ℝ :=
  Delta.state (part A 1 b h) (part A 2 b h) (gate G 0 b h) (gate G 1 b h)

/-- The outputs of the delta rule at token `n`. -/
def outpOf (A : S4x4096x3072.Idx → EReal) (G : S4x4096x128.Idx → EReal) (b : Fin 4) (h : Fin 8) : ℕ → Fin 128 → ℝ :=
  Delta.outp (part A 1 b h) (part A 2 b h) (gate G 0 b h) (gate G 1 b h) (part A 0 b h)

/-- The layer's result, of the four arrays. -/
def result (A : S4x4096x3072.Idx → EReal) (P : S4x4096x7168.Idx → EReal) (G : S4x4096x128.Idx → EReal) (N : S1x128.Idx → EReal)
    (b : Fin 4) (n : Fin 4096) (h : Fin 8) (d : Fin 128) : EReal :=
  gated (outpOf A G b h n.val) (N (ix2 0 d)) (P (ix3 b n ⟨6144 + (128 * h.val + d.val), by omega⟩)) d

/-! ## The grid points -/

section Points

variable (m : (ℓ : Loc nD τ sig) → Buf (Elt Ideal) ℓ) (c : Dev nD)

/-- The argument arrays. -/
abbrev A0 : S4x4096x3072.Idx → EReal := m ((c : Thread nD τ).loc main_arg0)
abbrev A1 : S4x4096x7168.Idx → EReal := m ((c : Thread nD τ).loc main_arg1)
abbrev A2 : S4x4096x128.Idx → EReal := m ((c : Thread nD τ).loc main_arg2)
abbrev A3 : S1x128.Idx → EReal := m ((c : Thread nD τ).loc main_arg3)

variable (h0 : ∀ i, A0 m c i = ((A0 m c i).toReal : EReal)) (h2 : ∀ i, A2 m c i = ((A2 m c i).toReal : EReal))

theorem lt_N (t : Fin cfg0.N) : t.val < 128 := lt_of_lt_of_eq t.isLt N_0

include h0 in
theorem blk_part (t : Fin cfg0.N) (r : Fin 2) (h : Fin 8) (b : Fin 4) (hb : b.val = 2 * (t.val / 64) + r.val) (i : Fin 64) (a : Fin 128) :
    (iblk m c 0 t : Vec Ideal S2x64x1024 .bf16) (ix3 r i ⟨128 * h.val + a.val, by omega⟩) = ((part (A0 m c) 0 b h (64 * (t.val % 64) + i) a : ℝ) : EReal)
    ∧ (iblk m c 1 t : Vec Ideal S2x64x1024 .bf16) (ix3 r i ⟨128 * h.val + a.val, by omega⟩) = ((part (A0 m c) 1 b h (64 * (t.val % 64) + i) a : ℝ) : EReal)
    ∧ (iblk m c 2 t : Vec Ideal S2x64x1024 .bf16) (ix3 r i ⟨128 * h.val + a.val, by omega⟩) = ((part (A0 m c) 2 b h (64 * (t.val % 64) + i) a : ℝ) : EReal) := by
  have hlt : 64 * (t.val % 64) + i.val < 4096 := by have := i.isLt; omega
  refine ⟨?_, ?_, ?_⟩
  · refine (blk0 m c t r i _ b ⟨_, hlt⟩ hb rfl).trans ((h0 _).trans ?_)
    refine congrArg (fun r : ℝ => (r : EReal)) (Eq.trans ?_ (part_lt (A0 m c) 0 b h ⟨_, hlt⟩ a).symm)
    congr 3
    exact Fin.ext (by simp only [Fin.val_zero, Fin.val_one, Fin.val_two]; omega)
  · refine (blk1 m c t r i _ b ⟨_, hlt⟩ hb rfl).trans ((h0 _).trans ?_)
    refine congrArg (fun r : ℝ => (r : EReal)) (Eq.trans ?_ (part_lt (A0 m c) 1 b h ⟨_, hlt⟩ a).symm)
    congr 3
    exact Fin.ext (by simp only [Fin.val_zero, Fin.val_one, Fin.val_two]; omega)
  · refine (blk2 m c t r i _ b ⟨_, hlt⟩ hb rfl).trans ((h0 _).trans ?_)
    refine congrArg (fun r : ℝ => (r : EReal)) (Eq.trans ?_ (part_lt (A0 m c) 2 b h ⟨_, hlt⟩ a).symm)
    congr 3
    exact Fin.ext (by simp only [Fin.val_zero, Fin.val_one, Fin.val_two]; omega)

include h2 in
theorem blk_gate (t : Fin cfg0.N) (r : Fin 2) (h : Fin 8) (b : Fin 4) (hb : b.val = 2 * (t.val / 64) + r.val) (i : Fin 64) :
    (iblk m c 4 t : Vec Ideal S2x64x128 .f32) (ix3 r i ⟨h.val, by omega⟩) = ((gate (A2 m c) 0 b h (64 * (t.val % 64) + i) : ℝ) : EReal)
    ∧ (iblk m c 4 t : Vec Ideal S2x64x128 .f32) (ix3 r i ⟨8 + h.val, by omega⟩) = ((gate (A2 m c) 1 b h (64 * (t.val % 64) + i) : ℝ) : EReal) := by
  have hlt : 64 * (t.val % 64) + i.val < 4096 := by have := i.isLt; omega
  refine ⟨?_, ?_⟩
  · refine (blk4 m c t r i _ b ⟨_, hlt⟩ hb rfl).trans ((h2 _).trans ?_)
    refine congrArg (fun r : ℝ => (r : EReal)) (Eq.trans ?_ (gate_lt (A2 m c) 0 b h ⟨_, hlt⟩).symm)
    congr 3
  · refine (blk4 m c t r i _ b ⟨_, hlt⟩ hb rfl).trans ((h2 _).trans ?_)
    refine congrArg (fun r : ℝ => (r : EReal)) (Eq.trans ?_ (gate_lt (A2 m c) 1 b h ⟨_, hlt⟩).symm)
    congr 3
    exact Fin.ext (by simp only [Fin.val_zero, Fin.val_one, Fin.val_two]; omega)

/-- What a grid point leaves, given that the state it starts from is the delta rule's state before its first token. -/
theorem point_real (t : Fin cfg0.N) (r : Fin 2) (h : Fin 8) (b : Fin 4) (hb : b.val = 2 * (t.val / 64) + r.val) (S : Vec Ideal S1x1x128x128 .f32)
    (h0 : ∀ i, A0 m c i = ((A0 m c i).toReal : EReal)) (h2 : ∀ i, A2 m c i = ((A2 m c i).toReal : EReal))
    (hS : ∀ a d, S (ix4 0 0 a d) = ((stateOf (A0 m c) (A2 m c) b h (64 * (t.val % 64)) a d : ℝ) : EReal)) :
    (∀ a d, kSt (iblk m c 0 t : Vec Ideal S2x64x1024 .bf16) (iblk m c 1 t : Vec Ideal S2x64x1024 .bf16) (iblk m c 2 t : Vec Ideal S2x64x1024 .bf16) (iblk m c 4 t : Vec Ideal S2x64x128 .f32) r h S (ix4 0 0 a d)
        = ((stateOf (A0 m c) (A2 m c) b h (64 * (t.val % 64) + 64) a d : ℝ) : EReal))
    ∧ ∀ (i : Fin 64) (n : Fin 4096) (_ : n.val = 64 * (t.val % 64) + i.val) (d : Fin 128),
      kOut (iblk m c 0 t : Vec Ideal S2x64x1024 .bf16) (iblk m c 1 t : Vec Ideal S2x64x1024 .bf16) (iblk m c 2 t : Vec Ideal S2x64x1024 .bf16) (iblk m c 3 t : Vec Ideal S2x64x1024 .bf16) (iblk m c 4 t : Vec Ideal S2x64x128 .f32) (iblk m c 5 t : Vec Ideal S1x128 .f32) r h S (ix3 0 i d)
        = result (A0 m c) (A1 m c) (A2 m c) (A3 m c) b n h d := by
  have hp := fun i a => blk_part m c h0 t r h b hb i a
  have hg := fun i => blk_gate m c h2 t r h b hb i
  refine ⟨fun a d => ?_, fun i n hn d => ?_⟩
  · exact kSt_real (s := 64 * (t.val % 64)) (fun i a => (hp i a).2.1) (fun i a => (hp i a).2.2) (fun i => (hg i).1) (fun i => (hg i).2) hS a d
  · rw [kOut_real (s := 64 * (t.val % 64)) (fun i a => (hp i a).1) (fun i a => (hp i a).2.1) (fun i a => (hp i a).2.2) (fun i => (hg i).1) (fun i => (hg i).2) hS i d,
      blk3 m c t r i _ b n hb hn, blk5 m c t d]
    unfold result
    rw [hn]
    rfl

/-- The state and the outputs that grid point `n` leaves. -/
theorem outs_real (h0 : ∀ i, A0 m c i = ((A0 m c i).toReal : EReal)) (h2 : ∀ i, A2 m c i = ((A2 m c i).toReal : EReal)) :
    ∀ (t : ℕ) (ht : t < cfg0.N),
    (∀ (r : Fin 2) (h : Fin 8) (b : Fin 4) (_ : b.val = 2 * (t / 64) + r.val) (a d : Fin 128),
      (outsAt0 m c t ht).2 (ix4 r h a d) = ((stateOf (A0 m c) (A2 m c) b h (64 * (t % 64) + 64) a d : ℝ) : EReal))
    ∧ ∀ (r : Fin 2) (h : Fin 8) (b : Fin 4) (_ : b.val = 2 * (t / 64) + r.val) (i : Fin 64) (n : Fin 4096) (_ : n.val = 64 * (t % 64) + i.val) (d : Fin 128),
      (outsAt0 m c t ht).1 (ix3 r i ⟨128 * h.val + d.val, by omega⟩) = result (A0 m c) (A1 m c) (A2 m c) (A3 m c) b n h d := by
  intro t
  induction t with
  | zero =>
    intro ht
    rw [outsAt0_A m c ⟨0, ht⟩ rfl]
    have hS : ∀ (b : Fin 4) (h : Fin 8) (a d : Fin 128), (fun _ => Ideal.ofBits .f32 0x00000000#32 : S1x1x128x128.Idx → EReal) (ix4 0 0 a d)
        = ((stateOf (A0 m c) (A2 m c) b h 0 a d : ℝ) : EReal) := fun b h a d => by
      show Ideal.ofBits .f32 0x00000000#32 = _
      rw [show stateOf (A0 m c) (A2 m c) b h 0 a d = 0 from rfl]
      simp
    refine ⟨fun r h b hb a d => ?_, fun r h b hb i n hn d => ?_⟩
    · rw [sout0_A_0_eq]
      exact (point_real m c ⟨0, ht⟩ r h b hb _ h0 h2 (hS b h)).1 a d
    · rw [out0_A_6_eq]
      dsimp only
      rw [glueQ_apply]
      exact (point_real m c ⟨0, ht⟩ r h b hb _ h0 h2 (hS b h)).2 i n hn d
  | succ t ih =>
    intro ht
    have ih' := (ih (Nat.lt_of_succ_lt ht)).1
    by_cases hA : (t + 1) % 64 = 0
    · rw [outsAt0_A m c ⟨t + 1, ht⟩ hA]
      have hS : ∀ (b : Fin 4) (h : Fin 8) (a d : Fin 128), (fun _ => Ideal.ofBits .f32 0x00000000#32 : S1x1x128x128.Idx → EReal) (ix4 0 0 a d)
          = ((stateOf (A0 m c) (A2 m c) b h (64 * ((t + 1) % 64)) a d : ℝ) : EReal) := fun b h a d => by
        show Ideal.ofBits .f32 0x00000000#32 = _
        rw [hA, show stateOf (A0 m c) (A2 m c) b h (64 * 0) a d = 0 from rfl]
        simp
      refine ⟨fun r h b hb a d => ?_, fun r h b hb i n hn d => ?_⟩
      · rw [sout0_A_0_eq]
        exact (point_real m c ⟨t + 1, ht⟩ r h b hb _ h0 h2 (hS b h)).1 a d
      · rw [out0_A_6_eq]
        dsimp only
        rw [glueQ_apply]
        exact (point_real m c ⟨t + 1, ht⟩ r h b hb _ h0 h2 (hS b h)).2 i n hn d
    · rw [outsAt0_B m c ⟨t + 1, ht⟩ hA]
      have hS : ∀ (r : Fin 2) (h : Fin 8) (b : Fin 4) (_ : b.val = 2 * ((t + 1) / 64) + r.val) (a d : Fin 128),
          View.ld (Val := Elt Ideal) (outsAt0 m c t (Nat.lt_of_succ_lt ht)).2 (rS r h) (ix4 0 0 a d : S1x1x128x128.Idx)
          = ((stateOf (A0 m c) (A2 m c) b h (64 * ((t + 1) % 64)) a d : ℝ) : EReal) := fun r h b hb a d => by
        rw [ld_rS, ih' r h b (by omega) a d]
        rw [show 64 * (t % 64) + 64 = 64 * ((t + 1) % 64) by omega]
      refine ⟨fun r h b hb a d => ?_, fun r h b hb i n hn d => ?_⟩
      · rw [sout0_B_0_eq]
        exact (point_real m c ⟨t + 1, ht⟩ r h b hb _ h0 h2 (hS r h b hb)).1 a d
      · rw [out0_B_6_eq]
        dsimp only
        rw [glueQ_apply]
        exact (point_real m c ⟨t + 1, ht⟩ r h b hb _ h0 h2 (hS r h b hb)).2 i n hn d

/-- The kernel's result array. -/
theorem final_real (h0 : ∀ i, A0 m c i = ((A0 m c i).toReal : EReal)) (h2 : ∀ i, A2 m c i = ((A2 m c i).toReal : EReal))
    (b : Fin 4) (n : Fin 4096) (h : Fin 8) (d : Fin 128) :
    (Value.G6 m c : S4x4096x1024.Idx → EReal) (ix3 b n ⟨128 * h.val + d.val, by omega⟩) = result (A0 m c) (A1 m c) (A2 m c) (A3 m c) b n h d := by
  have hp : Value.pt6Of (ix3 b n ⟨128 * h.val + d.val, by omega⟩) = 64 * (b.val / 2) + n.val / 64 := by
    show 64 * (b.val / 2 - 0) + 1 * (n.val / 64 - 0) + 1 * ((128 * h.val + d.val) / 1024 - 0) = _
    omega
  have hlt : Value.pt6Of (ix3 b n ⟨128 * h.val + d.val, by omega⟩) < cfg0.N := lt_of_lt_of_eq (by rw [hp]; omega) N_0.symm
  have hl : Value.loc6Of (ix3 b n ⟨128 * h.val + d.val, by omega⟩) = ix3 ⟨b.val % 2, by omega⟩ ⟨n.val % 64, by omega⟩ ⟨128 * h.val + d.val, by omega⟩ := by
    funext a
    match a with
    | ⟨0, _⟩ => rfl
    | ⟨1, _⟩ => rfl
    | ⟨2, _⟩ => exact Fin.ext (Nat.mod_eq_of_lt (by show 128 * h.val + d.val < 1024; omega))
  unfold Value.G6
  rw [dif_pos hlt, ← Value.outsAt0_sweep m c _ hlt, hl]
  exact (outs_real m c h0 h2 _ hlt).2 ⟨b.val % 2, by omega⟩ h b (by rw [hp]; show _ = 2 * _ + b.val % 2; omega) ⟨n.val % 64, by omega⟩ n
    (by rw [hp]; show _ = 64 * _ + n.val % 64; omega) d

end Points

end Cert.KernelIdeal.Chain

end
-- ==== Proof.RefValue.lean ====
/- The reference's token loop over the extended reals: one trip at an index, the states it goes through for finite inputs, and its result. -/
module

public import proofs.«01_k».proof.Proof.RefRun
public import proofs.«01_k».proof.Proof.KernelValue
public import Idealize.ShloMosaic.Lib.Pointwise
public import Idealize.ShloMosaic.Lib.DynamicIndex

@[expose] public section

set_option maxRecDepth 16384

noncomputable section

namespace Cert.ReferenceIdeal.RefValue

open Idealize.ShloMosaic Cert.ReferenceIdeal Cert.ReferenceIdeal.Gen
open Cert.ReferenceIdeal.Step

/-! ## The stacked inputs at an index -/

section Stacks

variable (x0 : S4x4096x3072.Idx → EReal) (x2 : S4x4096x128.Idx → EReal) (n : Fin 4096) (b : Fin 4) (h : Fin 8) (a : Fin 128)

theorem q_apply : A_main_v10 (F := Ideal) x0 x2 (ix4 n b h a) = x0 (ix3 b n ⟨1024 * 0 + 128 * h.val + a.val, by omega⟩) := by
  unfold A_main_v10 A_main_v5 A_main_v4 A_main_v1 A_main_v0
  pointwise
  simp only [Nat.mul_comm h.val 128]

theorem k_apply : A_main_v11 (F := Ideal) x0 x2 (ix4 n b h a) = x0 (ix3 b n ⟨1024 * 1 + 128 * h.val + a.val, by omega⟩) := by
  unfold A_main_v11 A_main_v7 A_main_v6 A_main_v1 A_main_v0
  pointwise
  simp only [Nat.mul_comm h.val 128]

theorem v_apply : A_main_v12 (F := Ideal) x0 x2 (ix4 n b h a) = x0 (ix3 b n ⟨1024 * 2 + 128 * h.val + a.val, by omega⟩) := by
  unfold A_main_v12 A_main_v9 A_main_v8 A_main_v1 A_main_v0
  pointwise
  simp only [Nat.mul_comm h.val 128]

theorem g_apply : A_main_v13 (F := Ideal) x0 x2 (ix3 n b h) = x2 (ix3 b n ⟨8 * 1 + h.val, by omega⟩) := by
  unfold A_main_v13 A_main_v3
  pointwise
  done

theorem beta_apply : A_main_v14 (F := Ideal) x0 x2 (ix3 n b h) = x2 (ix3 b n ⟨8 * 0 + h.val, by omega⟩) := by
  unfold A_main_v14 A_main_v2
  pointwise
  done

end Stacks

/-! ## One trip at an index -/

section Trip

variable (j : Fin 4096) (s : State Ideal) (b : Fin 4) (h : Fin 8) (a d : Fin 128)

theorem slices4 : S4096x4x8x128.Slices (![j.val, 0, 0, 0] : Fin 4 → ℕ) S1x4x8x128 :=
  ⟨rfl, fun k => by
    have hj := j.isLt
    match k with
    | ⟨0, _⟩ => show j.val + 1 ≤ 4096; omega
    | ⟨1, _⟩ => show 0 + 4 ≤ 4; omega
    | ⟨2, _⟩ => show 0 + 8 ≤ 8; omega
    | ⟨3, _⟩ => show 0 + 128 ≤ 128; omega⟩

theorem slices3 : S4096x4x8.Slices (![j.val, 0, 0] : Fin 3 → ℕ) S1x4x8 :=
  ⟨rfl, fun k => by
    have hj := j.isLt
    match k with
    | ⟨0, _⟩ => show j.val + 1 ≤ 4096; omega
    | ⟨1, _⟩ => show 0 + 4 ≤ 4; omega
    | ⟨2, _⟩ => show 0 + 8 ≤ 8; omega⟩

theorem start4 (k : Fin 4) : (((![(constantI S_ 32 (BitVec.ofNat 32 j.val) : (⟨S_, .i32⟩ : BufTy).Contents (Elt Ideal)), constantI S_ 32 0#32, constantI S_ 32 0#32, constantI S_ 32 0#32] : Fin 4 → (⟨S_, .i32⟩ : BufTy).Contents (Elt Ideal))) k (Shape.Idx.first h_S_)).toInt
    = (((![j.val, 0, 0, 0] : Fin 4 → ℕ) k : ℕ) : Int) := by
  match k with
  | 0 => exact toInt_ofNat_of_lt (by omega)
  | 1 => rfl
  | 2 => rfl
  | 3 => rfl

theorem start3 (k : Fin 3) : (((![(constantI S_ 32 (BitVec.ofNat 32 j.val) : (⟨S_, .i32⟩ : BufTy).Contents (Elt Ideal)), constantI S_ 32 0#32, constantI S_ 32 0#32] : Fin 3 → (⟨S_, .i32⟩ : BufTy).Contents (Elt Ideal))) k (Shape.Idx.first h_S_)).toInt
    = (((![j.val, 0, 0] : Fin 3 → ℕ) k : ℕ) : Int) := by
  match k with
  | 0 => exact toInt_ofNat_of_lt (by omega)
  | 1 => rfl
  | 2 => rfl

/-- Token `j` of a stack. -/
theorem row4 (x : S4096x4x8x128.Idx → EReal) (hf : S4096x4x8x128.Slices (fun _ => 0) S1x4x8x128) :
    shapeCast S4x8x128 (Host.dynamicSlice S1x4x8x128 x (fun k => (((![(constantI S_ 32 (BitVec.ofNat 32 j.val) : (⟨S_, .i32⟩ : BufTy).Contents (Elt Ideal)), constantI S_ 32 0#32, constantI S_ 32 0#32, constantI S_ 32 0#32] : Fin 4 → (⟨S_, .i32⟩ : BufTy).Contents (Elt Ideal))) k (Shape.Idx.first h_S_)).toInt) hf)
      shapeCasts_S1x4x8x128_S4x8x128 (ix3 b h a) = x (ix4 j b h a) := by
  have e := Host.dynamicSlice_eq_extractStridedSlice S1x4x8x128 x _ _ hf (slices4 j) (start4 j)
  rw [e]
  pointwise

theorem row3 (x : S4096x4x8.Idx → EReal) (hf : S4096x4x8.Slices (fun _ => 0) S1x4x8) :
    shapeCast S4x8 (Host.dynamicSlice S1x4x8 x (fun k => (((![(constantI S_ 32 (BitVec.ofNat 32 j.val) : (⟨S_, .i32⟩ : BufTy).Contents (Elt Ideal)), constantI S_ 32 0#32, constantI S_ 32 0#32] : Fin 3 → (⟨S_, .i32⟩ : BufTy).Contents (Elt Ideal))) k (Shape.Idx.first h_S_)).toInt) hf)
      shapeCasts_S1x4x8_S4x8 (ix2 b h) = x (ix3 j b h) := by
  have e := Host.dynamicSlice_eq_extractStridedSlice S1x4x8 x _ _ hf (slices3 j) (start3 j)
  rw [e]
  pointwise

theorem b4_apply : b4 j.val s (ix3 b h a) = s.main_v17_0 (ix4 j b h a) := row4 j b h a s.main_v17_0 _
theorem b9_apply : b9 j.val s (ix3 b h a) = s.main_v17_1 (ix4 j b h a) := row4 j b h a s.main_v17_1 _
theorem b14_apply : b14 j.val s (ix3 b h a) = s.main_v17_2 (ix4 j b h a) := row4 j b h a s.main_v17_2 _
theorem b18_apply : b18 j.val s (ix2 b h) = s.main_v17_3 (ix3 j b h) := row3 j b h s.main_v17_3 _
theorem b22_apply : b22 j.val s (ix2 b h) = s.main_v17_4 (ix3 j b h) := row3 j b h s.main_v17_4 _

/-- The decayed state. -/
theorem b26_apply : b26 j.val s (ix4 b h a d) = s.main_v17_6 (ix4 b h a d) * Ideal.exp (s.main_v17_3 (ix3 j b h)) := by
  unfold b26 b25 b24 b23
  pointwise
  rw [b18_apply]

/-- What it holds for the key. -/
theorem b28_apply : b28 j.val s (ix3 b h d)
    = ∑ x : Fin 128, b26 j.val s (ix4 b h x d) * b9 j.val s (ix3 b h x) := by
  unfold b28
  pointwise
  done

/-- The new state. -/
theorem b37_apply : b37 j.val s (ix4 b h a d)
    = b26 j.val s (ix4 b h a d) + b9 j.val s (ix3 b h a) * (b22 j.val s (ix2 b h) * (b14 j.val s (ix3 b h d) - b28 j.val s (ix3 b h d))) := by
  unfold b37 b36 b34 b35 b32 b33 b31 b30 b29 b27
  pointwise
  done

/-- The output. -/
theorem b38_apply : b38 j.val s (ix3 b h d) = ∑ x : Fin 128, b37 j.val s (ix4 b h x d) * b4 j.val s (ix3 b h x) := by
  unfold b38
  pointwise
  done

/-- The outputs so far: token `j`'s put in, the others kept. -/
theorem b43_apply (n : Fin 4096) : b43 j.val s (ix4 n b h d) = if n = j then b38 j.val s (ix3 b h d) else s.main_v17_7 (ix4 n b h d) := by
  have e : b43 j.val s = updateSlice s.main_v17_7 (b39 j.val s) (![j.val, 0, 0, 0] : Fin 4 → ℕ) (slices4 j) :=
    Host.dynamicUpdateSlice_eq_updateSlice _ _ _ _ _ (fun k => by
      refine (congrArg (fun z : Int => (min (max z 0) _).toNat) (start4 j k)).trans ?_
      have hj := j.isLt
      match k with
      | ⟨0, _⟩ => show (min (max (j.val : Int) 0) ((4096 - 1 : ℕ) : Int)).toNat = j.val; omega
      | ⟨1, _⟩ => rfl
      | ⟨2, _⟩ => rfl
      | ⟨3, _⟩ => rfl) (slices4 j)
  rw [e]
  unfold b39
  pointwise
  by_cases hn : n = j
  · subst hn
    simp
  · rw [if_neg hn, dif_neg]
    exact fun hc => hn (Fin.ext (by omega))

end Trip

/-- The operations after the loop, at an index. -/
theorem R_apply (s : State Ideal) (x1 : S4x4096x7168.Idx → EReal) (x3 : S1x128.Idx → EReal) (b : Fin 4) (n : Fin 4096) (h : Fin 8) (d : Fin 128) :
    R_main_v39 (F := Ideal) s x1 x3 (ix3 b n ⟨128 * h.val + d.val, by omega⟩)
      = s.main_v17_7 (ix4 n b h d) * Ideal.rsqrt (Ideal.div (∑ x, s.main_v17_7 (ix4 n b h x) * s.main_v17_7 (ix4 n b h x)) (Ideal.ofBits .f32 0x43000000#32) + Ideal.ofBits .f32 0x358637BD#32)
        * x3 (ix2 0 d) * (x1 (ix3 b n ⟨6144 + (128 * h.val + d.val), by omega⟩) * Ideal.logistic (x1 (ix3 b n ⟨6144 + (128 * h.val + d.val), by omega⟩))) := by
  unfold R_main_v39
  pointwise
  simp only [Nat.mul_comm h.val 128]
  rfl

/-! ## The states the loop goes through -/

section Loop

open Cert.KernelIdeal.Chain (stateOf outpOf part gate part_lt gate_lt result gated)

variable (x0 : S4x4096x3072.Idx → EReal) (x2 : S4x4096x128.Idx → EReal)

/-- The state after `n` trips. -/
def it : ℕ → State Ideal
  | 0 => init x0 x2
  | n + 1 => step n (it n)

/-- No trip changes the stacked inputs. -/
theorem it_stacks (n : ℕ) : (it x0 x2 n).main_v17_0 = A_main_v10 x0 x2 ∧ (it x0 x2 n).main_v17_1 = A_main_v11 x0 x2
    ∧ (it x0 x2 n).main_v17_2 = A_main_v12 x0 x2 ∧ (it x0 x2 n).main_v17_3 = A_main_v13 x0 x2 ∧ (it x0 x2 n).main_v17_4 = A_main_v14 x0 x2 := by
  induction n with
  | zero => exact ⟨rfl, rfl, rfl, rfl, rfl⟩
  | succ n ih => exact ih

variable (h0 : ∀ i, x0 i = ((x0 i).toReal : EReal)) (h2 : ∀ i, x2 i = ((x2 i).toReal : EReal))

include h0 h2 in
/-- What token `n` brings. -/
theorem token (n : Fin 4096) (b : Fin 4) (h : Fin 8) :
    (∀ a, b4 n.val (it x0 x2 n.val) (ix3 b h a) = ((part x0 0 b h n.val a : ℝ) : EReal))
    ∧ (∀ a, b9 n.val (it x0 x2 n.val) (ix3 b h a) = ((part x0 1 b h n.val a : ℝ) : EReal))
    ∧ (∀ a, b14 n.val (it x0 x2 n.val) (ix3 b h a) = ((part x0 2 b h n.val a : ℝ) : EReal))
    ∧ (it x0 x2 n.val).main_v17_3 (ix3 n b h) = ((gate x2 1 b h n.val : ℝ) : EReal)
    ∧ b22 n.val (it x0 x2 n.val) (ix2 b h) = ((gate x2 0 b h n.val : ℝ) : EReal) := by
  obtain ⟨e0, e1, e2, e3, e4⟩ := it_stacks x0 x2 n.val
  refine ⟨fun a => ?_, fun a => ?_, fun a => ?_, ?_, ?_⟩
  · rw [b4_apply, e0, q_apply, h0, part_lt]; rfl
  · rw [b9_apply, e1, k_apply, h0, part_lt]; rfl
  · rw [b14_apply, e2, v_apply, h0, part_lt]; rfl
  · rw [e3, g_apply, h2, gate_lt]; rfl
  · rw [b22_apply, e4, beta_apply, h2, gate_lt]; rfl

/-- A trip takes the delta rule's state before its token to the one after it. -/
theorem trip_state (h0 : ∀ i, x0 i = ((x0 i).toReal : EReal)) (h2 : ∀ i, x2 i = ((x2 i).toReal : EReal)) (n : Fin 4096) (b : Fin 4) (h : Fin 8)
    (hs : ∀ a d, (it x0 x2 n.val).main_v17_6 (ix4 b h a d) = ((stateOf x0 x2 b h n.val a d : ℝ) : EReal)) (a d : Fin 128) :
    b37 n.val (it x0 x2 n.val) (ix4 b h a d) = ((stateOf x0 x2 b h (n.val + 1) a d : ℝ) : EReal) := by
  obtain ⟨_, hk, hv, hg, hb⟩ := token x0 x2 h0 h2 n b h
  have e26 : ∀ a d, b26 n.val (it x0 x2 n.val) (ix4 b h a d) = ((stateOf x0 x2 b h n.val a d * Real.exp (gate x2 1 b h n.val) : ℝ) : EReal) := fun a d => by
    rw [b26_apply, hs, hg, Ideal.exp_coe, EReal.coe_mul]
  have e28 : ∀ d, b28 n.val (it x0 x2 n.val) (ix3 b h d)
      = ((∑ x, stateOf x0 x2 b h n.val x d * Real.exp (gate x2 1 b h n.val) * part x0 1 b h n.val x : ℝ) : EReal) := fun d => by
    rw [b28_apply]
    simp only [e26, hk, ← EReal.coe_mul]
    exact Cert.KernelIdeal.Chain.coe_sum _ _
  rw [b37_apply, e26, e28, hk, hb, hv]
  simp only [← EReal.coe_mul, ← EReal.coe_sub, ← EReal.coe_add]
  rfl

/-- After `n` trips the carried state is the delta rule's state before token `n`, and the outputs of the tokens before it are there. -/
theorem it_real (h0 : ∀ i, x0 i = ((x0 i).toReal : EReal)) (h2 : ∀ i, x2 i = ((x2 i).toReal : EReal)) (n : ℕ) (hn : n ≤ 4096) (b : Fin 4) (h : Fin 8) :
    (∀ a d, (it x0 x2 n).main_v17_6 (ix4 b h a d) = ((stateOf x0 x2 b h n a d : ℝ) : EReal))
    ∧ ∀ (t : Fin 4096) (_ : t.val < n) (d : Fin 128), (it x0 x2 n).main_v17_7 (ix4 t b h d) = ((outpOf x0 x2 b h t.val d : ℝ) : EReal) := by
  induction n with
  | zero =>
    refine ⟨fun a d => ?_, fun t ht => absurd ht (Nat.not_lt_zero _)⟩
    show Ideal.ofBits .f32 0x00000000#32 = _
    rw [show stateOf x0 x2 b h 0 a d = 0 from rfl]
    simp
  | succ n ih =>
    obtain ⟨hs, ho⟩ := ih (by omega)
    have hst := trip_state x0 x2 h0 h2 ⟨n, hn⟩ b h hs
    obtain ⟨hq, -⟩ := token x0 x2 h0 h2 ⟨n, hn⟩ b h
    refine ⟨hst, fun t ht d => ?_⟩
    refine (b43_apply ⟨n, hn⟩ (it x0 x2 n) b h d t).trans ?_
    by_cases e : t = ⟨n, hn⟩
    · rw [if_pos e, b38_apply]
      subst e
      simp only at hst hq ⊢
      simp only [hst, hq, ← EReal.coe_mul]
      exact Cert.KernelIdeal.Chain.coe_sum _ _
    · rw [if_neg e]
      exact ho t (by have : t.val ≠ n := fun h => e (Fin.ext h); omega) d

/-- The reference's result. -/
theorem ref_real (x1 : S4x4096x7168.Idx → EReal) (x3 : S1x128.Idx → EReal) (h0 : ∀ i, x0 i = ((x0 i).toReal : EReal)) (h2 : ∀ i, x2 i = ((x2 i).toReal : EReal))
    (b : Fin 4) (n : Fin 4096) (h : Fin 8) (d : Fin 128) :
    R_main_v39 (F := Ideal) (it x0 x2 4096) x1 x3 (ix3 b n ⟨128 * h.val + d.val, by omega⟩) = result x0 x1 x2 x3 b n h d := by
  have ho := (it_real x0 x2 h0 h2 4096 le_rfl b h).2 n n.isLt
  rw [R_apply]
  simp only [ho]
  rfl

end Loop

end Cert.ReferenceIdeal.RefValue

end
-- ==== Proof.GdnClaim.lean ====
/- The chunked delta-rule call: its frames, its reference's frame, and that the two compute the same function of finite arguments. -/
module

public import proofs.«01_k».proof.Defs
public import proofs.«01_k».proof.Proof.Gen.Kernel.Frame
public import proofs.«01_k».proof.Proof.RefValue

@[expose] public section

noncomputable section

namespace Cert.Gdn

open Idealize.ShloMosaic Idealize.ShloMosaic.TcCoe Idealize.SL.Sem

theorem facts_finite : Cert.Pre_finite.Facts where
  bitsLt_bf16_f32 := by decide
  bcast_S_S4x4096x3072 := by decide
  bcast_S_S4x4096x128 := by decide

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite (hPre_finite := facts_finite) := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) _⟩) (Cert.ReferenceIdeal.Value.run (F := Ideal) m ρ)

theorem frame_reference_finite : Cert.quiescent_ReferenceIdeal_pre_finite (hPre_finite := facts_finite) := fun m ρ _ => frame_reference m ρ trivial

/-- An extended real whose absolute value is below the greatest one is a real. -/
theorem real_of_abs_lt {x : EReal} (h : max x (-x) < (⊤ : EReal)) : x = (x.toReal : EReal) := by
  refine (EReal.coe_toReal ?_ ?_).symm
  · rintro rfl; simp at h
  · rintro rfl; simp at h

theorem finite_args (m : (ℓ : Loc Cert.KernelIdeal.nD Cert.KernelIdeal.τ Cert.KernelIdeal.sig) → Buf (Elt Ideal) ℓ)
    (h : Cert.Pre_KernelIdeal_finite (hPre_finite := facts_finite) m) (c : Dev Cert.KernelIdeal.nD) :
    (∀ i, Cert.KernelIdeal.Chain.A0 m c i = ((Cert.KernelIdeal.Chain.A0 m c i).toReal : EReal))
    ∧ ∀ i, Cert.KernelIdeal.Chain.A2 m c i = ((Cert.KernelIdeal.Chain.A2 m c i).toReal : EReal) := by
  letI := facts_finite
  obtain ⟨e0, e2⟩ := h c
  have key : ∀ x : EReal, BitVec.ofBool (decide (max x (-x) < Ideal.ofBits .f32 0x7F800000#32)) = 1#1 → max x (-x) < (⊤ : EReal) := fun x hx => by
    have hi : Ideal.ofBits .f32 0x7F800000#32 = (⊤ : EReal) := by simp [Ideal.ofBits, Ideal.ieee]
    rw [hi] at hx
    by_contra hn
    rw [decide_eq_false hn] at hx
    exact absurd hx (by decide)
  exact ⟨fun i => real_of_abs_lt (key _ (congrFun e0 i)), fun i => real_of_abs_lt (key _ (congrFun e2 i))⟩

theorem value : Cert.algebraic_KernelIdeal_ReferenceIdeal_pre_finite (hPre_finite := facts_finite) := by
  intro m ρ m' ρ' hpre hargs
  refine ⟨fun c => Cert.KernelIdeal.Value.G6 m c, Cert.KernelIdeal.Value.run m ρ, ?_⟩
  refine (θ_run Cert.ReferenceIdeal.defs _ _).mono (fun r h c => ⟨(h c).1.trans ?_, (h c).2⟩)
    (Cert.ReferenceIdeal.RefRun.run_iter (F := Ideal) m' ρ'
      (fun c => Cert.ReferenceIdeal.RefValue.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)))
      (fun _ => rfl) (fun _ _ => rfl))
  obtain ⟨a0, a1, a2, a3⟩ := hargs c
  obtain ⟨h0, h2⟩ := finite_args m hpre c
  rw [a0, a1, a2, a3]
  funext y
  have hy : ∃ (b : Fin 4) (n : Fin 4096) (h : Fin 8) (d : Fin 128), y = (ix3 b n ⟨128 * h.val + d.val, by omega⟩ : Cert.KernelIdeal.S4x4096x1024.Idx) := by
    have h1 : (y 2).val < 1024 := (y 2).isLt
    refine ⟨y 0, y 1, ⟨(y 2).val / 128, by omega⟩, ⟨(y 2).val % 128, by omega⟩, ?_⟩
    funext a
    match a with
    | ⟨0, _⟩ => rfl
    | ⟨1, _⟩ => rfl
    | ⟨2, _⟩ => exact Fin.ext (by show (y 2).val = 128 * ((y 2).val / 128) + (y 2).val % 128; omega)
  obtain ⟨b, n, h, d, rfl⟩ := hy
  exact (Cert.ReferenceIdeal.RefValue.ref_real _ _ _ _ h0 h2 b n h d).trans (Cert.KernelIdeal.Chain.final_real m c h0 h2 b n h d).symm

end Cert.Gdn

end
-- ==== Proof.FfnMath.lean ====
/- The feed-forward layer of one row over the extended reals, and its sum over the hidden columns taken block by block. -/
module

public import Idealize.ShloMosaic.PureOps.Ideal
public import Mathlib.Algebra.BigOperators.Fin

@[expose] public section

noncomputable section

namespace Cert.FfnMath

open Idealize.ShloMosaic

/-- A row over the root of its mean square, weighted. -/
def norm (x w : Fin 2048 → EReal) (e : Fin 2048) : EReal :=
  x e * Ideal.rsqrt (Ideal.div (∑ a, x a * x a) (Ideal.ofBits .f32 0x45000000#32) + Ideal.ofBits .f32 0x358637BD#32) * w e

/-- The hidden value of column `f`. -/
def act (u : Fin 2048 → EReal) (g w : Fin 2048 → Fin 5632 → EReal) (f : Fin 5632) : EReal :=
  (∑ k, u k * g k f) * Ideal.logistic (∑ k, u k * g k f) * ∑ k, u k * w k f

/-- Column `n`'s part of the sum at output column `e`; nothing past the last column. -/
def term (u : Fin 2048 → EReal) (g w : Fin 2048 → Fin 5632 → EReal) (d : Fin 5632 → Fin 2048 → EReal) (e : Fin 2048) (n : ℕ) : EReal :=
  if h : n < 5632 then act u g w ⟨n, h⟩ * d ⟨n, h⟩ e else 0

/-- The row plus half the layer's output. -/
def resid (x u : Fin 2048 → EReal) (g w : Fin 2048 → Fin 5632 → EReal) (d : Fin 5632 → Fin 2048 → EReal) (e : Fin 2048) : EReal :=
  x e + Ideal.ofBits .f32 0x3F000000#32 * ∑ f, act u g w f * d f e

theorem term_lt (u : Fin 2048 → EReal) (g w : Fin 2048 → Fin 5632 → EReal) (d : Fin 5632 → Fin 2048 → EReal) (e : Fin 2048) (f : Fin 5632) :
    term u g w d e f.val = act u g w f * d f e := dif_pos f.isLt

/-- All the columns' parts are the layer's sum. -/
theorem sum_term (u : Fin 2048 → EReal) (g w : Fin 2048 → Fin 5632 → EReal) (d : Fin 5632 → Fin 2048 → EReal) (e : Fin 2048) :
    ∑ n ∈ Finset.range 5632, term u g w d e n = ∑ f, act u g w f * d f e := by
  rw [← Fin.sum_univ_eq_sum_range]
  exact Finset.sum_congr rfl fun f _ => term_lt u g w d e f

/-- Two more runs of 256 parts. -/
theorem sum_blocks (T : ℕ → EReal) (n : ℕ) :
    ∑ a ∈ Finset.range (n + 512), T a = (∑ a ∈ Finset.range n, T a) + (∑ a : Fin 256, T (n + a.val) + ∑ a : Fin 256, T (n + (256 + a.val))) := by
  rw [Finset.sum_range_add, show (512 : ℕ) = 256 + 256 from rfl, Finset.sum_range_add,
    Fin.sum_univ_eq_sum_range (fun a => T (n + a)) 256, Fin.sum_univ_eq_sum_range (fun a => T (n + (256 + a))) 256]

end Cert.FfnMath

end
-- ==== Proof.Whole.lean ====
/- Loads and stores of whole rank-two buffers. -/
module

public import Idealize.ShloMosaic.Lib.Pipeline.Value
public import Idealize.ShloMosaic.Lib.Pipeline.ReadBack

@[expose] public section

noncomputable section

namespace Cert.Whole

open Idealize.ShloMosaic Idealize.SL.Sem

variable {F : FTy → Type} [FloatOps F] {sig : RefSig}

theorem zero2 : (![0, 0] : Fin 2 → ℕ) = fun _ => 0 := by decide

/-- A load from a whole buffer that holds `x`. -/
theorem rd {S : Shape} {e : EltTy} (M : Memref sig .tc .vmem S e) (h : M.IsWhole) (x : Vec F S e) (r : Rect S) :
    View.readAt (Elt F) M.view r.toLoadRect (h.unread x) = View.ld x r := by
  show View.ld (M.view.read (Elt F) (h.unread x)) r = _
  rw [h.read_unread]

/-- A load of the whole of `x`. -/
theorem ld2 {n : Fin 2 → ℕ} {e : EltTy} (x : Vec F ⟨2, n⟩ e) (inb : ∀ a, (![0, 0] : Fin 2 → ℕ) a + n a ≤ n a) :
    View.ld (Val := Elt F) x (Rect.unit (s := ⟨2, n⟩) ![0, 0] n inb) = x := View.ld_unit_zero (S := ⟨2, n⟩) zero2 inb x

/-- A load of the whole of what one store of the whole left. -/
theorem cov2 {n : Fin 2 → ℕ} {e : EltTy} (v : View sig .tc .vmem ⟨2, n⟩ e) (w : Vec F ⟨2, n⟩ e) (inb : ∀ a, (![0, 0] : Fin 2 → ℕ) a + n a ≤ n a) :
    v.readCov (Val := Elt F) [(⟨Rect.unit (s := ⟨2, n⟩) ![0, 0] n inb, w⟩ : View.Piece (Elt F) ⟨2, n⟩ e)] (Rect.unit (s := ⟨2, n⟩) ![0, 0] n inb).toLoadRect = w :=
  View.readCov_unit_zero (S := ⟨2, n⟩) v zero2 inb w

/-- A load of the whole of what several stores left, the last of the whole. -/
theorem covs2 {n : Fin 2 → ℕ} {e : EltTy} (v : View sig .tc .vmem ⟨2, n⟩ e) (w : Vec F ⟨2, n⟩ e) (L : List (View.Piece (Elt F) ⟨2, n⟩ e))
    (inb : ∀ a, (![0, 0] : Fin 2 → ℕ) a + n a ≤ n a) :
    v.readCov (Val := Elt F) ((⟨Rect.unit (s := ⟨2, n⟩) ![0, 0] n inb, w⟩ : View.Piece (Elt F) ⟨2, n⟩ e) :: L) (Rect.unit (s := ⟨2, n⟩) ![0, 0] n inb).toLoadRect = w := by
  have hc : ∀ y : (⟨2, n⟩ : Shape).Idx, ∃ p ∈ ((⟨Rect.unit (s := ⟨2, n⟩) ![0, 0] n inb, w⟩ : View.Piece (Elt F) ⟨2, n⟩ e) :: L), y ∈ p.1.set := fun y =>
    ⟨(⟨Rect.unit (s := ⟨2, n⟩) ![0, 0] n inb, w⟩ : View.Piece (Elt F) ⟨2, n⟩ e), List.mem_cons_self, View.mem_set_unit_zero (S := ⟨2, n⟩) zero2 inb y⟩
  have e1 := View.readCov_eq_canon_ld (Val := Elt F) v _ (Rect.unit (s := ⟨2, n⟩) ![0, 0] n inb) hc
  rw [View.canon_cons_unit_zero (S := ⟨2, n⟩) zero2 inb w L, ld2] at e1
  exact e1

end Cert.Whole

end
-- ==== Proof.FfnStored2.lean ====
/- What a grid point of the feed-forward call stores: at a row block's first point the normalised rows and the first column block's part of the sum, at each later point that
   sum with the next column block's part added, at the last also the residual and the last normalisation. -/
module

public import proofs.«01_k».proof.Proof.Gen.Kernel2Ideal.Value
public import proofs.«01_k».proof.Proof.Whole

@[expose] public section

set_option maxRecDepth 16384

noncomputable section

namespace Cert.Kernel2Ideal.Ffn

open Idealize.ShloMosaic Idealize.SL.Sem Cert.Kernel2Ideal Cert.Kernel2Ideal.Gen Cert.Whole

variable {F : FTy → Type} [FloatOps F]

/-- The left and the right half of a block of columns. -/
abbrev rL : Rect S2048x512 := Rect.unit (s := S2048x512) ![0, 0] S2048x256.size inb_S2048x512_S2048x256_0_0
abbrev rR : Rect S2048x512 := Rect.unit (s := S2048x512) ![0, 256] S2048x256.size inb_S2048x512_S2048x256_0_256

/-- One column block's part added to the sum `o`, of the normalised rows and the three blocks of weights. -/
def addBlk (u : Vec F S1024x2048 .bf16) (g w : Vec F S2048x512 .bf16) (d : Vec F S512x2048 .bf16) (o : Vec F S1024x2048 .f32) : Vec F S1024x2048 .f32 :=
  k0_pay4 u (View.ld (Val := Elt F) g rL) (View.ld (Val := Elt F) w rL) (View.ld (Val := Elt F) g rR) (View.ld (Val := Elt F) w rR) o d

/-- The sum after the first column block. -/
theorem out0_A_6_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    out0_A_6 c i arg2 harg2 arg3 harg3 arg4 harg4 arg5 harg5 arg6 harg6 arg7 harg7 arg8 harg8 arg9 harg9 hc0 hc1 x0 x1 x2 x3 x4 x5 = addBlk (k0_pay2 x0 x1) x2 x3 x4 (k0_pay3 (F := F)) := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  refine (View.canon_cons_unit_zero zero2 _ _ _).trans ?_
  unfold kernelRun0_A.sl.v3 kernelRun0_A.sl.v24 kernelRun0_A.sl.HS0_1 kernelRun0_A.sl.H6_1
  simp only [rd]
  repeat rw [ld2]
  try rw [cov2]
  try rw [cov2]
  first | done | rfl

/-- The rows kept at the first column block. -/
theorem sout0_A_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    sout0_A_0 c i arg2 harg2 arg3 harg3 arg4 harg4 arg5 harg5 arg6 harg6 arg7 harg7 arg8 harg8 arg9 harg9 hc0 hc1 x0 x1 x2 x3 x4 x5 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  refine (View.canon_cons_unit_zero zero2 _ _ _).trans ?_
  simp only [rd]
  repeat rw [ld2]
  try rw [cov2]
  try rw [cov2]
  first | done | rfl

/-- The sum after a column block between. -/
theorem out0_B_6_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 x0 x1 x2 x3 x4 x5 xo6 xs0 = addBlk xs0 x2 x3 x4 xo6 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0)]
  refine (View.canon_cons_unit_zero zero2 _ _ _).trans ?_
  simp only [rd]
  repeat rw [ld2]
  try rw [cov2]
  try rw [cov2]
  first | done | rfl

/-- The rows after the last column block. -/
theorem out0_C_6_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_C_6 c i arg2 harg2 arg3 harg3 arg4 harg4 arg5 harg5 arg6 harg6 arg7 harg7 arg8 harg8 arg9 harg9 hc0 hc1 x0 x1 x2 x3 x4 x5 xo6 xs0 = k0_pay1 x0 (addBlk xs0 x2 x3 x4 xo6) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0)]
  refine (View.canon_cons_unit_zero zero2 _ _ _).trans ?_
  unfold kernelRun0_C.sl.v37 kernelRun0_C.sl.H6_1
  simp only [rd]
  repeat rw [ld2]
  try rw [cov2]
  try rw [cov2]
  first | done | rfl

end Cert.Kernel2Ideal.Ffn

end
-- ==== Proof.FfnValue2.lean ====
/- The feed-forward call's result over the extended reals, with the last normalisation: the layer of each row. -/
module

public import proofs.«01_k».proof.Proof.FfnMath
public import proofs.«01_k».proof.Proof.FfnStored2
public import Idealize.ShloMosaic.Lib.StableHlo.ReadAt
public import Idealize.ShloMosaic.Lib.Pointwise

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Whole Cert.FfnMath

/-! ## The stored values at an index -/

theorem rows_apply (x : Vec Ideal S1024x2048 .f32) (w : Vec Ideal S1x2048 .f32) (i : Fin 1024) (e : Fin 2048) :
    k0_pay2 x w (ix2 i e) = norm (fun a => x (ix2 i a)) (fun a => w (ix2 0 a)) e := by
  unfold k0_pay2
  pointwise
  rfl

theorem zeros_apply (i : Fin 1024) (e : Fin 2048) : k0_pay3 (F := Ideal) (ix2 i e) = (0 : EReal) := by
  unfold k0_pay3
  pointwise
  done

theorem ld_left (g : Vec Ideal S2048x512 .bf16) (k : Fin 2048) (x : Fin 256) :
    View.ld (Val := Elt Ideal) g rL (ix2 k x : S2048x256.Idx) = g (ix2 k ⟨x.val, by omega⟩) := by
  refine congrArg g ?_
  funext a
  refine Fin.ext ?_
  show (rL.emb (ix2 k x : S2048x256.Idx) a).val = _
  rw [Rect.emb_apply]
  revert a
  simp [Fin.forall_fin_succ, ix2]

theorem ld_right (g : Vec Ideal S2048x512 .bf16) (k : Fin 2048) (x : Fin 256) :
    View.ld (Val := Elt Ideal) g rR (ix2 k x : S2048x256.Idx) = g (ix2 k ⟨256 + x.val, by omega⟩) := by
  refine congrArg g ?_
  funext a
  refine Fin.ext ?_
  show (rR.emb (ix2 k x : S2048x256.Idx) a).val = _
  rw [Rect.emb_apply]
  revert a
  simp [Fin.forall_fin_succ, ix2]

/-- One column block's part added, at an index. -/
theorem addBlk_apply (u : Vec Ideal S1024x2048 .bf16) (g w : Vec Ideal S2048x512 .bf16) (d : Vec Ideal S512x2048 .bf16) (o : Vec Ideal S1024x2048 .f32)
    (i : Fin 1024) (e : Fin 2048) (n : ℕ) (U : Fin 2048 → EReal) (G W : Fin 2048 → Fin 5632 → EReal) (D : Fin 5632 → Fin 2048 → EReal)
    (hn : n + 512 ≤ 5632) (hu : ∀ k, u (ix2 i k) = U k) (hg : ∀ k (x : Fin 512), g (ix2 k x) = G k ⟨n + x.val, by omega⟩)
    (hw : ∀ k (x : Fin 512), w (ix2 k x) = W k ⟨n + x.val, by omega⟩) (hd : ∀ (x : Fin 512), d (ix2 x e) = D ⟨n + x.val, by omega⟩ e)
    (ho : o (ix2 i e) = ∑ a ∈ Finset.range n, term U G W D e a) :
    addBlk u g w d o (ix2 i e) = ∑ a ∈ Finset.range (n + 512), term U G W D e a := by
  rw [sum_blocks]
  have hL : ∀ x : Fin 256, term U G W D e (n + x.val) = act U G W ⟨n + x.val, by omega⟩ * D ⟨n + x.val, by omega⟩ e := fun x => dif_pos (by omega)
  have hR : ∀ x : Fin 256, term U G W D e (n + (256 + x.val)) = act U G W ⟨n + (256 + x.val), by omega⟩ * D ⟨n + (256 + x.val), by omega⟩ e := fun x => dif_pos (by omega)
  unfold addBlk k0_pay4
  pointwise
  simp only [ld_left, ld_right, hu, hg, hw, hd, ho, hL, hR]
  rfl

theorem last_apply (x o : Vec Ideal S1024x2048 .f32) (w : Vec Ideal S1x2048 .f32) (i : Fin 1024) (e : Fin 2048) :
    k0_pay1 x o w (ix2 i e) = norm (fun a => x (ix2 i a) + Ideal.ofBits .f32 0x3F000000#32 * o (ix2 i a)) (fun a => w (ix2 0 a)) e := by
  unfold k0_pay1
  pointwise
  rfl

/-! ## The staged arrays and their blocks -/

section Arrays

variable (m : (ℓ : Loc nD τ sig) → Buf (Elt Ideal) ℓ) (c : Dev nD)

/-- A row of the hidden state. -/
def X (r : Fin 16384) (e : Fin 2048) : EReal := m ((c : Thread nD τ).loc main_arg0) (ix3 ⟨r.val / 4096, by omega⟩ ⟨r.val % 4096, Nat.mod_lt _ (by norm_num)⟩ e)
/-- The first normalisation's weights. -/
def Nw (e : Fin 2048) : EReal := m ((c : Thread nD τ).loc main_arg1) (ix2 0 e)
/-- The three matrices. -/
def Gw (k : Fin 2048) (f : Fin 5632) : EReal := m ((c : Thread nD τ).loc main_arg2) (ix3 0 k f)
def Uw (k : Fin 2048) (f : Fin 5632) : EReal := m ((c : Thread nD τ).loc main_arg3) (ix3 0 k f)
def Dw (f : Fin 5632) (e : Fin 2048) : EReal := m ((c : Thread nD τ).loc main_arg4) (ix3 0 f e)
/-- The last normalisation's weights. -/
def Lw (e : Fin 2048) : EReal := m ((c : Thread nD τ).loc main_arg5) (ix1 e)

theorem V_main_v0 (r : Fin 16384) (e : Fin 2048) : (V m c main_v0 : S16384x2048.Idx → EReal) (ix2 r e) = X m c r e := by
  unfold V
  after_reads_at
  rfl

theorem V_main_v2 (r : Fin 1) (e : Fin 2048) : (V m c main_v2 : S1x2048.Idx → EReal) (ix2 r e) = Nw m c e := by
  unfold V
  after_reads_at
  rfl

theorem V_main_v4 (r : Fin 2048) (e : Fin 5632) : (V m c main_v4 : S2048x5632.Idx → EReal) (ix2 r e) = Gw m c r e := by
  unfold V
  after_reads_at
  rfl

theorem V_main_v6 (r : Fin 2048) (e : Fin 5632) : (V m c main_v6 : S2048x5632.Idx → EReal) (ix2 r e) = Uw m c r e := by
  unfold V
  after_reads_at
  rfl

theorem V_main_v8 (r : Fin 5632) (e : Fin 2048) : (V m c main_v8 : S5632x2048.Idx → EReal) (ix2 r e) = Dw m c r e := by
  unfold V
  after_reads_at
  rfl

theorem V_main_v9 (r : Fin 1) (e : Fin 2048) : (V m c main_v9 : S1x2048.Idx → EReal) (ix2 r e) = Lw m c e := by
  unfold V
  after_reads_at
  rfl

theorem rowlt (t : Fin cfg0.N) (i : Fin 1024) : 1024 * (t.val / 11) + i.val < 16384 := by
  have h := lt_of_lt_of_eq t.isLt N_0
  omega

theorem collt (t : Fin cfg0.N) (i : Fin 512) : 512 * (t.val % 11) + i.val < 5632 := by
  have h := Nat.mod_lt t.val (show 0 < 11 by norm_num)
  omega

theorem index0 : ∀ t : Fin cfg0.N, win0_0.index t = ![t.val / 11, 0] := (by decide +kernel : ∀ t : Fin grid0.N, _)

theorem blk0 (t : Fin cfg0.N) (i : Fin 1024) (j : Fin 2048) : (iblk m c 0 t : Vec Ideal S1024x2048 .f32) (ix2 i j) = X m c ⟨1024 * (t.val / 11) + i.val, rowlt t i⟩ j := by
  have hi := index0 t
  refine Eq.trans ?_ (V_main_v0 m c ⟨1024 * (t.val / 11) + i.val, rowlt t i⟩ j)
  unfold iblk
  rw [View.read_apply]
  show V m c main_v0 _ = V m c main_v0 _
  congr 1
  funext a
  apply Fin.ext
  match a with
  | ⟨0, _⟩ => show win0_0.index t 0 * 1024 + 1 * i.val = 1024 * (t.val / 11) + i.val; rw [hi]; show t.val / 11 * 1024 + 1 * i.val = _; omega
  | ⟨1, _⟩ => show win0_0.index t 1 * 2048 + 1 * j.val = j.val; rw [hi]; show 0 * 2048 + 1 * j.val = _; omega

theorem index1 : ∀ t : Fin cfg0.N, win0_1.index t = ![0, 0] := (by decide +kernel : ∀ t : Fin grid0.N, _)

theorem blk1 (t : Fin cfg0.N) (i : Fin 1) (j : Fin 2048) : (iblk m c 1 t : Vec Ideal S1x2048 .f32) (ix2 i j) = Nw m c j := by
  have hi := index1 t
  refine Eq.trans ?_ (V_main_v2 m c i j)
  unfold iblk
  rw [View.read_apply]
  show V m c main_v2 _ = V m c main_v2 _
  congr 1
  funext a
  apply Fin.ext
  match a with
  | ⟨0, _⟩ => show win0_1.index t 0 * 1 + 1 * i.val = i.val; rw [hi]; show 0 * 1 + 1 * i.val = _; omega
  | ⟨1, _⟩ => show win0_1.index t 1 * 2048 + 1 * j.val = j.val; rw [hi]; show 0 * 2048 + 1 * j.val = _; omega

theorem index2 : ∀ t : Fin cfg0.N, win0_2.index t = ![0, t.val % 11] := (by decide +kernel : ∀ t : Fin grid0.N, _)

theorem blk2 (t : Fin cfg0.N) (i : Fin 2048) (j : Fin 512) : (iblk m c 2 t : Vec Ideal S2048x512 .bf16) (ix2 i j) = Gw m c i ⟨512 * (t.val % 11) + j.val, collt t j⟩ := by
  have hi := index2 t
  refine Eq.trans ?_ (V_main_v4 m c i ⟨512 * (t.val % 11) + j.val, collt t j⟩)
  unfold iblk
  rw [View.read_apply]
  show V m c main_v4 _ = V m c main_v4 _
  congr 1
  funext a
  apply Fin.ext
  match a with
  | ⟨0, _⟩ => show win0_2.index t 0 * 2048 + 1 * i.val = i.val; rw [hi]; show 0 * 2048 + 1 * i.val = _; omega
  | ⟨1, _⟩ => show win0_2.index t 1 * 512 + 1 * j.val = 512 * (t.val % 11) + j.val; rw [hi]; show t.val % 11 * 512 + 1 * j.val = _; omega

theorem index3 : ∀ t : Fin cfg0.N, win0_3.index t = ![0, t.val % 11] := (by decide +kernel : ∀ t : Fin grid0.N, _)

theorem blk3 (t : Fin cfg0.N) (i : Fin 2048) (j : Fin 512) : (iblk m c 3 t : Vec Ideal S2048x512 .bf16) (ix2 i j) = Uw m c i ⟨512 * (t.val % 11) + j.val, collt t j⟩ := by
  have hi := index3 t
  refine Eq.trans ?_ (V_main_v6 m c i ⟨512 * (t.val % 11) + j.val, collt t j⟩)
  unfold iblk
  rw [View.read_apply]
  show V m c main_v6 _ = V m c main_v6 _
  congr 1
  funext a
  apply Fin.ext
  match a with
  | ⟨0, _⟩ => show win0_3.index t 0 * 2048 + 1 * i.val = i.val; rw [hi]; show 0 * 2048 + 1 * i.val = _; omega
  | ⟨1, _⟩ => show win0_3.index t 1 * 512 + 1 * j.val = 512 * (t.val % 11) + j.val; rw [hi]; show t.val % 11 * 512 + 1 * j.val = _; omega

theorem index4 : ∀ t : Fin cfg0.N, win0_4.index t = ![t.val % 11, 0] := (by decide +kernel : ∀ t : Fin grid0.N, _)

theorem blk4 (t : Fin cfg0.N) (i : Fin 512) (j : Fin 2048) : (iblk m c 4 t : Vec Ideal S512x2048 .bf16) (ix2 i j) = Dw m c ⟨512 * (t.val % 11) + i.val, collt t i⟩ j := by
  have hi := index4 t
  refine Eq.trans ?_ (V_main_v8 m c ⟨512 * (t.val % 11) + i.val, collt t i⟩ j)
  unfold iblk
  rw [View.read_apply]
  show V m c main_v8 _ = V m c main_v8 _
  congr 1
  funext a
  apply Fin.ext
  match a with
  | ⟨0, _⟩ => show win0_4.index t 0 * 512 + 1 * i.val = 512 * (t.val % 11) + i.val; rw [hi]; show t.val % 11 * 512 + 1 * i.val = _; omega
  | ⟨1, _⟩ => show win0_4.index t 1 * 2048 + 1 * j.val = j.val; rw [hi]; show 0 * 2048 + 1 * j.val = _; omega

theorem index5 : ∀ t : Fin cfg0.N, win0_5.index t = ![0, 0] := (by decide +kernel : ∀ t : Fin grid0.N, _)

theorem blk5 (t : Fin cfg0.N) (i : Fin 1) (j : Fin 2048) : (iblk m c 5 t : Vec Ideal S1x2048 .f32) (ix2 i j) = Lw m c j := by
  have hi := index5 t
  refine Eq.trans ?_ (V_main_v9 m c i j)
  unfold iblk
  rw [View.read_apply]
  show V m c main_v9 _ = V m c main_v9 _
  congr 1
  funext a
  apply Fin.ext
  match a with
  | ⟨0, _⟩ => show win0_5.index t 0 * 1 + 1 * i.val = i.val; rw [hi]; show 0 * 1 + 1 * i.val = _; omega
  | ⟨1, _⟩ => show win0_5.index t 1 * 2048 + 1 * j.val = j.val; rw [hi]; show 0 * 2048 + 1 * j.val = _; omega

/-! ## The sum over the column blocks -/

/-- The row of the array that row `i` of the block at point `n` is. -/
theorem row_lt {n : ℕ} (hn : n < cfg0.N) (i : Fin 1024) : 1024 * (n / 11) + i.val < 16384 := rowlt ⟨n, hn⟩ i

/-- The normalised row. -/
def U (r : Fin 16384) : Fin 2048 → EReal := norm (X m c r) (Nw m c)

/-- What the first point of a row block leaves. -/
theorem first (t : Fin cfg0.N) (ht : t.val % 11 = 0) (i : Fin 1024) (e : Fin 2048) :
    (outsAt0 m c t.val t.isLt).1 (ix2 i e) = ∑ a ∈ Finset.range (512 * (t.val % 11) + 512), term (U m c ⟨1024 * (t.val / 11) + i.val, rowlt t i⟩) (Gw m c) (Uw m c) (Dw m c) e a
    ∧ (outsAt0 m c t.val t.isLt).2 (ix2 i e) = U m c ⟨1024 * (t.val / 11) + i.val, rowlt t i⟩ e := by
  have hu : ∀ k : Fin 2048, k0_pay2 (F := Ideal) (iblk m c 0 t) (iblk m c 1 t) (ix2 i k) = U m c ⟨1024 * (t.val / 11) + i.val, rowlt t i⟩ k := by
    intro k
    rw [rows_apply]
    unfold U
    congr 1
    · funext a; exact blk0 m c t i a
    · funext a; exact blk1 m c t 0 a
  rw [outsAt0_A m c t ht (by omega)]
  dsimp only
  rw [out0_A_6_eq, sout0_A_0_eq]
  refine ⟨?_, hu e⟩
  refine addBlk_apply _ _ _ _ _ i e (512 * (t.val % 11)) _ _ _ _ (by omega) hu
    (fun k x => blk2 m c t k x) (fun k x => blk3 m c t k x) (fun x => blk4 m c t x e) ?_
  rw [zeros_apply, ht]
  rfl

/-- What a point before the last of its row block leaves: the sum over the columns so far, and the normalised rows. -/
theorem state (n : ℕ) : ∀ (hn : n < cfg0.N), n % 11 ≠ 10 → ∀ (i : Fin 1024) (e : Fin 2048),
    (outsAt0 m c n hn).1 (ix2 i e) = ∑ a ∈ Finset.range (512 * (n % 11) + 512), term (U m c ⟨1024 * (n / 11) + i.val, row_lt hn i⟩) (Gw m c) (Uw m c) (Dw m c) e a
    ∧ (outsAt0 m c n hn).2 (ix2 i e) = U m c ⟨1024 * (n / 11) + i.val, row_lt hn i⟩ e := by
  induction n with
  | zero =>
    intro hn h10 i e
    exact first m c ⟨0, hn⟩ rfl i e
  | succ n ih =>
    intro hn h10 i e
    by_cases h0 : (n + 1) % 11 = 0
    · exact first m c ⟨n + 1, hn⟩ h0 i e
    · have hn' : n < cfg0.N := Nat.lt_of_succ_lt hn
      have hm : n % 11 ≠ 10 := by omega
      have hd : (n + 1) / 11 = n / 11 := by omega
      have hmod : (n + 1) % 11 = n % 11 + 1 := by omega
      have hr : (⟨1024 * ((n + 1) / 11) + i.val, row_lt hn i⟩ : Fin 16384) = ⟨1024 * (n / 11) + i.val, row_lt hn' i⟩ := Fin.ext (by simp only [hd])
      have e1 := outsAt0_B m c ⟨n + 1, hn⟩ h0 h10
      dsimp only at e1
      rw [e1, out0_B_6_eq, hr]
      refine ⟨?_, (ih hn' hm i e).2⟩
      refine addBlk_apply _ _ _ _ _ i e (512 * ((n + 1) % 11)) _ _ _ _ (by omega) (fun k => (ih hn' hm i k).2)
        (fun k x => blk2 m c ⟨n + 1, hn⟩ k x) (fun k x => blk3 m c ⟨n + 1, hn⟩ k x) (fun x => blk4 m c ⟨n + 1, hn⟩ x e) ?_
      have hk : 512 * (n % 11) + 512 = 512 * ((n + 1) % 11) := by omega
      exact hk ▸ (ih hn' hm i e).1

/-- What the last point of a row block leaves. -/
theorem last (t : Fin cfg0.N) (ht : t.val % 11 = 10) (i : Fin 1024) (e : Fin 2048) :
    (outsAt0 m c t.val t.isLt).1 (ix2 i e) = norm (resid (X m c ⟨1024 * (t.val / 11) + i.val, rowlt t i⟩) (U m c ⟨1024 * (t.val / 11) + i.val, rowlt t i⟩) (Gw m c) (Uw m c) (Dw m c)) (Lw m c) e := by
  obtain ⟨n, hn⟩ := t
  obtain ⟨n, rfl⟩ : ∃ k, n = k + 1 := ⟨n - 1, by dsimp only at ht; omega⟩
  dsimp only at ht
  have hn' : n < cfg0.N := Nat.lt_of_succ_lt hn
  have hm : n % 11 ≠ 10 := by omega
  have hd : (n + 1) / 11 = n / 11 := by omega
  have hr : (⟨1024 * ((n + 1) / 11) + i.val, row_lt hn i⟩ : Fin 16384) = ⟨1024 * (n / 11) + i.val, row_lt hn' i⟩ := Fin.ext (by simp only [hd])
  have e1 := outsAt0_C m c ⟨n + 1, hn⟩ (by dsimp only; omega) ht
  dsimp only at e1
  have hs : ∀ e : Fin 2048, addBlk (outsAt0 m c n hn').2 (iblk m c 2 ⟨n + 1, hn⟩) (iblk m c 3 ⟨n + 1, hn⟩) (iblk m c 4 ⟨n + 1, hn⟩) (outsAt0 m c n hn').1 (ix2 i e)
      = ∑ f, act (U m c ⟨1024 * ((n + 1) / 11) + i.val, row_lt hn i⟩) (Gw m c) (Uw m c) f * Dw m c f e := by
    intro e
    rw [← sum_term, hr]
    have ho := (state m c n hn' hm i e).1
    have hk : 512 * (n % 11) + 512 = 512 * ((n + 1) % 11) := by omega
    have hk' : 512 * ((n + 1) % 11) + 512 = 5632 := by omega
    rw [hk] at ho
    have h1 := addBlk_apply (outsAt0 m c n hn').2 (iblk m c 2 ⟨n + 1, hn⟩) (iblk m c 3 ⟨n + 1, hn⟩) (iblk m c 4 ⟨n + 1, hn⟩) (outsAt0 m c n hn').1 i e (512 * ((n + 1) % 11))
      (U m c ⟨1024 * (n / 11) + i.val, row_lt hn' i⟩) (Gw m c) (Uw m c) (Dw m c) (by omega) (fun k => (state m c n hn' hm i k).2)
      (fun k x => blk2 m c ⟨n + 1, hn⟩ k x) (fun k x => blk3 m c ⟨n + 1, hn⟩ k x) (fun x => blk4 m c ⟨n + 1, hn⟩ x e) ho
    rw [h1, hk']
  rw [e1, out0_C_6_eq]
  dsimp only
  rw [last_apply]
  simp only [Nat.add_sub_cancel, hs, blk0 m c ⟨n + 1, hn⟩, blk5 m c ⟨n + 1, hn⟩]
  rfl

/-- The result. -/
theorem result_apply (r : Fin 16384) (e : Fin 2048) : (Value.G6 m c : S16384x2048.Idx → EReal) (ix2 r e) = norm (resid (X m c r) (U m c r) (Gw m c) (Uw m c) (Dw m c)) (Lw m c) e := by
  have hp : Value.pt6Of (ix2 r e) = 11 * (r.val / 1024) + 10 := by
    show 11 * (1 * (r.val / 1024 - 0) + 1 * (e.val / 2048 - 0)) + 10 = _
    omega
  have hN : Value.pt6Of (ix2 r e) < cfg0.N := lt_of_lt_of_eq (by rw [hp]; omega) N_0.symm
  unfold Value.G6
  rw [dif_pos hN, ← Value.outsAt0_sweep]
  have hl : Value.loc6Of (ix2 r e) = ix2 (⟨r.val % 1024, Nat.mod_lt _ (by norm_num)⟩ : Fin 1024) e := by
    funext a
    match a with
    | ⟨0, _⟩ => rfl
    | ⟨1, _⟩ => exact Fin.ext (Nat.mod_eq_of_lt e.isLt)
  rw [hl]
  refine (last m c ⟨_, hN⟩ (by dsimp only; rw [hp]; omega) _ e).trans ?_
  have hr : (⟨1024 * (Value.pt6Of (ix2 r e) / 11) + r.val % 1024, rowlt ⟨_, hN⟩ ⟨r.val % 1024, Nat.mod_lt _ (by norm_num)⟩⟩ : Fin 16384) = r :=
    Fin.ext (by simp only [hp]; omega)
  have hx : ∀ z z' : Fin 16384, z = z' → norm (resid (X m c z) (U m c z) (Gw m c) (Uw m c) (Dw m c)) (Lw m c) e = norm (resid (X m c z') (U m c z') (Gw m c) (Uw m c) (Dw m c)) (Lw m c) e := fun z z' h => h ▸ rfl
  exact hx _ _ hr

end Arrays

end Cert.Kernel2Ideal.Ffn

end
-- ==== Proof.FfnRef2.lean ====
/- The feed-forward reference with the last normalisation, read at an index: the layer of one row. -/
module

public import proofs.«01_k».proof.Proof.FfnMath
public import proofs.«01_k».proof.Proof.Gen.Reference2Ideal.Run
public import Idealize.ShloMosaic.Lib.Pointwise

@[expose] public section

set_option maxRecDepth 16384

noncomputable section

namespace Cert.Reference2Ideal.Ffn

open Idealize.ShloMosaic Idealize.ShloMosaic.TcCoe Idealize.SL.Sem Cert.Reference2Ideal Cert.Reference2Ideal.Gen Cert.FfnMath

section Terms

variable {F : FTy → Type} [FloatOps F]

/-- The rows normalised. -/
def normed (x : FVec F S4x4096x2048 .f32) (w : FVec F S2048 .f32) : FVec F S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 w))

/-- The rows times a matrix. -/
def lin (u : FVec F S4x4096x2048 .f32) (a : FVec F S1x2048x5632 .f32) : FVec F S4x4096x5632 .f32 :=
  Host.dotGeneral dot_S4x4096x2048_S2048x5632_S4x4096x5632_2_0_01_1_n_n none u (shapeCast S2048x5632 a shapeCasts_S1x2048x5632_S2048x5632)

/-- The hidden values, of the two products. -/
def hidden (g w : FVec F S4x4096x5632 .f32) : FVec F S4x4096x5632 .f32 :=
  mulf (mulf g (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf g))))) w

/-- The rows plus half the output product. -/
def added (x : FVec F S4x4096x2048 .f32) (h : FVec F S4x4096x5632 .f32) (d : FVec F S1x5632x2048 .f32) : FVec F S4x4096x2048 .f32 :=
  addf x (mulf (broadcastInDim S4x4096x2048 ![] bcast_S_S4x4096x2048 (constant S_ .f32 0x3F000000#32)) (Host.dotGeneral dot_S4x4096x5632_S5632x2048_S4x4096x2048_2_0_01_1_n_n none h (shapeCast S5632x2048 d shapeCasts_S1x5632x2048_S5632x2048)))

/-- The layer of all the rows. -/
def layer (x : FVec F S4x4096x2048 .f32) (n : FVec F S1x2048 .f32) (g w : FVec F S1x2048x5632 .f32) (d : FVec F S1x5632x2048 .f32) : FVec F S4x4096x2048 .f32 :=
  added x (hidden (lin (normed x (shapeCast S2048 n shapeCasts_S1x2048_S2048)) g) (lin (normed x (shapeCast S2048 n shapeCasts_S1x2048_S2048)) w)) d

end Terms

section Read

variable (x : FVec Ideal S4x4096x2048 .f32) (b : Fin 4) (t : Fin 4096)

theorem normed_apply (w : FVec Ideal S2048 .f32) (e : Fin 2048) : normed x w (ix3 b t e) = norm (fun a => x (ix3 b t a)) (fun a => w (ix1 a)) e := by
  unfold normed
  pointwise
  rfl

theorem lin_apply (a : FVec Ideal S1x2048x5632 .f32) (f : Fin 5632) : lin x a (ix3 b t f) = ∑ k : Fin 2048, x (ix3 b t k) * a (ix3 0 k f) := by
  unfold lin
  pointwise
  done

theorem hidden_apply (g w : FVec Ideal S4x4096x5632 .f32) (f : Fin 5632) :
    hidden g w (ix3 b t f) = g (ix3 b t f) * Ideal.logistic (g (ix3 b t f)) * w (ix3 b t f) := by
  unfold hidden
  pointwise
  rfl

theorem added_apply (h : FVec Ideal S4x4096x5632 .f32) (d : FVec Ideal S1x5632x2048 .f32) (e : Fin 2048) :
    added x h d (ix3 b t e) = x (ix3 b t e) + Ideal.ofBits .f32 0x3F000000#32 * ∑ f : Fin 5632, h (ix3 b t f) * d (ix3 0 f e) := by
  unfold added
  pointwise
  done

/-- The layer at an index. -/
theorem layer_apply (n : FVec Ideal S1x2048 .f32) (g w : FVec Ideal S1x2048x5632 .f32) (d : FVec Ideal S1x5632x2048 .f32) (e : Fin 2048) :
    layer x n g w d (ix3 b t e) = resid (fun a => x (ix3 b t a)) (norm (fun a => x (ix3 b t a)) fun a => n (ix2 0 a)) (fun k f => g (ix3 0 k f)) (fun k f => w (ix3 0 k f)) (fun f a => d (ix3 0 f a)) e := by
  have hn : ∀ a : Fin 2048, shapeCast S2048 n shapeCasts_S1x2048_S2048 (ix1 a) = n (ix2 0 a) := by
    intro a
    pointwise
    done
  unfold layer resid act
  rw [added_apply]
  simp only [hidden_apply, lin_apply, normed_apply, hn]

end Read

variable (m : (ℓ : Loc nD τ sig) → Buf (Elt Ideal) ℓ) (c : Dev nD)

/-- The result, of the arguments. -/
def result : FVec Ideal S16384x2048 .f32 := shapeCast S16384x2048 (normed (F := Ideal) (layer (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) shapeCasts_S4x4096x2048_S16384x2048

theorem run (ρ : Dev nD → PrngReg) :
    θ_run defs (onTc (τ := τ) (main (F := Ideal))) ⟨m, fun _ => 0, ρ⟩ fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- The result at an index. -/
theorem result_apply (r : Fin 16384) (e : Fin 2048) :
    result m c (ix2 r e) = norm (resid (fun a => m ((c : Thread nD τ).loc main_arg0) (ix3 ⟨r.val / 4096, by omega⟩ ⟨r.val % 4096, Nat.mod_lt _ (by norm_num)⟩ a)) (norm (fun a => m ((c : Thread nD τ).loc main_arg0) (ix3 ⟨r.val / 4096, by omega⟩ ⟨r.val % 4096, Nat.mod_lt _ (by norm_num)⟩ a)) fun a => m ((c : Thread nD τ).loc main_arg1) (ix2 0 a)) (fun k f => m ((c : Thread nD τ).loc main_arg2) (ix3 0 k f)) (fun k f => m ((c : Thread nD τ).loc main_arg3) (ix3 0 k f)) (fun f a => m ((c : Thread nD τ).loc main_arg4) (ix3 0 f a))) (fun a => m ((c : Thread nD τ).loc main_arg5) (ix1 a)) e := by
  have hc : ∀ z : FVec Ideal S4x4096x2048 .f32, shapeCast S16384x2048 z shapeCasts_S4x4096x2048_S16384x2048 (ix2 r e)
      = z (ix3 ⟨r.val / 4096, by omega⟩ ⟨r.val % 4096, Nat.mod_lt _ (by norm_num)⟩ e) := by
    intro z
    pointwise
    done
  unfold result
  rw [hc]
  rw [normed_apply]
  simp only [layer_apply]

end Cert.Reference2Ideal.Ffn

end
-- ==== Proof.FfnClaim2.lean ====
/- The feed-forward call with the last normalisation: its frames, its reference's frame, and that the two compute the same function. -/
module

public import proofs.«01_k».proof.Defs
public import proofs.«01_k».proof.Proof.Gen.Kernel2.Frame
public import proofs.«01_k».proof.Proof.Gen.Kernel2Ideal.Value
public import proofs.«01_k».proof.Proof.FfnValue2
public import proofs.«01_k».proof.Proof.FfnRef2

@[expose] public section

noncomputable section

namespace Cert.FfnLast

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) _⟩) (Cert.Reference2Ideal.Ffn.run m ρ)

theorem value : Cert.algebraic_Kernel2Ideal_Reference2Ideal := by
  intro m ρ m' ρ' hpre hargs
  refine ⟨fun c => Cert.Kernel2Ideal.Value.G6 m c, Cert.Kernel2Ideal.Value.run m ρ, ?_⟩
  refine (θ_run Cert.Reference2Ideal.defs _ _).mono (fun r h c => ⟨(h c).1.trans ?_, (h c).2⟩) (Cert.Reference2Ideal.Ffn.run m' ρ')
  obtain ⟨a0, a1, a2, a3, a4, a5⟩ := hargs c
  funext y
  have hy : ∃ (r : Fin 16384) (e : Fin 2048), y = (ix2 r e : Cert.Kernel2Ideal.S16384x2048.Idx) := by
    refine ⟨y 0, y 1, ?_⟩
    funext a
    match a with
    | ⟨0, _⟩ => rfl
    | ⟨1, _⟩ => rfl
  obtain ⟨r, e, rfl⟩ := hy
  refine (Cert.Reference2Ideal.Ffn.result_apply m' c r e).trans ?_
  rw [a0, a1, a2, a3, a4, a5]
  exact (Cert.Kernel2Ideal.Ffn.result_apply m c r e).symm

end Cert.FfnLast

end
-- ==== Proof.FfnStored3.lean ====
/- What a grid point of the feed-forward call stores: at a row block's first point the normalised rows and the first column block's part of the sum, at each later point that
   sum with the next column block's part added, at the last also the residual. -/
module

public import proofs.«01_k».proof.Proof.Gen.Kernel3Ideal.Value
public import proofs.«01_k».proof.Proof.Whole

@[expose] public section

set_option maxRecDepth 16384

noncomputable section

namespace Cert.Kernel3Ideal.Ffn

open Idealize.ShloMosaic Idealize.SL.Sem Cert.Kernel3Ideal Cert.Kernel3Ideal.Gen Cert.Whole

variable {F : FTy → Type} [FloatOps F]

/-- The left and the right half of a block of columns. -/
abbrev rL : Rect S2048x512 := Rect.unit (s := S2048x512) ![0, 0] S2048x256.size inb_S2048x512_S2048x256_0_0
abbrev rR : Rect S2048x512 := Rect.unit (s := S2048x512) ![0, 256] S2048x256.size inb_S2048x512_S2048x256_0_256

/-- One column block's part added to the sum `o`, of the normalised rows and the three blocks of weights. -/
def addBlk (u : Vec F S1024x2048 .bf16) (g w : Vec F S2048x512 .bf16) (d : Vec F S512x2048 .bf16) (o : Vec F S1024x2048 .f32) : Vec F S1024x2048 .f32 :=
  k0_pay4 u (View.ld (Val := Elt F) g rL) (View.ld (Val := Elt F) w rL) (View.ld (Val := Elt F) g rR) (View.ld (Val := Elt F) w rR) o d

/-- The sum after the first column block. -/
theorem out0_A_6_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    out0_A_6 c i arg2 harg2 arg3 harg3 arg4 harg4 arg5 harg5 arg6 harg6 arg7 harg7 arg8 harg8 arg9 harg9 hc0 hc1 x0 x1 x2 x3 x4 x5 = addBlk (k0_pay2 x0 x1) x2 x3 x4 (k0_pay3 (F := F)) := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  refine (View.canon_cons_unit_zero zero2 _ _ _).trans ?_
  unfold kernelRun0_A.sl.v3 kernelRun0_A.sl.v24 kernelRun0_A.sl.HS0_1 kernelRun0_A.sl.H6_1
  simp only [rd]
  repeat rw [ld2]
  try rw [cov2]
  try rw [cov2]
  first | done | rfl

/-- The rows kept at the first column block. -/
theorem sout0_A_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    sout0_A_0 c i arg2 harg2 arg3 harg3 arg4 harg4 arg5 harg5 arg6 harg6 arg7 harg7 arg8 harg8 arg9 harg9 hc0 hc1 x0 x1 x2 x3 x4 x5 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  refine (View.canon_cons_unit_zero zero2 _ _ _).trans ?_
  simp only [rd]
  repeat rw [ld2]
  try rw [cov2]
  try rw [cov2]
  first | done | rfl

/-- The sum after a column block between. -/
theorem out0_B_6_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 x0 x1 x2 x3 x4 x5 xo6 xs0 = addBlk xs0 x2 x3 x4 xo6 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0)]
  refine (View.canon_cons_unit_zero zero2 _ _ _).trans ?_
  simp only [rd]
  repeat rw [ld2]
  try rw [cov2]
  try rw [cov2]
  first | done | rfl

/-- The rows after the last column block. -/
theorem out0_C_6_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_C_6 c i arg2 harg2 arg3 harg3 arg4 harg4 arg5 harg5 arg6 harg6 arg7 harg7 arg8 harg8 arg9 harg9 hc0 hc1 x0 x1 x2 x3 x4 x5 xo6 xs0 = k0_pay1 x0 (addBlk xs0 x2 x3 x4 xo6) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0)]
  refine (View.canon_cons_unit_zero zero2 _ _ _).trans ?_
  unfold kernelRun0_C.sl.v37 kernelRun0_C.sl.H6_1
  simp only [rd]
  repeat rw [ld2]
  try rw [cov2]
  try rw [cov2]
  first | done | rfl

end Cert.Kernel3Ideal.Ffn

end
-- ==== Proof.FfnValue3.lean ====
/- The feed-forward call's result over the extended reals: the layer of each row. -/
module

public import proofs.«01_k».proof.Proof.FfnMath
public import proofs.«01_k».proof.Proof.FfnStored3
public import Idealize.ShloMosaic.Lib.StableHlo.ReadAt
public import Idealize.ShloMosaic.Lib.Pointwise

@[expose] public section

set_option maxRecDepth 16384

noncomputable section

namespace Cert.Kernel3Ideal.Ffn

open Idealize.ShloMosaic Idealize.ShloMosaic.TcCoe Idealize.SL.Sem Cert.Kernel3Ideal Cert.Kernel3Ideal.Gen Cert.Whole Cert.FfnMath

/-! ## The stored values at an index -/

theorem rows_apply (x : Vec Ideal S1024x2048 .f32) (w : Vec Ideal S1x2048 .f32) (i : Fin 1024) (e : Fin 2048) :
    k0_pay2 x w (ix2 i e) = norm (fun a => x (ix2 i a)) (fun a => w (ix2 0 a)) e := by
  unfold k0_pay2
  pointwise
  rfl

theorem zeros_apply (i : Fin 1024) (e : Fin 2048) : k0_pay3 (F := Ideal) (ix2 i e) = (0 : EReal) := by
  unfold k0_pay3
  pointwise
  done

theorem ld_left (g : Vec Ideal S2048x512 .bf16) (k : Fin 2048) (x : Fin 256) :
    View.ld (Val := Elt Ideal) g rL (ix2 k x : S2048x256.Idx) = g (ix2 k ⟨x.val, by omega⟩) := by
  refine congrArg g ?_
  funext a
  refine Fin.ext ?_
  show (rL.emb (ix2 k x : S2048x256.Idx) a).val = _
  rw [Rect.emb_apply]
  revert a
  simp [Fin.forall_fin_succ, ix2]

theorem ld_right (g : Vec Ideal S2048x512 .bf16) (k : Fin 2048) (x : Fin 256) :
    View.ld (Val := Elt Ideal) g rR (ix2 k x : S2048x256.Idx) = g (ix2 k ⟨256 + x.val, by omega⟩) := by
  refine congrArg g ?_
  funext a
  refine Fin.ext ?_
  show (rR.emb (ix2 k x : S2048x256.Idx) a).val = _
  rw [Rect.emb_apply]
  revert a
  simp [Fin.forall_fin_succ, ix2]

/-- One column block's part added, at an index. -/
theorem addBlk_apply (u : Vec Ideal S1024x2048 .bf16) (g w : Vec Ideal S2048x512 .bf16) (d : Vec Ideal S512x2048 .bf16) (o : Vec Ideal S1024x2048 .f32)
    (i : Fin 1024) (e : Fin 2048) (n : ℕ) (U : Fin 2048 → EReal) (G W : Fin 2048 → Fin 5632 → EReal) (D : Fin 5632 → Fin 2048 → EReal)
    (hn : n + 512 ≤ 5632) (hu : ∀ k, u (ix2 i k) = U k) (hg : ∀ k (x : Fin 512), g (ix2 k x) = G k ⟨n + x.val, by omega⟩)
    (hw : ∀ k (x : Fin 512), w (ix2 k x) = W k ⟨n + x.val, by omega⟩) (hd : ∀ (x : Fin 512), d (ix2 x e) = D ⟨n + x.val, by omega⟩ e)
    (ho : o (ix2 i e) = ∑ a ∈ Finset.range n, term U G W D e a) :
    addBlk u g w d o (ix2 i e) = ∑ a ∈ Finset.range (n + 512), term U G W D e a := by
  rw [sum_blocks]
  have hL : ∀ x : Fin 256, term U G W D e (n + x.val) = act U G W ⟨n + x.val, by omega⟩ * D ⟨n + x.val, by omega⟩ e := fun x => dif_pos (by omega)
  have hR : ∀ x : Fin 256, term U G W D e (n + (256 + x.val)) = act U G W ⟨n + (256 + x.val), by omega⟩ * D ⟨n + (256 + x.val), by omega⟩ e := fun x => dif_pos (by omega)
  unfold addBlk k0_pay4
  pointwise
  simp only [ld_left, ld_right, hu, hg, hw, hd, ho, hL, hR]
  rfl

theorem last_apply (x o : Vec Ideal S1024x2048 .f32) (i : Fin 1024) (e : Fin 2048) :
    k0_pay1 x o (ix2 i e) = x (ix2 i e) + Ideal.ofBits .f32 0x3F000000#32 * o (ix2 i e) := by
  unfold k0_pay1
  pointwise
  done

/-! ## The staged arrays and their blocks -/

section Arrays

variable (m : (ℓ : Loc nD τ sig) → Buf (Elt Ideal) ℓ) (c : Dev nD)

/-- A row of the hidden state. -/
def X (r : Fin 16384) (e : Fin 2048) : EReal := m ((c : Thread nD τ).loc main_arg0) (ix3 ⟨r.val / 4096, by omega⟩ ⟨r.val % 4096, Nat.mod_lt _ (by norm_num)⟩ e)
/-- The first normalisation's weights. -/
def Nw (e : Fin 2048) : EReal := m ((c : Thread nD τ).loc main_arg1) (ix2 0 e)
/-- The three matrices. -/
def Gw (k : Fin 2048) (f : Fin 5632) : EReal := m ((c : Thread nD τ).loc main_arg2) (ix3 0 k f)
def Uw (k : Fin 2048) (f : Fin 5632) : EReal := m ((c : Thread nD τ).loc main_arg3) (ix3 0 k f)
def Dw (f : Fin 5632) (e : Fin 2048) : EReal := m ((c : Thread nD τ).loc main_arg4) (ix3 0 f e)
/-- The last normalisation's weights. -/
def Lw (e : Fin 2048) : EReal := m ((c : Thread nD τ).loc main_arg5) (ix1 e)

theorem V_main_v0 (r : Fin 16384) (e : Fin 2048) : (V m c main_v0 : S16384x2048.Idx → EReal) (ix2 r e) = X m c r e := by
  unfold V
  after_reads_at
  rfl

theorem V_main_v2 (r : Fin 1) (e : Fin 2048) : (V m c main_v2 : S1x2048.Idx → EReal) (ix2 r e) = Nw m c e := by
  unfold V
  after_reads_at
  rfl

theorem V_main_v4 (r : Fin 2048) (e : Fin 5632) : (V m c main_v4 : S2048x5632.Idx → EReal) (ix2 r e) = Gw m c r e := by
  unfold V
  after_reads_at
  rfl

theorem V_main_v6 (r : Fin 2048) (e : Fin 5632) : (V m c main_v6 : S2048x5632.Idx → EReal) (ix2 r e) = Uw m c r e := by
  unfold V
  after_reads_at
  rfl

theorem V_main_v8 (r : Fin 5632) (e : Fin 2048) : (V m c main_v8 : S5632x2048.Idx → EReal) (ix2 r e) = Dw m c r e := by
  unfold V
  after_reads_at
  rfl

theorem V_main_v9 (r : Fin 1) (e : Fin 2048) : (V m c main_v9 : S1x2048.Idx → EReal) (ix2 r e) = Lw m c e := by
  unfold V
  after_reads_at
  rfl

theorem rowlt (t : Fin cfg0.N) (i : Fin 1024) : 1024 * (t.val / 11) + i.val < 16384 := by
  have h := lt_of_lt_of_eq t.isLt N_0
  omega

theorem collt (t : Fin cfg0.N) (i : Fin 512) : 512 * (t.val % 11) + i.val < 5632 := by
  have h := Nat.mod_lt t.val (show 0 < 11 by norm_num)
  omega

theorem index0 : ∀ t : Fin cfg0.N, win0_0.index t = ![t.val / 11, 0] := (by decide +kernel : ∀ t : Fin grid0.N, _)

theorem blk0 (t : Fin cfg0.N) (i : Fin 1024) (j : Fin 2048) : (iblk m c 0 t : Vec Ideal S1024x2048 .f32) (ix2 i j) = X m c ⟨1024 * (t.val / 11) + i.val, rowlt t i⟩ j := by
  have hi := index0 t
  refine Eq.trans ?_ (V_main_v0 m c ⟨1024 * (t.val / 11) + i.val, rowlt t i⟩ j)
  unfold iblk
  rw [View.read_apply]
  show V m c main_v0 _ = V m c main_v0 _
  congr 1
  funext a
  apply Fin.ext
  match a with
  | ⟨0, _⟩ => show win0_0.index t 0 * 1024 + 1 * i.val = 1024 * (t.val / 11) + i.val; rw [hi]; show t.val / 11 * 1024 + 1 * i.val = _; omega
  | ⟨1, _⟩ => show win0_0.index t 1 * 2048 + 1 * j.val = j.val; rw [hi]; show 0 * 2048 + 1 * j.val = _; omega

theorem index1 : ∀ t : Fin cfg0.N, win0_1.index t = ![0, 0] := (by decide +kernel : ∀ t : Fin grid0.N, _)

theorem blk1 (t : Fin cfg0.N) (i : Fin 1) (j : Fin 2048) : (iblk m c 1 t : Vec Ideal S1x2048 .f32) (ix2 i j) = Nw m c j := by
  have hi := index1 t
  refine Eq.trans ?_ (V_main_v2 m c i j)
  unfold iblk
  rw [View.read_apply]
  show V m c main_v2 _ = V m c main_v2 _
  congr 1
  funext a
  apply Fin.ext
  match a with
  | ⟨0, _⟩ => show win0_1.index t 0 * 1 + 1 * i.val = i.val; rw [hi]; show 0 * 1 + 1 * i.val = _; omega
  | ⟨1, _⟩ => show win0_1.index t 1 * 2048 + 1 * j.val = j.val; rw [hi]; show 0 * 2048 + 1 * j.val = _; omega

theorem index2 : ∀ t : Fin cfg0.N, win0_2.index t = ![0, t.val % 11] := (by decide +kernel : ∀ t : Fin grid0.N, _)

theorem blk2 (t : Fin cfg0.N) (i : Fin 2048) (j : Fin 512) : (iblk m c 2 t : Vec Ideal S2048x512 .bf16) (ix2 i j) = Gw m c i ⟨512 * (t.val % 11) + j.val, collt t j⟩ := by
  have hi := index2 t
  refine Eq.trans ?_ (V_main_v4 m c i ⟨512 * (t.val % 11) + j.val, collt t j⟩)
  unfold iblk
  rw [View.read_apply]
  show V m c main_v4 _ = V m c main_v4 _
  congr 1
  funext a
  apply Fin.ext
  match a with
  | ⟨0, _⟩ => show win0_2.index t 0 * 2048 + 1 * i.val = i.val; rw [hi]; show 0 * 2048 + 1 * i.val = _; omega
  | ⟨1, _⟩ => show win0_2.index t 1 * 512 + 1 * j.val = 512 * (t.val % 11) + j.val; rw [hi]; show t.val % 11 * 512 + 1 * j.val = _; omega

theorem index3 : ∀ t : Fin cfg0.N, win0_3.index t = ![0, t.val % 11] := (by decide +kernel : ∀ t : Fin grid0.N, _)

theorem blk3 (t : Fin cfg0.N) (i : Fin 2048) (j : Fin 512) : (iblk m c 3 t : Vec Ideal S2048x512 .bf16) (ix2 i j) = Uw m c i ⟨512 * (t.val % 11) + j.val, collt t j⟩ := by
  have hi := index3 t
  refine Eq.trans ?_ (V_main_v6 m c i ⟨512 * (t.val % 11) + j.val, collt t j⟩)
  unfold iblk
  rw [View.read_apply]
  show V m c main_v6 _ = V m c main_v6 _
  congr 1
  funext a
  apply Fin.ext
  match a with
  | ⟨0, _⟩ => show win0_3.index t 0 * 2048 + 1 * i.val = i.val; rw [hi]; show 0 * 2048 + 1 * i.val = _; omega
  | ⟨1, _⟩ => show win0_3.index t 1 * 512 + 1 * j.val = 512 * (t.val % 11) + j.val; rw [hi]; show t.val % 11 * 512 + 1 * j.val = _; omega

theorem index4 : ∀ t : Fin cfg0.N, win0_4.index t = ![t.val % 11, 0] := (by decide +kernel : ∀ t : Fin grid0.N, _)

theorem blk4 (t : Fin cfg0.N) (i : Fin 512) (j : Fin 2048) : (iblk m c 4 t : Vec Ideal S512x2048 .bf16) (ix2 i j) = Dw m c ⟨512 * (t.val % 11) + i.val, collt t i⟩ j := by
  have hi := index4 t
  refine Eq.trans ?_ (V_main_v8 m c ⟨512 * (t.val % 11) + i.val, collt t i⟩ j)
  unfold iblk
  rw [View.read_apply]
  show V m c main_v8 _ = V m c main_v8 _
  congr 1
  funext a
  apply Fin.ext
  match a with
  | ⟨0, _⟩ => show win0_4.index t 0 * 512 + 1 * i.val = 512 * (t.val % 11) + i.val; rw [hi]; show t.val % 11 * 512 + 1 * i.val = _; omega
  | ⟨1, _⟩ => show win0_4.index t 1 * 2048 + 1 * j.val = j.val; rw [hi]; show 0 * 2048 + 1 * j.val = _; omega

theorem index5 : ∀ t : Fin cfg0.N, win0_5.index t = ![0, 0] := (by decide +kernel : ∀ t : Fin grid0.N, _)

theorem blk5 (t : Fin cfg0.N) (i : Fin 1) (j : Fin 2048) : (iblk m c 5 t : Vec Ideal S1x2048 .f32) (ix2 i j) = Lw m c j := by
  have hi := index5 t
  refine Eq.trans ?_ (V_main_v9 m c i j)
  unfold iblk
  rw [View.read_apply]
  show V m c main_v9 _ = V m c main_v9 _
  congr 1
  funext a
  apply Fin.ext
  match a with
  | ⟨0, _⟩ => show win0_5.index t 0 * 1 + 1 * i.val = i.val; rw [hi]; show 0 * 1 + 1 * i.val = _; omega
  | ⟨1, _⟩ => show win0_5.index t 1 * 2048 + 1 * j.val = j.val; rw [hi]; show 0 * 2048 + 1 * j.val = _; omega

/-! ## The sum over the column blocks -/

/-- The row of the array that row `i` of the block at point `n` is. -/
theorem row_lt {n : ℕ} (hn : n < cfg0.N) (i : Fin 1024) : 1024 * (n / 11) + i.val < 16384 := rowlt ⟨n, hn⟩ i

/-- The normalised row. -/
def U (r : Fin 16384) : Fin 2048 → EReal := norm (X m c r) (Nw m c)

/-- What the first point of a row block leaves. -/
theorem first (t : Fin cfg0.N) (ht : t.val % 11 = 0) (i : Fin 1024) (e : Fin 2048) :
    (outsAt0 m c t.val t.isLt).1 (ix2 i e) = ∑ a ∈ Finset.range (512 * (t.val % 11) + 512), term (U m c ⟨1024 * (t.val / 11) + i.val, rowlt t i⟩) (Gw m c) (Uw m c) (Dw m c) e a
    ∧ (outsAt0 m c t.val t.isLt).2 (ix2 i e) = U m c ⟨1024 * (t.val / 11) + i.val, rowlt t i⟩ e := by
  have hu : ∀ k : Fin 2048, k0_pay2 (F := Ideal) (iblk m c 0 t) (iblk m c 1 t) (ix2 i k) = U m c ⟨1024 * (t.val / 11) + i.val, rowlt t i⟩ k := by
    intro k
    rw [rows_apply]
    unfold U
    congr 1
    · funext a; exact blk0 m c t i a
    · funext a; exact blk1 m c t 0 a
  rw [outsAt0_A m c t ht (by omega)]
  dsimp only
  rw [out0_A_6_eq, sout0_A_0_eq]
  refine ⟨?_, hu e⟩
  refine addBlk_apply _ _ _ _ _ i e (512 * (t.val % 11)) _ _ _ _ (by omega) hu
    (fun k x => blk2 m c t k x) (fun k x => blk3 m c t k x) (fun x => blk4 m c t x e) ?_
  rw [zeros_apply, ht]
  rfl

/-- What a point before the last of its row block leaves: the sum over the columns so far, and the normalised rows. -/
theorem state (n : ℕ) : ∀ (hn : n < cfg0.N), n % 11 ≠ 10 → ∀ (i : Fin 1024) (e : Fin 2048),
    (outsAt0 m c n hn).1 (ix2 i e) = ∑ a ∈ Finset.range (512 * (n % 11) + 512), term (U m c ⟨1024 * (n / 11) + i.val, row_lt hn i⟩) (Gw m c) (Uw m c) (Dw m c) e a
    ∧ (outsAt0 m c n hn).2 (ix2 i e) = U m c ⟨1024 * (n / 11) + i.val, row_lt hn i⟩ e := by
  induction n with
  | zero =>
    intro hn h10 i e
    exact first m c ⟨0, hn⟩ rfl i e
  | succ n ih =>
    intro hn h10 i e
    by_cases h0 : (n + 1) % 11 = 0
    · exact first m c ⟨n + 1, hn⟩ h0 i e
    · have hn' : n < cfg0.N := Nat.lt_of_succ_lt hn
      have hm : n % 11 ≠ 10 := by omega
      have hd : (n + 1) / 11 = n / 11 := by omega
      have hmod : (n + 1) % 11 = n % 11 + 1 := by omega
      have hr : (⟨1024 * ((n + 1) / 11) + i.val, row_lt hn i⟩ : Fin 16384) = ⟨1024 * (n / 11) + i.val, row_lt hn' i⟩ := Fin.ext (by simp only [hd])
      have e1 := outsAt0_B m c ⟨n + 1, hn⟩ h0 h10
      dsimp only at e1
      rw [e1, out0_B_6_eq, hr]
      refine ⟨?_, (ih hn' hm i e).2⟩
      refine addBlk_apply _ _ _ _ _ i e (512 * ((n + 1) % 11)) _ _ _ _ (by omega) (fun k => (ih hn' hm i k).2)
        (fun k x => blk2 m c ⟨n + 1, hn⟩ k x) (fun k x => blk3 m c ⟨n + 1, hn⟩ k x) (fun x => blk4 m c ⟨n + 1, hn⟩ x e) ?_
      have hk : 512 * (n % 11) + 512 = 512 * ((n + 1) % 11) := by omega
      exact hk ▸ (ih hn' hm i e).1

/-- What the last point of a row block leaves. -/
theorem last (t : Fin cfg0.N) (ht : t.val % 11 = 10) (i : Fin 1024) (e : Fin 2048) :
    (outsAt0 m c t.val t.isLt).1 (ix2 i e) = resid (X m c ⟨1024 * (t.val / 11) + i.val, rowlt t i⟩) (U m c ⟨1024 * (t.val / 11) + i.val, rowlt t i⟩) (Gw m c) (Uw m c) (Dw m c) e := by
  obtain ⟨n, hn⟩ := t
  obtain ⟨n, rfl⟩ : ∃ k, n = k + 1 := ⟨n - 1, by dsimp only at ht; omega⟩
  dsimp only at ht
  have hn' : n < cfg0.N := Nat.lt_of_succ_lt hn
  have hm : n % 11 ≠ 10 := by omega
  have hd : (n + 1) / 11 = n / 11 := by omega
  have hr : (⟨1024 * ((n + 1) / 11) + i.val, row_lt hn i⟩ : Fin 16384) = ⟨1024 * (n / 11) + i.val, row_lt hn' i⟩ := Fin.ext (by simp only [hd])
  have e1 := outsAt0_C m c ⟨n + 1, hn⟩ (by dsimp only; omega) ht
  dsimp only at e1
  have hs : ∀ e : Fin 2048, addBlk (outsAt0 m c n hn').2 (iblk m c 2 ⟨n + 1, hn⟩) (iblk m c 3 ⟨n + 1, hn⟩) (iblk m c 4 ⟨n + 1, hn⟩) (outsAt0 m c n hn').1 (ix2 i e)
      = ∑ f, act (U m c ⟨1024 * ((n + 1) / 11) + i.val, row_lt hn i⟩) (Gw m c) (Uw m c) f * Dw m c f e := by
    intro e
    rw [← sum_term, hr]
    have ho := (state m c n hn' hm i e).1
    have hk : 512 * (n % 11) + 512 = 512 * ((n + 1) % 11) := by omega
    have hk' : 512 * ((n + 1) % 11) + 512 = 5632 := by omega
    rw [hk] at ho
    have h1 := addBlk_apply (outsAt0 m c n hn').2 (iblk m c 2 ⟨n + 1, hn⟩) (iblk m c 3 ⟨n + 1, hn⟩) (iblk m c 4 ⟨n + 1, hn⟩) (outsAt0 m c n hn').1 i e (512 * ((n + 1) % 11))
      (U m c ⟨1024 * (n / 11) + i.val, row_lt hn' i⟩) (Gw m c) (Uw m c) (Dw m c) (by omega) (fun k => (state m c n hn' hm i k).2)
      (fun k x => blk2 m c ⟨n + 1, hn⟩ k x) (fun k x => blk3 m c ⟨n + 1, hn⟩ k x) (fun x => blk4 m c ⟨n + 1, hn⟩ x e) ho
    rw [h1, hk']
  rw [e1, out0_C_6_eq]
  dsimp only
  rw [last_apply]
  simp only [Nat.add_sub_cancel, hs, blk0 m c ⟨n + 1, hn⟩]
  rfl

/-- The result. -/
theorem result_apply (r : Fin 16384) (e : Fin 2048) : (Value.G6 m c : S16384x2048.Idx → EReal) (ix2 r e) = resid (X m c r) (U m c r) (Gw m c) (Uw m c) (Dw m c) e := by
  have hp : Value.pt6Of (ix2 r e) = 11 * (r.val / 1024) + 10 := by
    show 11 * (1 * (r.val / 1024 - 0) + 1 * (e.val / 2048 - 0)) + 10 = _
    omega
  have hN : Value.pt6Of (ix2 r e) < cfg0.N := lt_of_lt_of_eq (by rw [hp]; omega) N_0.symm
  unfold Value.G6
  rw [dif_pos hN, ← Value.outsAt0_sweep]
  have hl : Value.loc6Of (ix2 r e) = ix2 (⟨r.val % 1024, Nat.mod_lt _ (by norm_num)⟩ : Fin 1024) e := by
    funext a
    match a with
    | ⟨0, _⟩ => rfl
    | ⟨1, _⟩ => exact Fin.ext (Nat.mod_eq_of_lt e.isLt)
  rw [hl]
  refine (last m c ⟨_, hN⟩ (by dsimp only; rw [hp]; omega) _ e).trans ?_
  have hr : (⟨1024 * (Value.pt6Of (ix2 r e) / 11) + r.val % 1024, rowlt ⟨_, hN⟩ ⟨r.val % 1024, Nat.mod_lt _ (by norm_num)⟩⟩ : Fin 16384) = r :=
    Fin.ext (by simp only [hp]; omega)
  have hx : ∀ z z' : Fin 16384, z = z' → resid (X m c z) (U m c z) (Gw m c) (Uw m c) (Dw m c) e = resid (X m c z') (U m c z') (Gw m c) (Uw m c) (Dw m c) e := fun z z' h => h ▸ rfl
  exact hx _ _ hr

end Arrays

end Cert.Kernel3Ideal.Ffn

end
-- ==== Proof.FfnRef3.lean ====
/- The feed-forward reference, read at an index: the layer of one row. -/
module

public import proofs.«01_k».proof.Proof.FfnMath
public import proofs.«01_k».proof.Proof.Gen.Reference3Ideal.Run
public import Idealize.ShloMosaic.Lib.Pointwise

@[expose] public section

set_option maxRecDepth 16384

noncomputable section

namespace Cert.Reference3Ideal.Ffn

open Idealize.ShloMosaic Idealize.ShloMosaic.TcCoe Idealize.SL.Sem Cert.Reference3Ideal Cert.Reference3Ideal.Gen Cert.FfnMath

section Terms

variable {F : FTy → Type} [FloatOps F]

/-- The rows normalised. -/
def normed (x : FVec F S4x4096x2048 .f32) (w : FVec F S2048 .f32) : FVec F S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 w))

/-- The rows times a matrix. -/
def lin (u : FVec F S4x4096x2048 .f32) (a : FVec F S1x2048x5632 .f32) : FVec F S4x4096x5632 .f32 :=
  Host.dotGeneral dot_S4x4096x2048_S2048x5632_S4x4096x5632_2_0_01_1_n_n none u (shapeCast S2048x5632 a shapeCasts_S1x2048x5632_S2048x5632)

/-- The hidden values, of the two products. -/
def hidden (g w : FVec F S4x4096x5632 .f32) : FVec F S4x4096x5632 .f32 :=
  mulf (mulf g (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf g))))) w

/-- The rows plus half the output product. -/
def added (x : FVec F S4x4096x2048 .f32) (h : FVec F S4x4096x5632 .f32) (d : FVec F S1x5632x2048 .f32) : FVec F S4x4096x2048 .f32 :=
  addf x (mulf (broadcastInDim S4x4096x2048 ![] bcast_S_S4x4096x2048 (constant S_ .f32 0x3F000000#32)) (Host.dotGeneral dot_S4x4096x5632_S5632x2048_S4x4096x2048_2_0_01_1_n_n none h (shapeCast S5632x2048 d shapeCasts_S1x5632x2048_S5632x2048)))

/-- The layer of all the rows. -/
def layer (x : FVec F S4x4096x2048 .f32) (n : FVec F S1x2048 .f32) (g w : FVec F S1x2048x5632 .f32) (d : FVec F S1x5632x2048 .f32) : FVec F S4x4096x2048 .f32 :=
  added x (hidden (lin (normed x (shapeCast S2048 n shapeCasts_S1x2048_S2048)) g) (lin (normed x (shapeCast S2048 n shapeCasts_S1x2048_S2048)) w)) d

end Terms

section Read

variable (x : FVec Ideal S4x4096x2048 .f32) (b : Fin 4) (t : Fin 4096)

theorem normed_apply (w : FVec Ideal S2048 .f32) (e : Fin 2048) : normed x w (ix3 b t e) = norm (fun a => x (ix3 b t a)) (fun a => w (ix1 a)) e := by
  unfold normed
  pointwise
  rfl

theorem lin_apply (a : FVec Ideal S1x2048x5632 .f32) (f : Fin 5632) : lin x a (ix3 b t f) = ∑ k : Fin 2048, x (ix3 b t k) * a (ix3 0 k f) := by
  unfold lin
  pointwise
  done

theorem hidden_apply (g w : FVec Ideal S4x4096x5632 .f32) (f : Fin 5632) :
    hidden g w (ix3 b t f) = g (ix3 b t f) * Ideal.logistic (g (ix3 b t f)) * w (ix3 b t f) := by
  unfold hidden
  pointwise
  rfl

theorem added_apply (h : FVec Ideal S4x4096x5632 .f32) (d : FVec Ideal S1x5632x2048 .f32) (e : Fin 2048) :
    added x h d (ix3 b t e) = x (ix3 b t e) + Ideal.ofBits .f32 0x3F000000#32 * ∑ f : Fin 5632, h (ix3 b t f) * d (ix3 0 f e) := by
  unfold added
  pointwise
  done

/-- The layer at an index. -/
theorem layer_apply (n : FVec Ideal S1x2048 .f32) (g w : FVec Ideal S1x2048x5632 .f32) (d : FVec Ideal S1x5632x2048 .f32) (e : Fin 2048) :
    layer x n g w d (ix3 b t e) = resid (fun a => x (ix3 b t a)) (norm (fun a => x (ix3 b t a)) fun a => n (ix2 0 a)) (fun k f => g (ix3 0 k f)) (fun k f => w (ix3 0 k f)) (fun f a => d (ix3 0 f a)) e := by
  have hn : ∀ a : Fin 2048, shapeCast S2048 n shapeCasts_S1x2048_S2048 (ix1 a) = n (ix2 0 a) := by
    intro a
    pointwise
    done
  unfold layer resid act
  rw [added_apply]
  simp only [hidden_apply, lin_apply, normed_apply, hn]

end Read

variable (m : (ℓ : Loc nD τ sig) → Buf (Elt Ideal) ℓ) (c : Dev nD)

/-- The result, of the arguments. -/
def result : FVec Ideal S16384x2048 .f32 := shapeCast S16384x2048 (layer (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S4x4096x2048_S16384x2048

theorem run (ρ : Dev nD → PrngReg) :
    θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- The result at an index. -/
theorem result_apply (r : Fin 16384) (e : Fin 2048) :
    result m c (ix2 r e) = resid (fun a => m ((c : Thread nD τ).loc main_arg0) (ix3 ⟨r.val / 4096, by omega⟩ ⟨r.val % 4096, Nat.mod_lt _ (by norm_num)⟩ a)) (norm (fun a => m ((c : Thread nD τ).loc main_arg0) (ix3 ⟨r.val / 4096, by omega⟩ ⟨r.val % 4096, Nat.mod_lt _ (by norm_num)⟩ a)) fun a => m ((c : Thread nD τ).loc main_arg1) (ix2 0 a)) (fun k f => m ((c : Thread nD τ).loc main_arg2) (ix3 0 k f)) (fun k f => m ((c : Thread nD τ).loc main_arg3) (ix3 0 k f)) (fun f a => m ((c : Thread nD τ).loc main_arg4) (ix3 0 f a)) e := by
  have hc : ∀ z : FVec Ideal S4x4096x2048 .f32, shapeCast S16384x2048 z shapeCasts_S4x4096x2048_S16384x2048 (ix2 r e)
      = z (ix3 ⟨r.val / 4096, by omega⟩ ⟨r.val % 4096, Nat.mod_lt _ (by norm_num)⟩ e) := by
    intro z
    pointwise
    done
  unfold result
  rw [hc]
  rw [layer_apply]

end Cert.Reference3Ideal.Ffn

end
-- ==== Proof.FfnClaim3.lean ====
/- The feed-forward call without a last normalisation: its frames, its reference's frame, and that the two compute the same function. -/
module

public import proofs.«01_k».proof.Defs
public import proofs.«01_k».proof.Proof.Gen.Kernel3.Frame
public import proofs.«01_k».proof.Proof.Gen.Kernel3Ideal.Value
public import proofs.«01_k».proof.Proof.FfnValue3
public import proofs.«01_k».proof.Proof.FfnRef3

@[expose] public section

noncomputable section

namespace Cert.FfnPlain

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) _⟩) (Cert.Reference3Ideal.Ffn.run m ρ)

theorem value : Cert.algebraic_Kernel3Ideal_Reference3Ideal := by
  intro m ρ m' ρ' hpre hargs
  refine ⟨fun c => Cert.Kernel3Ideal.Value.G6 m c, Cert.Kernel3Ideal.Value.run m ρ, ?_⟩
  refine (θ_run Cert.Reference3Ideal.defs _ _).mono (fun r h c => ⟨(h c).1.trans ?_, (h c).2⟩) (Cert.Reference3Ideal.Ffn.run m' ρ')
  obtain ⟨a0, a1, a2, a3, a4, a5⟩ := hargs c
  funext y
  have hy : ∃ (r : Fin 16384) (e : Fin 2048), y = (ix2 r e : Cert.Kernel3Ideal.S16384x2048.Idx) := by
    refine ⟨y 0, y 1, ?_⟩
    funext a
    match a with
    | ⟨0, _⟩ => rfl
    | ⟨1, _⟩ => rfl
  obtain ⟨r, e, rfl⟩ := hy
  refine (Cert.Reference3Ideal.Ffn.result_apply m' c r e).trans ?_
  rw [a0, a1, a2, a3, a4]
  exact (Cert.Kernel3Ideal.Ffn.result_apply m c r e).symm

end Cert.FfnPlain

end
-- ==== Proof.ProjValue.lean ====
/- The merge gates' projection: what its grid points store, and its result over the extended reals. -/
module

public import proofs.«01_k».proof.Proof.FfnMath
public import proofs.«01_k».proof.Proof.Whole
public import proofs.«01_k».proof.Proof.Gen.Kernel4Ideal.Value
public import Idealize.ShloMosaic.Lib.StableHlo.ReadAt
public import Idealize.ShloMosaic.Lib.Pointwise

@[expose] public section

set_option maxRecDepth 16384

noncomputable section

namespace Cert.Kernel4Ideal.Proj

open Idealize.ShloMosaic Idealize.ShloMosaic.TcCoe Idealize.SL.Sem Cert.Kernel4Ideal Cert.Kernel4Ideal.Gen Cert.Whole Cert.FfnMath

section Stored

variable {F : FTy → Type} [FloatOps F]

/-- The products at the first column block. -/
theorem out0_A_3_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x2048 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  refine (View.canon_cons_unit_zero zero2 _ _ _).trans ?_
  unfold kernelRun0_A.sl.v3 kernelRun0_A.sl.HS0_1
  simp only [rd]
  repeat rw [ld2]
  try rw [cov2]
  first | done | rfl

/-- The rows kept at the first column block. -/
theorem sout0_A_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x2048 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  refine (View.canon_cons_unit_zero zero2 _ _ _).trans ?_
  simp only [rd]
  repeat rw [ld2]
  try rw [cov2]
  first | done | rfl

/-- The products at the second column block. -/
theorem out0_B_3_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (hc0 : ¬cond0_0 i)
    (x0 : Vec F S1024x2048 .f32) (x1 : Vec F S1x2048 .f32) (x2 : Vec F S2048x2048 .bf16) (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  refine (View.canon_cons_unit_zero zero2 _ _ _).trans ?_
  simp only [rd]
  repeat rw [ld2]
  try rw [cov2]
  first | done | rfl

end Stored

/-! ## The stored values at an index -/

theorem rows_apply (x : Vec Ideal S1024x2048 .f32) (w : Vec Ideal S1x2048 .f32) (i : Fin 1024) (e : Fin 2048) :
    k0_pay1 x w (ix2 i e) = norm (fun a => x (ix2 i a)) (fun a => w (ix2 0 a)) e := by
  unfold k0_pay1
  pointwise
  rfl

theorem product_apply (u : Vec Ideal S1024x2048 .bf16) (w : Vec Ideal S2048x2048 .bf16) (i : Fin 1024) (e : Fin 2048) :
    k0_pay2 u w (ix2 i e) = ∑ k : Fin 2048, u (ix2 i k) * w (ix2 k e) := by
  unfold k0_pay2
  pointwise
  done

/-! ## The staged arrays and their blocks -/

section Arrays

variable (m : (ℓ : Loc nD τ sig) → Buf (Elt Ideal) ℓ) (c : Dev nD)

/-- A row of the hidden state. -/
def X (r : Fin 16384) (e : Fin 2048) : EReal := m ((c : Thread nD τ).loc main_arg0) (ix3 ⟨r.val / 4096, by omega⟩ ⟨r.val % 4096, Nat.mod_lt _ (by norm_num)⟩ e)
/-- The normalisation's weights. -/
def Nw (e : Fin 2048) : EReal := m ((c : Thread nD τ).loc main_arg1) (ix2 0 e)
/-- The gates' columns of the matrix. -/
def Gw (k : Fin 2048) (f : Fin 4096) : EReal := m ((c : Thread nD τ).loc main_arg2) (ix3 0 k ⟨7184 + f.val, by omega⟩)

theorem V_main_v2 (r : Fin 16384) (e : Fin 2048) : (V m c main_v2 : S16384x2048.Idx → EReal) (ix2 r e) = X m c r e := by
  unfold V
  after_reads_at
  rfl

theorem V_main_v4 (r : Fin 1) (e : Fin 2048) : (V m c main_v4 : S1x2048.Idx → EReal) (ix2 r e) = Nw m c e := by
  unfold V
  after_reads_at
  rfl

theorem V_main_v5 (r : Fin 2048) (e : Fin 4096) : (V m c main_v5 : S2048x4096.Idx → EReal) (ix2 r e) = Gw m c r e := by
  unfold V
  after_reads_at
  rfl

theorem rowlt (t : Fin cfg0.N) (i : Fin 1024) : 1024 * (t.val / 2) + i.val < 16384 := by
  have h := lt_of_lt_of_eq t.isLt N_0
  omega

theorem collt (t : Fin cfg0.N) (i : Fin 2048) : 2048 * (t.val % 2) + i.val < 4096 := by
  have h := Nat.mod_lt t.val (show 0 < 2 by norm_num)
  omega

theorem index0 : ∀ t : Fin cfg0.N, win0_0.index t = ![t.val / 2, 0] := (by decide +kernel : ∀ t : Fin grid0.N, _)

theorem blk0 (t : Fin cfg0.N) (i : Fin 1024) (j : Fin 2048) : (iblk m c 0 t : Vec Ideal S1024x2048 .f32) (ix2 i j) = X m c ⟨1024 * (t.val / 2) + i.val, rowlt t i⟩ j := by
  have hi := index0 t
  refine Eq.trans ?_ (V_main_v2 m c ⟨1024 * (t.val / 2) + i.val, rowlt t i⟩ j)
  unfold iblk
  rw [View.read_apply]
  show V m c main_v2 _ = V m c main_v2 _
  congr 1
  funext a
  apply Fin.ext
  match a with
  | ⟨0, _⟩ => show win0_0.index t 0 * 1024 + 1 * i.val = 1024 * (t.val / 2) + i.val; rw [hi]; show t.val / 2 * 1024 + 1 * i.val = _; omega
  | ⟨1, _⟩ => show win0_0.index t 1 * 2048 + 1 * j.val = j.val; rw [hi]; show 0 * 2048 + 1 * j.val = _; omega

theorem index1 : ∀ t : Fin cfg0.N, win0_1.index t = ![0, 0] := (by decide +kernel : ∀ t : Fin grid0.N, _)

theorem blk1 (t : Fin cfg0.N) (i : Fin 1) (j : Fin 2048) : (iblk m c 1 t : Vec Ideal S1x2048 .f32) (ix2 i j) = Nw m c j := by
  have hi := index1 t
  refine Eq.trans ?_ (V_main_v4 m c i j)
  unfold iblk
  rw [View.read_apply]
  show V m c main_v4 _ = V m c main_v4 _
  congr 1
  funext a
  apply Fin.ext
  match a with
  | ⟨0, _⟩ => show win0_1.index t 0 * 1 + 1 * i.val = i.val; rw [hi]; show 0 * 1 + 1 * i.val = _; omega
  | ⟨1, _⟩ => show win0_1.index t 1 * 2048 + 1 * j.val = j.val; rw [hi]; show 0 * 2048 + 1 * j.val = _; omega

theorem index2 : ∀ t : Fin cfg0.N, win0_2.index t = ![0, t.val % 2] := (by decide +kernel : ∀ t : Fin grid0.N, _)

theorem blk2 (t : Fin cfg0.N) (i : Fin 2048) (j : Fin 2048) : (iblk m c 2 t : Vec Ideal S2048x2048 .bf16) (ix2 i j) = Gw m c i ⟨2048 * (t.val % 2) + j.val, collt t j⟩ := by
  have hi := index2 t
  refine Eq.trans ?_ (V_main_v5 m c i ⟨2048 * (t.val % 2) + j.val, collt t j⟩)
  unfold iblk
  rw [View.read_apply]
  show V m c main_v5 _ = V m c main_v5 _
  congr 1
  funext a
  apply Fin.ext
  match a with
  | ⟨0, _⟩ => show win0_2.index t 0 * 2048 + 1 * i.val = i.val; rw [hi]; show 0 * 2048 + 1 * i.val = _; omega
  | ⟨1, _⟩ => show win0_2.index t 1 * 2048 + 1 * j.val = 2048 * (t.val % 2) + j.val; rw [hi]; show t.val % 2 * 2048 + 1 * j.val = _; omega

/-! ## The products -/

/-- The normalised row. -/
def U (r : Fin 16384) : Fin 2048 → EReal := norm (X m c r) (Nw m c)

/-- The rows kept at the first point of a row block. -/
theorem kept (t : Fin cfg0.N) (i : Fin 1024) (e : Fin 2048) :
    k0_pay1 (F := Ideal) (iblk m c 0 t) (iblk m c 1 t) (ix2 i e) = U m c ⟨1024 * (t.val / 2) + i.val, rowlt t i⟩ e := by
  rw [rows_apply]
  unfold U
  congr 1
  · funext a; exact blk0 m c t i a
  · funext a; exact blk1 m c t 0 a

/-- What a point stores. -/
theorem stored (t : Fin cfg0.N) (i : Fin 1024) (e : Fin 2048) :
    (outsAt0 m c t.val t.isLt).1 (ix2 i e) = ∑ k : Fin 2048, U m c ⟨1024 * (t.val / 2) + i.val, rowlt t i⟩ k * Gw m c k ⟨2048 * (t.val % 2) + e.val, collt t e⟩ := by
  by_cases h0 : t.val % 2 = 0
  · rw [outsAt0_A m c t h0]
    dsimp only
    rw [out0_A_3_eq, product_apply]
    exact Finset.sum_congr rfl fun k _ => congrArg₂ (· * ·) (kept m c t i k) (blk2 m c t k e)
  · obtain ⟨n, hn⟩ := t
    obtain ⟨n, rfl⟩ : ∃ k, n = k + 1 := ⟨n - 1, by dsimp only at h0; omega⟩
    have hn' : n < cfg0.N := Nat.lt_of_succ_lt hn
    have hr : (⟨1024 * (n / 2) + i.val, rowlt ⟨n, hn'⟩ i⟩ : Fin 16384) = ⟨1024 * ((n + 1) / 2) + i.val, rowlt ⟨n + 1, hn⟩ i⟩ :=
      Fin.ext (by dsimp only at h0 ⊢; omega)
    have hk : ∀ k : Fin 2048, (outsAt0 m c n hn').2 (ix2 i k) = U m c ⟨1024 * ((n + 1) / 2) + i.val, rowlt ⟨n + 1, hn⟩ i⟩ k := by
      intro k
      rw [outsAt0_A m c ⟨n, hn'⟩ (by dsimp only at h0 ⊢; omega)]
      dsimp only
      rw [sout0_A_0_eq]
      exact (kept m c ⟨n, hn'⟩ i k).trans (by rw [hr])
    rw [outsAt0_B m c ⟨n + 1, hn⟩ h0]
    dsimp only
    rw [out0_B_3_eq, product_apply]
    exact Finset.sum_congr rfl fun k _ => congrArg₂ (· * ·) (hk k) (blk2 m c ⟨n + 1, hn⟩ k e)

/-- The result. -/
theorem result_apply (r : Fin 16384) (e : Fin 4096) :
    (Value.G3 m c : S16384x4096.Idx → EReal) (ix2 r e) = ∑ k : Fin 2048, U m c r k * Gw m c k e := by
  have hp : Value.pt3Of (ix2 r e) = 2 * (r.val / 1024) + e.val / 2048 := by
    show 2 * (r.val / 1024 - 0) + 1 * (e.val / 2048 - 0) = _
    omega
  have hN : Value.pt3Of (ix2 r e) < cfg0.N := lt_of_lt_of_eq (by rw [hp]; omega) N_0.symm
  unfold Value.G3
  rw [dif_pos hN, ← Value.outsAt0_sweep]
  have hl : Value.loc3Of (ix2 r e) = ix2 (⟨r.val % 1024, Nat.mod_lt _ (by norm_num)⟩ : Fin 1024) (⟨e.val % 2048, Nat.mod_lt _ (by norm_num)⟩ : Fin 2048) := by
    funext a
    match a with
    | ⟨0, _⟩ => rfl
    | ⟨1, _⟩ => rfl
  rw [hl]
  refine (stored m c ⟨_, hN⟩ _ _).trans ?_
  refine Finset.sum_congr rfl fun k _ => congrArg₂ (· * ·) (congrArg (fun z => U m c z k) (Fin.ext ?_)) (congrArg (Gw m c k) (Fin.ext ?_))
  · show 1024 * (Value.pt3Of (ix2 r e) / 2) + r.val % 1024 = r.val
    rw [hp]
    omega
  · show 2048 * (Value.pt3Of (ix2 r e) % 2) + e.val % 2048 = e.val
    rw [hp]
    omega

end Arrays

end Cert.Kernel4Ideal.Proj

end
-- ==== Proof.ProjRef.lean ====
/- The merge gates' reference, read at an index. -/
module

public import proofs.«01_k».proof.Proof.FfnMath
public import proofs.«01_k».proof.Proof.Gen.Reference4Ideal.Run
public import Idealize.ShloMosaic.Lib.Pointwise

@[expose] public section

set_option maxRecDepth 16384

noncomputable section

namespace Cert.Reference4Ideal.Proj

open Idealize.ShloMosaic Idealize.ShloMosaic.TcCoe Idealize.SL.Sem Cert.Reference4Ideal Cert.Reference4Ideal.Gen Cert.FfnMath

section Terms

variable {F : FTy → Type} [FloatOps F]

/-- The rows normalised. -/
def normed (x : FVec F S4x4096x2048 .f32) (w : FVec F S2048 .f32) : FVec F S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 w))

/-- The gates' columns of the rows' products, of the normalised rows. -/
def gates (u : FVec F S4x4096x2048 .f32) (a : FVec F S1x2048x11280 .f32) : FVec F S16384x4096 .bf16 :=
  truncf .bf16 (shapeCast S16384x4096 (extractStridedSlice S4x4096x4096 ![0, 0, 7184] (Host.dotGeneral dot_S4x4096x2048_S2048x11280_S4x4096x11280_2_0_01_1_n_n none u (shapeCast S2048x11280 a shapeCasts_S1x2048x11280_S2048x11280)) slices_S4x4096x11280_S4x4096x4096_0_0_7184) shapeCasts_S4x4096x4096_S16384x4096) bitsLt_bf16_f32

end Terms

theorem normed_apply (x : FVec Ideal S4x4096x2048 .f32) (b : Fin 4) (t : Fin 4096) (w : FVec Ideal S2048 .f32) (e : Fin 2048) :
    normed x w (ix3 b t e) = norm (fun a => x (ix3 b t a)) (fun a => w (ix1 a)) e := by
  unfold normed
  pointwise
  rfl

theorem gates_apply (u : FVec Ideal S4x4096x2048 .f32) (a : FVec Ideal S1x2048x11280 .f32) (r : Fin 16384) (e : Fin 4096) :
    gates u a (ix2 r e) = ∑ k : Fin 2048, u (ix3 ⟨r.val / 4096, by omega⟩ ⟨r.val % 4096, Nat.mod_lt _ (by norm_num)⟩ k) * a (ix3 0 k ⟨7184 + e.val, by omega⟩) := by
  unfold gates
  pointwise
  done

variable (m : (ℓ : Loc nD τ sig) → Buf (Elt Ideal) ℓ) (c : Dev nD)

/-- The result, of the arguments. -/
def result : FVec Ideal S16384x4096 .bf16 :=
  gates (F := Ideal) (normed (F := Ideal) (m ((c : Thread nD τ).loc main_arg0)) (shapeCast S2048 (m ((c : Thread nD τ).loc main_arg1)) shapeCasts_S1x2048_S2048)) (m ((c : Thread nD τ).loc main_arg2))

theorem run (ρ : Dev nD → PrngReg) :
    θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-- The result at an index. -/
theorem result_apply (r : Fin 16384) (e : Fin 4096) :
    result m c (ix2 r e) = ∑ k : Fin 2048, norm (fun a => m ((c : Thread nD τ).loc main_arg0) (ix3 ⟨r.val / 4096, by omega⟩ ⟨r.val % 4096, Nat.mod_lt _ (by norm_num)⟩ a)) (fun a => m ((c : Thread nD τ).loc main_arg1) (ix2 0 a)) k
      * m ((c : Thread nD τ).loc main_arg2) (ix3 0 k ⟨7184 + e.val, by omega⟩) := by
  have hn : ∀ (z : FVec Ideal S1x2048 .f32) (a : Fin 2048), shapeCast S2048 z shapeCasts_S1x2048_S2048 (ix1 a) = z (ix2 0 a) := by
    intro z a
    pointwise
    done
  unfold result
  rw [gates_apply]
  simp only [normed_apply, hn]

end Cert.Reference4Ideal.Proj

end
-- ==== Proof.ProjClaim.lean ====
/- The merge gates' projection: its frames, its reference's frame, and that the two compute the same function. -/
module

public import proofs.«01_k».proof.Defs
public import proofs.«01_k».proof.Proof.Gen.Kernel4.Frame
public import proofs.«01_k».proof.Proof.Gen.Kernel4Ideal.Value
public import proofs.«01_k».proof.Proof.ProjValue
public import proofs.«01_k».proof.Proof.ProjRef

@[expose] public section

noncomputable section

namespace Cert.ProjGates

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) _⟩) (Cert.Reference4Ideal.Proj.run m ρ)

theorem value : Cert.algebraic_Kernel4Ideal_Reference4Ideal := by
  intro m ρ m' ρ' hpre hargs
  refine ⟨fun c => Cert.Kernel4Ideal.Value.G3 m c, Cert.Kernel4Ideal.Value.run m ρ, ?_⟩
  refine (θ_run Cert.Reference4Ideal.defs _ _).mono (fun r h c => ⟨(h c).1.trans ?_, (h c).2⟩) (Cert.Reference4Ideal.Proj.run m' ρ')
  obtain ⟨a0, a1, a2⟩ := hargs c
  funext y
  have hy : ∃ (r : Fin 16384) (e : Fin 4096), y = (ix2 r e : Cert.Kernel4Ideal.S16384x4096.Idx) := by
    refine ⟨y 0, y 1, ?_⟩
    funext a
    match a with
    | ⟨0, _⟩ => rfl
    | ⟨1, _⟩ => rfl
  obtain ⟨r, e, rfl⟩ := hy
  refine (Cert.Reference4Ideal.Proj.result_apply m' c r e).trans ?_
  rw [a0, a1, a2]
  exact (Cert.Kernel4Ideal.Proj.result_apply m c r e).symm

end Cert.ProjGates

end
-- ==== Proof.PinRunIdeal.lean ====
/- The input projection's body: its two runs, at the first column block of a row block and at the later ones. -/
module

public import proofs.«01_k».proof.Proof.Whole
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Pin

open Cert.Kernel5Ideal Cert.Kernel5Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body normalises its rows at the first column block of each row block. -/
theorem first : ∀ t : Fin cfg0.N, k0_cond1 (grid0.coords t) = 1#1 ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

set_option maxHeartbeats 1000000 in
/-- The body at the first column block: it stores the normalised rows, their products with the narrow matrix and with a column block. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) :
    Σ' (L5 : List (View.Piece (Elt F) S1024x1792 .bf16)) (L6 : List (View.Piece (Elt F) S1024x128 .f32)), { LS : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0_proj_in i arg2 harg2 arg3 harg3 arg4 harg4 arg5 harg5 arg6 harg6 arg7 harg7 arg8 harg8 arg9 harg9) K } := by
  refine ⟨?_, ?_, ?_, fun E K => ?run⟩
  case run =>
    simp only [cc0_proj_in_eq_skeleton]; unfold cc0_proj_in_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- The body at a later column block: it stores the kept rows' products with a column block, and leaves the kept rows and the narrow products. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : ¬k0_cond1 i = 1#1)
    (x0 : Vec F S1024x2048 .f32) (x1 : Vec F S1x2048 .f32) (x2 : Vec F S2048x1792 .bf16) (x3 : Vec F S1x1792 .f32) (x4 : Vec F S2048x128 .bf16) (x6 : Vec F S1024x128 .f32) (xs0 : Vec F S1024x2048 .bf16) :
    { L5 : List (View.Piece (Elt F) S1024x1792 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare x6 ∗ owns (c : Thread nD τ) arg9 fullShare xs0) -∗ K ⟨⟩))
          ⊢ wp frame (wpE (defs₀ (F := F)) Variants.none c none) E (cc0_proj_in i arg2 harg2 arg3 harg3 arg4 harg4 arg5 harg5 arg6 harg6 arg7 harg7 arg8 harg8 arg9 harg9) K } := by
  refine ⟨?_, fun E K => ?run⟩
  case run =>
    simp only [cc0_proj_in_eq_skeleton]; unfold cc0_proj_in_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

end Cert.Kernel5Ideal.Pin

end
-- ==== Proof.PinFrameIdeal.lean ====
/- The input projection's frame: what each point leaves, the run, the arguments unchanged. -/
module

public import proofs.«01_k».proof.Proof.PinRunIdeal
public import Idealize.ShloMosaic.Lib.Pipeline.TableIdle
public import Idealize.ShloMosaic.Lib.Claim

@[expose] public section

set_option maxRecDepth 16384

noncomputable section

namespace Cert.Kernel5Ideal.Pin

open Cert.Kernel5Ideal Cert.Kernel5Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stores cover what they leave, and what that is -/

theorem coverA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) (y : S1024x1792.Idx) :
    ∃ pc ∈ (runA c i arg2 harg2 arg3 harg3 arg4 harg4 arg5 harg5 arg6 harg6 arg7 harg7 arg8 harg8 arg9 harg9 hc0 x0 x1 x2 x3 x4).1, y ∈ pc.1.set :=
  View.cover_of_tiledL (runA c i arg2 harg2 arg3 harg3 arg4 harg4 arg5 harg5 arg6 harg6 arg7 harg7 arg8 harg8 arg9 harg9 hc0 x0 x1 x2 x3 x4).1 S1024x1792.size (by sl_kernel_rfl) y

theorem leftA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) (v : View sig .tc .vmem S1024x1792 .bf16) (f) :
    v.read (Elt F) (v.writes (Elt F) f (runA c i arg2 harg2 arg3 harg3 arg4 harg4 arg5 harg5 arg6 harg6 arg7 harg7 arg8 harg8 arg9 harg9 hc0 x0 x1 x2 x3 x4).1) = k0_pay4 (k0_pay2 x0 x1) x2 x3 := by
  rw [View.read_writes_eq_canon _ _ _ (coverA5 c i arg2 harg2 arg3 harg3 arg4 harg4 arg5 harg5 arg6 harg6 arg7 harg7 arg8 harg8 arg9 harg9 hc0 x0 x1 x2 x3 x4)]
  refine (View.canon_cons_unit_zero zero2 _ _ _).trans ?_
  unfold runA.sl.v3 runA.sl.HS0_1
  simp only [rd]
  repeat rw [ld2]
  try rw [cov2]
  first | done | rfl

theorem coverA6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) (y : S1024x128.Idx) :
    ∃ pc ∈ (runA c i arg2 harg2 arg3 harg3 arg4 harg4 arg5 harg5 arg6 harg6 arg7 harg7 arg8 harg8 arg9 harg9 hc0 x0 x1 x2 x3 x4).2.1, y ∈ pc.1.set :=
  View.cover_of_tiledL (runA c i arg2 harg2 arg3 harg3 arg4 harg4 arg5 harg5 arg6 harg6 arg7 harg7 arg8 harg8 arg9 harg9 hc0 x0 x1 x2 x3 x4).2.1 S1024x128.size (by sl_kernel_rfl) y

theorem leftA6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) (v : View sig .tc .vmem S1024x128 .f32) (f) :
    v.read (Elt F) (v.writes (Elt F) f (runA c i arg2 harg2 arg3 harg3 arg4 harg4 arg5 harg5 arg6 harg6 arg7 harg7 arg8 harg8 arg9 harg9 hc0 x0 x1 x2 x3 x4).2.1) = k0_pay3 x0 x1 x4 := by
  rw [View.read_writes_eq_canon _ _ _ (coverA6 c i arg2 harg2 arg3 harg3 arg4 harg4 arg5 harg5 arg6 harg6 arg7 harg7 arg8 harg8 arg9 harg9 hc0 x0 x1 x2 x3 x4)]
  refine (View.canon_cons_unit_zero zero2 _ _ _).trans ?_
  skip
  simp only [rd]
  repeat rw [ld2]
  try rw [cov2]
  first | done | rfl

theorem coverAS (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) (y : S1024x2048.Idx) :
    ∃ pc ∈ (runA c i arg2 harg2 arg3 harg3 arg4 harg4 arg5 harg5 arg6 harg6 arg7 harg7 arg8 harg8 arg9 harg9 hc0 x0 x1 x2 x3 x4).2.2.1, y ∈ pc.1.set :=
  View.cover_of_tiledL (runA c i arg2 harg2 arg3 harg3 arg4 harg4 arg5 harg5 arg6 harg6 arg7 harg7 arg8 harg8 arg9 harg9 hc0 x0 x1 x2 x3 x4).2.2.1 S1024x2048.size (by sl_kernel_rfl) y

theorem leftAS (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1792 .bf16) (x3 : Vec F S1x1792 .f32) (x4 : Vec F S2048x128 .bf16) (v : View sig .tc .vmem S1024x2048 .bf16) (f) :
    v.read (Elt F) (v.writes (Elt F) f (runA c i arg2 harg2 arg3 harg3 arg4 harg4 arg5 harg5 arg6 harg6 arg7 harg7 arg8 harg8 arg9 harg9 hc0 x0 x1 x2 x3 x4).2.2.1) = k0_pay2 x0 x1 := by
  rw [View.read_writes_eq_canon _ _ _ (coverAS c i arg2 harg2 arg3 harg3 arg4 harg4 arg5 harg5 arg6 harg6 arg7 harg7 arg8 harg8 arg9 harg9 hc0 x0 x1 x2 x3 x4)]
  refine (View.canon_cons_unit_zero zero2 _ _ _).trans ?_
  skip
  simp only [rd]
  repeat rw [ld2]
  try rw [cov2]
  first | done | rfl

theorem coverB5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : ¬k0_cond1 i = 1#1)
    (x0 : Vec F S1024x2048 .f32) (x1 : Vec F S1x2048 .f32) (x2 : Vec F S2048x1792 .bf16) (x3 : Vec F S1x1792 .f32) (x4 : Vec F S2048x128 .bf16) (x6 : Vec F S1024x128 .f32) (xs0 : Vec F S1024x2048 .bf16) (y : S1024x1792.Idx) :
    ∃ pc ∈ (runB c i arg2 harg2 arg3 harg3 arg4 harg4 arg5 harg5 arg6 harg6 arg7 harg7 arg8 harg8 arg9 harg9 hc0 x0 x1 x2 x3 x4 x6 xs0).1, y ∈ pc.1.set :=
  View.cover_of_tiledL (runB c i arg2 harg2 arg3 harg3 arg4 harg4 arg5 harg5 arg6 harg6 arg7 harg7 arg8 harg8 arg9 harg9 hc0 x0 x1 x2 x3 x4 x6 xs0).1 S1024x1792.size (by sl_kernel_rfl) y

theorem leftB5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc0 : ¬k0_cond1 i = 1#1)
    (x0 : Vec F S1024x2048 .f32) (x1 : Vec F S1x2048 .f32) (x2 : Vec F S2048x1792 .bf16) (x3 : Vec F S1x1792 .f32) (x4 : Vec F S2048x128 .bf16) (x6 : Vec F S1024x128 .f32) (xs0 : Vec F S1024x2048 .bf16) (v : View sig .tc .vmem S1024x1792 .bf16) (f) :
    v.read (Elt F) (v.writes (Elt F) f (runB c i arg2 harg2 arg3 harg3 arg4 harg4 arg5 harg5 arg6 harg6 arg7 harg7 arg8 harg8 arg9 harg9 hc0 x0 x1 x2 x3 x4 x6 xs0).1) = k0_pay4 xs0 x2 x3 := by
  rw [View.read_writes_eq_canon _ _ _ (coverB5 c i arg2 harg2 arg3 harg3 arg4 harg4 arg5 harg5 arg6 harg6 arg7 harg7 arg8 harg8 arg9 harg9 hc0 x0 x1 x2 x3 x4 x6 xs0)]
  refine (View.canon_cons_unit_zero zero2 _ _ _).trans ?_
  skip
  simp only [rd]
  repeat rw [ld2]
  try rw [cov2]
  first | done | rfl

/-! ## What each point leaves -/

/-- The first point of a point's row block. -/
def base (t : Fin cfg0.N) : Fin cfg0.N := ⟨t.val - t.val % 4, lt_of_le_of_lt (Nat.sub_le _ _) t.isLt⟩

theorem base_first (t : Fin cfg0.N) (h : t.val % 4 = 0) : base t = t :=
  Fin.ext (by show t.val - t.val % 4 = t.val; omega)

theorem base_later (t : Fin cfg0.N) (h : ¬t.val % 4 = 0) : base ⟨t.val - 1, lt_of_le_of_lt (Nat.sub_le _ _) t.isLt⟩ = base t :=
  Fin.ext (by show t.val - 1 - (t.val - 1) % 4 = t.val - t.val % 4; omega)

/-- The normalised rows of a point's row block. -/
def rows (c : Dev nD) (t : Fin cfg0.N) : Vec F S1024x2048 .bf16 := k0_pay2 (iblk m c 0 (base t)) (iblk m c 1 (base t))
/-- Their products with the narrow matrix. -/
def narrow (c : Dev nD) (t : Fin cfg0.N) : Vec F S1024x128 .f32 := k0_pay3 (iblk m c 0 (base t)) (iblk m c 1 (base t)) (iblk m c 4 (base t))
/-- Their scaled products with the point's column block. -/
def wide (c : Dev nD) (t : Fin cfg0.N) : Vec F S1024x1792 .bf16 := k0_pay4 (rows m c t) (X0_2 m c t) (iblk m c 3 t)

theorem rows_first (c : Dev nD) (t : Fin cfg0.N) (h : t.val % 4 = 0) : rows m c t = k0_pay2 (iblk m c 0 t) (iblk m c 1 t) := by
  unfold rows; rw [base_first t h]
theorem rows_later (c : Dev nD) (t : Fin cfg0.N) (h : ¬t.val % 4 = 0) : rows m c ⟨t.val - 1, lt_of_le_of_lt (Nat.sub_le _ _) t.isLt⟩ = rows m c t := by
  unfold rows; rw [base_later t h]
theorem narrow_first (c : Dev nD) (t : Fin cfg0.N) (h : t.val % 4 = 0) : narrow m c t = k0_pay3 (iblk m c 0 t) (iblk m c 1 t) (iblk m c 4 t) := by
  unfold narrow; rw [base_first t h]
theorem narrow_later (c : Dev nD) (t : Fin cfg0.N) (h : ¬t.val % 4 = 0) : narrow m c ⟨t.val - 1, lt_of_le_of_lt (Nat.sub_le _ _) t.isLt⟩ = narrow m c t := by
  unfold narrow; rw [base_later t h]
theorem wide_first (c : Dev nD) (t : Fin cfg0.N) (h : t.val % 4 = 0) : wide m c t = k0_pay4 (k0_pay2 (iblk m c 0 t) (iblk m c 1 t)) (X0_2 m c t) (iblk m c 3 t) := by
  unfold wide; rw [rows_first m c t h]

/-! ## The invariant between points -/

/-- The buffer the body keeps its rows in. -/
abbrev keep : Memref sig .tc .vmem S1024x2048 .bf16 := Memref.whole cc0_scratch0

theorem start_eq (c : Dev nD) :
    (Pipeline.ΦA spec0 c : sProp (MT nD τ sig Unit (Elt F) ℕ (UR sig nD τ) ℕ))
      = iprop(iprop((∃ d, owns (c : Thread nD τ) keep fullShare d)) ∗ (∃ r, prngReg c r)) := by
  unfold Pipeline.ΦA; rw [scopedRest0_eq]; simp only [keep, owns_whole]; try rfl

/-- Between two points the kept rows are those of the point before. -/
def inv (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) keep fullShare (rows m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) keep fullShare (rows m c ⟨n, hn⟩)) ∗ (∃ r, prngReg c r)) := rfl

theorem inv_pos (c : Dev nD) (n : ℕ) (h : n ≤ cfg0.N) (hz : n ≠ 0) :
    inv m c n h = iprop(iprop(owns (c : Thread nD τ) keep fullShare (rows m c ⟨n - 1, by omega⟩)) ∗ (∃ r, prngReg c r)) := by
  cases n with
  | zero => exact absurd rfl hz
  | succ n => rfl

/-- The pipeline's data: the arrays as the region finds them, the inputs in place, the two results at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => wide m c t
    | ⟨6, _⟩ => narrow m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = wide m c t := by dsimp only [dats]
theorem after6 (c : Dev nD) (t : Fin cfg0.N) : (dats m 0 c).after 6 t = narrow m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The narrow result's buffer between its store and its write-back -/

theorem stored6 (t : Fin cfg0.N) (h : t.val % 4 = 0) : cfg0.idle 6 (cfg0.grid.coords t) = false := by
  show (!(k0_cond1 (grid0.coords t) == 1#1)) = false
  rw [(first t).mpr h]; rfl

theorem idle6 (t : Fin cfg0.N) (h : ¬t.val % 4 = 0) : cfg0.idle 6 (cfg0.grid.coords t) = true := by
  show (!(k0_cond1 (grid0.coords t) == 1#1)) = true
  rw [beq_eq_false_iff_ne.mpr fun e => h ((first t).mp e)]; rfl

theorem unflushed6 (t : Fin cfg0.N) (h : ¬t.val % 4 = 3) : (cfg0.win 6).flush t = false :=
  Bool.eq_false_iff.mpr fun e => h ((flush0_6 t).mp e)

/-- After a row block's first point the buffer holds what the body stored. -/
theorem held6 : ∀ n : ℕ, n < cfg0.N → ¬n % 4 = 0 → cfg0.fresh 6 n = false
  | 0, _, h => absurd (Nat.zero_mod _) h
  | n + 1, hn, h => by
    have hn' : n < cfg0.N := Nat.lt_of_succ_lt hn
    rw [Cfg.fresh_succ cfg0 6 n hn', unflushed6 ⟨n, hn'⟩ (by dsimp only; omega)]
    by_cases h0 : n % 4 = 0
    · rw [stored6 ⟨n, hn'⟩ h0]; rfl
    · rw [held6 n hn' h0, Bool.and_false]; rfl

theorem before6 (c : Dev nD) (t : Fin cfg0.N) (h : ¬t.val % 4 = 0) (d) : (dats m 0 c).before 6 t d = narrow m c t := by
  have h2 := (dats m 0 c).before_out_traj 6 rfl (fun _ _ => rfl) (fun t' hz hi _ => by
    have h4 : ¬t'.val % 4 = 0 := fun e => Bool.false_ne_true ((stored6 t' e).symm.trans hi)
    rw [after6, after6]
    exact (narrow_later m c t' h4).symm) t.val t rfl d
  rw [h2, held6 t.val t.isLt h, if_neg Bool.false_ne_true, after6]
  exact narrow_later m c t h

/-! ## The body at a point -/

/-- What the body is called with, -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (dats m 0 c).leavesExact 6 t)

/-- Where the body stores the narrow products it leaves them; -/
theorem leaves6_first (c : Dev nD) (t : Fin cfg0.N) (h : t.val % 4 = 0) :
    (dats m 0 c).leavesExact 6 t = owns (c : Thread nD τ) (win0_6.stage (cfg0.slots t 6)) fullShare (narrow m c t) := by
  unfold Dat.leavesExact
  rw [stored6 t h, after6]

/-- elsewhere it leaves them as it found them. -/
theorem leaves6_later (c : Dev nD) (t : Fin cfg0.N) (h : ¬t.val % 4 = 0) :
    owns (c : Thread nD τ) (win0_6.stage (cfg0.slots t 6)) fullShare (narrow m c t) ⊢ ((dats m 0 c).leavesExact 6 t : sProp (MT nD τ sig Unit (Elt F) ℕ (UR sig nD τ) ℕ)) := by
  unfold Dat.leavesExact
  rw [idle6 t h]
  cases hf : (cfg0.win 6).flush t
  · dsimp only
    iintro H
    iexists (narrow m c t)
    rw [before6 m c t h]
    iexact H
  · dsimp only
    rw [after6]

set_option maxHeartbeats 3200000 in
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4, after5]
  rw [show (dats m 0 c).Φ t.succ = inv m c (t.val + 1) t.isLt from rfl, inv_succ]
  have hN : t.val < 64 := lt_of_lt_of_eq t.isLt (show cfg0.N = 64 from N_0)
  by_cases h0 : t.val % 4 = 0
  · rw [leaves6_first m c t h0, rows_first m c t h0, narrow_first m c t h0, wide_first m c t h0]
    by_cases hz : t.val = 0
    · rw [inv_castSucc m c t, inv_zero m c _ _ hz, start_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ ((first t).mpr h0) (iblk m c 0 t) (iblk m c 1 t) (X0_2 m c t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact leftAS c _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact leftA5 c _ _ _ _ _ _ _ _ _ _ _ _ _ _ _ _ _ _ _ _ _ _ _ _ _
      unfold owns; iexists _; isplitr
      swap; · iexact H6
      ipureintro; exact leftA6 c _ _ _ _ _ _ _ _ _ _ _ _ _ _ _ _ _ _ _ _ _ _ _ _ _
    · rw [inv_castSucc m c t, inv_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ ((first t).mpr h0) (iblk m c 0 t) (iblk m c 1 t) (X0_2 m c t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact leftAS c _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact leftA5 c _ _ _ _ _ _ _ _ _ _ _ _ _ _ _ _ _ _ _ _ _ _ _ _ _
      unfold owns; iexists _; isplitr
      swap; · iexact H6
      ipureintro; exact leftA6 c _ _ _ _ _ _ _ _ _ _ _ _ _ _ _ _ _ _ _ _ _ _ _ _ _
  · have hz : t.val ≠ 0 := by omega
    rw [inv_castSucc m c t, inv_pos m c _ _ hz, rows_later m c t h0]
    simp only [before6 m c t h0]
    unfold wide
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ (fun h => h0 ((first t).mp h)) (iblk m c 0 t) (iblk m c 1 t) (X0_2 m c t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, ⟨%e5, H5⟩, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact leftB5 c _ _ _ _ _ _ _ _ _ _ _ _ _ _ _ _ _ _ _ _ _ _ _ _ _ _ _
    iapply (leaves6_later m c t h0)
    iexact H6

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, start_eq]
  iintro ⟨HS0, Hg⟩
  isplitl [HS0]
  · iexists _; iexact HS0
  iexact Hg

theorem hout (c : Dev nD) : (dats m 0 c).Φ (Fin.last cfg0.N) ⊢ Pipeline.ΦA spec0 c :=
  inv_out m c _ (by rw [Fin.val_last]; have : cfg0.N = 64 := N_0; omega)

/-! ## The run and the frame -/

set_option backward.isDefEq.respectTransparency.types false in
/-- The run, and every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_arrays : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_arrays m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Kernel5Ideal.Pin

end
-- ==== Proof.PinValue.lean ====
/- The input projection's call: its staged arrays, its stored blocks and its two results over the extended reals. -/
module

public import proofs.«01_k».proof.Proof.FfnMath
public import proofs.«01_k».proof.Proof.PinFrameIdeal
public import Idealize.ShloMosaic.Lib.StableHlo.ReadAt
public import Idealize.ShloMosaic.Lib.Pointwise
public import Idealize.ShloMosaic.Lib.IdealHost
public import Idealize.ShloMosaic.Lib.Routing.OpsSet

@[expose] public section

set_option maxRecDepth 16384

noncomputable section

namespace Cert.Kernel5Ideal.Pin

open Idealize.ShloMosaic Idealize.ShloMosaic.TcCoe Idealize.SL.Sem Cert.Kernel5Ideal Cert.Kernel5Ideal.Gen Cert.Whole Cert.FfnMath

/-! ## The stored values at an index -/

theorem normed_apply (x : Vec Ideal S1024x2048 .f32) (w : Vec Ideal S1x2048 .f32) (i : Fin 1024) (e : Fin 2048) :
    k0_pay1 x w (ix2 i e) = norm (fun a => x (ix2 i a)) (fun a => w (ix2 0 a)) e := by
  unfold k0_pay1
  pointwise
  rfl

theorem scratch_apply (x : Vec Ideal S1024x2048 .f32) (w : Vec Ideal S1x2048 .f32) (i : Fin 1024) (e : Fin 2048) :
    k0_pay2 x w (ix2 i e) = norm (fun a => x (ix2 i a)) (fun a => w (ix2 0 a)) e := by
  refine Eq.trans ?_ (normed_apply x w i e)
  unfold k0_pay2
  pointwise

theorem side_apply (x : Vec Ideal S1024x2048 .f32) (w : Vec Ideal S1x2048 .f32) (ws : Vec Ideal S2048x128 .bf16) (i : Fin 1024) (e : Fin 128) :
    k0_pay3 x w ws (ix2 i e) = ∑ k : Fin 2048, norm (fun a => x (ix2 i a)) (fun a => w (ix2 0 a)) k * ws (ix2 k e) := by
  unfold k0_pay3
  pointwise
  exact Finset.sum_congr rfl fun k _ => congrArg (· * ws (ix2 k e)) (normed_apply x w i k)

theorem wide_stored (u : Vec Ideal S1024x2048 .bf16) (w : Vec Ideal S2048x1792 .bf16) (s : Vec Ideal S1x1792 .f32) (i : Fin 1024) (e : Fin 1792) :
    k0_pay4 u w s (ix2 i e) = (∑ k : Fin 2048, u (ix2 i k) * w (ix2 k e)) * s (ix2 0 e) := by
  unfold k0_pay4
  pointwise

/-! ## The column scales -/

section Scales

open Idealize.ShloMosaic.Routing

theorem scale_lands (idx : IVec S1 32) (hidx : (idx (ix1 0)).toInt = 0) (z : Fin 1) (k : Fin 1024) (r : Fin 1) (e : Fin 7168) :
    scatter_S1x7168_S1_S1x1024_01_n_1_0.resultIdx? (ix2 z k) idx = some (ix2 r e) ↔ k.val = e.val := by
  have hw0 : scatter_S1x7168_S1_S1x1024_01_n_1_0.window (ix2 z k) 0 = z.val := by
    unfold ScatterDims.window
    rw [dif_pos (by decide)]
    rfl
  have hw1 : scatter_S1x7168_S1_S1x1024_01_n_1_0.window (ix2 z k) 1 = k.val := by
    unfold ScatterDims.window
    rw [dif_pos (by decide)]
    rfl
  have hs0 : scatter_S1x7168_S1_S1x1024_01_n_1_0.start (ix2 z k) idx 0 = 0 := by
    unfold ScatterDims.start
    rw [dif_neg (by decide)]
  have hs1 : scatter_S1x7168_S1_S1x1024_01_n_1_0.start (ix2 z k) idx 1 = 0 := by
    unfold ScatterDims.start
    rw [dif_pos (by decide)]
    refine Eq.trans ?_ hidx
    congr 2
    funext b
    match b with
    | ⟨0, _⟩ => exact Subsingleton.elim (α := Fin 1) _ _
  refine (resultIdx?_ix2 (R := 1) (C := 7168) _ _ _ _ _).trans ?_
  rw [hs0, hw0, hs1, hw1]
  omega

theorem scale_apply (x : S1x7168.Idx → EReal) (idx : IVec S1 32) (hidx : (idx (ix1 0)).toInt = 0) (u : S1x1024.Idx → EReal) (s : EReal) (hu : ∀ k, u k = s) (e : Fin 7168) :
    Host.scatter scatter_S1x7168_S1_S1x1024_01_n_1_0 (fun _ b => b) x idx u (ix2 0 e) = if e.val < 1024 then s else x (ix2 0 e) := by
  by_cases h : e.val < 1024
  · rw [if_pos h]
    exact scatter_set_hit _ x idx u _ s (fun k _ => hu k) (ix2 (0 : Fin 1) (⟨e.val, h⟩ : Fin 1024)) ((scale_lands idx hidx 0 ⟨e.val, h⟩ 0 e).2 rfl)
  · rw [if_neg h]
    refine scatter_set_miss _ x idx u _ fun j hj => h ?_
    rw [eq_ix2 j] at hj
    have := (scale_lands idx hidx (j 0) (j 1) 0 e).1 hj
    have hj1 : (j 1).val < 1024 := (j 1).isLt
    omega

end Scales

/-! ## The staged arrays and their blocks -/

section Arrays

variable (m : (ℓ : Loc nD τ sig) → Buf (Elt Ideal) ℓ) (ρ : Dev nD → PrngReg) (c : Dev nD)

/-- A row of the hidden state. -/
def X (r : Fin 16384) (e : Fin 2048) : EReal := m ((c : Thread nD τ).loc main_arg0) (ix3 ⟨r.val / 4096, by omega⟩ ⟨r.val % 4096, Nat.mod_lt _ (by norm_num)⟩ e)
/-- The normalisation's weights. -/
def Nw (e : Fin 2048) : EReal := m ((c : Thread nD τ).loc main_arg1) (ix2 0 e)
/-- The matrix. -/
def Gw (k : Fin 2048) (f : Fin 11280) : EReal := m ((c : Thread nD τ).loc main_arg2) (ix3 0 k f)
/-- The queries' columns carry the score's scale. -/
def Sc (e : Fin 7168) : EReal := if e.val < 1024 then Ideal.ofBits .f32 0x3E0293EE#32 else 1
/-- The side columns of the matrix, and zeros after them. -/
def Sw (k : Fin 2048) (f : Fin 128) : EReal := if h : f.val < 16 then Gw m c k ⟨7168 + f.val, by omega⟩ else 0

theorem V_main_v9 (r : Fin 16384) (e : Fin 2048) : (V m c main_v9 : S16384x2048.Idx → EReal) (ix2 r e) = X m c r e := by
  unfold V
  after_reads_at
  rfl

theorem V_main_v11 (r : Fin 1) (e : Fin 2048) : (V m c main_v11 : S1x2048.Idx → EReal) (ix2 r e) = Nw m c e := by
  unfold V
  after_reads_at
  rfl

theorem V_main_v8 (r : Fin 2048) (e : Fin 11280) : (V m c main_v8 : S2048x11280.Idx → EReal) (ix2 r e) = Gw m c r e := by
  unfold V
  after_reads_at
  rfl

theorem V_main_v7 (r : Fin 1) (e : Fin 7168) : (V m c main_v7 : S1x7168.Idx → EReal) (ix2 r e) = Sc e := by
  obtain rfl : r = 0 := Subsingleton.elim _ _
  unfold V
  after_reads_at
  refine (scale_apply _ _ rfl _ (Ideal.ofBits .f32 0x3E0293EE#32) (fun _ => rfl) e).trans ?_
  unfold Sc
  exact if_congr Iff.rfl rfl Ideal.ofBits_one_f32

theorem V_main_v3 (r : Fin 2048) (e : Fin 128) : (V m c main_v3 : S2048x128.Idx → EReal) (ix2 r e) = Sw m c r e := by
  unfold V
  after_reads_at
  unfold Sw
  split
  · rfl
  · show (((0#32 : BitVec 32).toInt : ℝ) : EReal) = 0
    simp

theorem rowlt (t : Fin cfg0.N) (i : Fin 1024) : 1024 * (t.val / 4) + i.val < 16384 := by
  have h := lt_of_lt_of_eq t.isLt N_0
  omega

theorem collt (t : Fin cfg0.N) (i : Fin 1792) : 1792 * (t.val % 4) + i.val < 7168 := by
  have h := Nat.mod_lt t.val (show 0 < 4 by norm_num)
  omega

theorem wlt (t : Fin cfg0.N) (i : Fin 1792) : 1792 * (t.val % 4) + i.val < 11280 := by
  have h := collt t i
  omega

theorem index0 : ∀ t : Fin cfg0.N, win0_0.index t = ![t.val / 4, 0] := (by decide +kernel : ∀ t : Fin grid0.N, _)

theorem blk0 (t : Fin cfg0.N) (i : Fin 1024) (j : Fin 2048) : (iblk m c 0 t : Vec Ideal S1024x2048 .f32) (ix2 i j) = X m c ⟨1024 * (t.val / 4) + i.val, rowlt t i⟩ j := by
  have hi := index0 t
  refine Eq.trans ?_ (V_main_v9 m c ⟨1024 * (t.val / 4) + i.val, rowlt t i⟩ j)
  unfold iblk
  rw [View.read_apply]
  show V m c main_v9 _ = V m c main_v9 _
  congr 1
  funext a
  apply Fin.ext
  match a with
  | ⟨0, _⟩ => show win0_0.index t 0 * 1024 + 1 * i.val = 1024 * (t.val / 4) + i.val; rw [hi]; show t.val / 4 * 1024 + 1 * i.val = _; omega
  | ⟨1, _⟩ => show win0_0.index t 1 * 2048 + 1 * j.val = j.val; rw [hi]; show 0 * 2048 + 1 * j.val = _; omega

theorem index1 : ∀ t : Fin cfg0.N, win0_1.index t = ![0, 0] := (by decide +kernel : ∀ t : Fin grid0.N, _)

theorem blk1 (t : Fin cfg0.N) (i : Fin 1) (j : Fin 2048) : (iblk m c 1 t : Vec Ideal S1x2048 .f32) (ix2 i j) = Nw m c j := by
  have hi := index1 t
  refine Eq.trans ?_ (V_main_v11 m c i j)
  unfold iblk
  rw [View.read_apply]
  show V m c main_v11 _ = V m c main_v11 _
  congr 1
  funext a
  apply Fin.ext
  match a with
  | ⟨0, _⟩ => show win0_1.index t 0 * 1 + 1 * i.val = i.val; rw [hi]; show 0 * 1 + 1 * i.val = _; omega
  | ⟨1, _⟩ => show win0_1.index t 1 * 2048 + 1 * j.val = j.val; rw [hi]; show 0 * 2048 + 1 * j.val = _; omega

theorem index2 : ∀ t : Fin cfg0.N, win0_2.index t = ![0, t.val % 4] := (by decide +kernel : ∀ t : Fin grid0.N, _)

theorem blk2 (t : Fin cfg0.N) (i : Fin 2048) (j : Fin 1792) : (X0_2 m c t : Vec Ideal S2048x1792 .bf16) (ix2 i j) = Gw m c i ⟨1792 * (t.val % 4) + j.val, wlt t j⟩ := by
  have hi := index2 t
  refine Eq.trans ?_ (V_main_v8 m c i ⟨1792 * (t.val % 4) + j.val, wlt t j⟩)
  unfold X0_2 Pipeline.Window.fill
  rw [dif_pos (moved0_2 t _)]
  unfold iblk
  rw [View.read_apply]
  show V m c main_v8 _ = V m c main_v8 _
  congr 1
  funext a
  apply Fin.ext
  match a with
  | ⟨0, _⟩ => show win0_2.index t 0 * 2048 + 1 * i.val = i.val; rw [hi]; show 0 * 2048 + 1 * i.val = _; omega
  | ⟨1, _⟩ => show win0_2.index t 1 * 1792 + 1 * j.val = 1792 * (t.val % 4) + j.val; rw [hi]; show t.val % 4 * 1792 + 1 * j.val = _; omega

theorem index3 : ∀ t : Fin cfg0.N, win0_3.index t = ![0, t.val % 4] := (by decide +kernel : ∀ t : Fin grid0.N, _)

theorem blk3 (t : Fin cfg0.N) (i : Fin 1) (j : Fin 1792) : (iblk m c 3 t : Vec Ideal S1x1792 .f32) (ix2 i j) = Sc ⟨1792 * (t.val % 4) + j.val, collt t j⟩ := by
  have hi := index3 t
  refine Eq.trans ?_ (V_main_v7 m c i ⟨1792 * (t.val % 4) + j.val, collt t j⟩)
  unfold iblk
  rw [View.read_apply]
  show V m c main_v7 _ = V m c main_v7 _
  congr 1
  funext a
  apply Fin.ext
  match a with
  | ⟨0, _⟩ => show win0_3.index t 0 * 1 + 1 * i.val = i.val; rw [hi]; show 0 * 1 + 1 * i.val = _; omega
  | ⟨1, _⟩ => show win0_3.index t 1 * 1792 + 1 * j.val = 1792 * (t.val % 4) + j.val; rw [hi]; show t.val % 4 * 1792 + 1 * j.val = _; omega

theorem index4 : ∀ t : Fin cfg0.N, win0_4.index t = ![0, 0] := (by decide +kernel : ∀ t : Fin grid0.N, _)

theorem blk4 (t : Fin cfg0.N) (i : Fin 2048) (j : Fin 128) : (iblk m c 4 t : Vec Ideal S2048x128 .bf16) (ix2 i j) = Sw m c i j := by
  have hi := index4 t
  refine Eq.trans ?_ (V_main_v3 m c i j)
  unfold iblk
  rw [View.read_apply]
  show V m c main_v3 _ = V m c main_v3 _
  congr 1
  funext a
  apply Fin.ext
  match a with
  | ⟨0, _⟩ => show win0_4.index t 0 * 2048 + 1 * i.val = i.val; rw [hi]; show 0 * 2048 + 1 * i.val = _; omega
  | ⟨1, _⟩ => show win0_4.index t 1 * 128 + 1 * j.val = j.val; rw [hi]; show 0 * 128 + 1 * j.val = _; omega

/-! ## The two results -/

/-- The normalised row. -/
def U (r : Fin 16384) : Fin 2048 → EReal := norm (X m c r) (Nw m c)

theorem base_div (t : Fin cfg0.N) : (base t).val / 4 = t.val / 4 := by
  show (t.val - t.val % 4) / 4 = t.val / 4
  omega

theorem norm_blocks (t : Fin cfg0.N) (i : Fin 1024) :
    norm (fun a => (iblk m c 0 (base t) : Vec Ideal S1024x2048 .f32) (ix2 i a)) (fun a => (iblk m c 1 (base t) : Vec Ideal S1x2048 .f32) (ix2 0 a)) = U m c ⟨1024 * (t.val / 4) + i.val, rowlt t i⟩ := by
  unfold U
  congr 1
  · funext a
    refine (blk0 m c (base t) i a).trans (congrArg (fun z => X m c z a) (Fin.ext ?_))
    show 1024 * ((base t).val / 4) + i.val = 1024 * (t.val / 4) + i.val
    rw [base_div]
  · funext a
    exact blk1 m c (base t) 0 a

/-- The first result, at a row and a column. -/
def main5 (r : Fin 16384) (e : Fin 7168) : EReal := (∑ k : Fin 2048, U m c r k * Gw m c k ⟨e.val, by omega⟩) * Sc e
/-- The second result, at a row and a column. -/
def side6 (r : Fin 16384) (e : Fin 128) : EReal := ∑ k : Fin 2048, U m c r k * Sw m c k e

theorem wide_apply (t : Fin cfg0.N) (i : Fin 1024) (e : Fin 1792) :
    (wide m c t : Vec Ideal S1024x1792 .bf16) (ix2 i e) = main5 m c ⟨1024 * (t.val / 4) + i.val, rowlt t i⟩ ⟨1792 * (t.val % 4) + e.val, collt t e⟩ := by
  unfold wide
  rw [wide_stored, blk3]
  unfold main5
  refine congrArg (· * _) (Finset.sum_congr rfl fun k _ => congrArg₂ (· * ·) ?_ (blk2 m c t k e))
  unfold rows
  rw [scratch_apply, norm_blocks]

theorem narrow_apply (t : Fin cfg0.N) (i : Fin 1024) (e : Fin 128) :
    (narrow m c t : Vec Ideal S1024x128 .f32) (ix2 i e) = side6 m c ⟨1024 * (t.val / 4) + i.val, rowlt t i⟩ e := by
  unfold narrow
  rw [side_apply, norm_blocks]
  unfold side6
  exact Finset.sum_congr rfl fun k _ => congrArg (_ * ·) (blk4 m c (base t) k e)

/-- The first result. -/
def G5 : Buf (Elt Ideal) ((c : Thread nD τ).loc main_v12_0) := fun i : S16384x7168.Idx => main5 m c (i 0) (i 1)
/-- The second result. -/
def G6 : Buf (Elt Ideal) ((c : Thread nD τ).loc main_v12_1) := fun i : S16384x128.Idx => side6 m c (i 0) (i 1)

theorem index5 : ∀ t : Fin cfg0.N, win0_5.index t = ![t.val / 4, t.val % 4] := (by decide +kernel : ∀ t : Fin grid0.N, _)
theorem index6 : ∀ t : Fin cfg0.N, win0_6.index t = ![t.val / 4, 0] := (by decide +kernel : ∀ t : Fin grid0.N, _)

theorem back5 (t : Fin cfg0.N) : (dats m 0 c).flushed 5 t = ((cfg0.win 5).blk t).view.read (Elt Ideal) (G5 m c) := by
  have hi := index5 t
  show (cfg0.win 5).cut (grid0.coords t) ((dats m 0 c).after 5 t) = _
  rw [after5]
  funext y
  have hl : (cfg0.win 5).xinj (grid0.coords t) y = (ix2 (y 0 : Fin 1024) (y 1 : Fin 1792) : S1024x1792.Idx) := by
    funext a
    match a with
    | ⟨0, _⟩ => rfl
    | ⟨1, _⟩ => rfl
  show (wide m c t : Vec Ideal S1024x1792 .bf16) ((cfg0.win 5).xinj (grid0.coords t) y) = G5 m c (((cfg0.win 5).blk t).view.emb y)
  refine (congrArg (wide m c t : Vec Ideal S1024x1792 .bf16) hl).trans ((wide_apply m c t (y 0) (y 1)).trans ?_)
  refine congrArg₂ (main5 m c) (Fin.ext ?_) (Fin.ext ?_)
  · show 1024 * (t.val / 4) + (y 0).val = win0_5.index t 0 * 1024 + 1 * (y 0).val
    rw [hi]
    show _ = t.val / 4 * 1024 + 1 * (y 0).val
    omega
  · show 1792 * (t.val % 4) + (y 1).val = win0_5.index t 1 * 1792 + 1 * (y 1).val
    rw [hi]
    show _ = t.val % 4 * 1792 + 1 * (y 1).val
    omega

theorem back6 (t : Fin cfg0.N) : (dats m 0 c).flushed 6 t = ((cfg0.win 6).blk t).view.read (Elt Ideal) (G6 m c) := by
  have hi := index6 t
  show (cfg0.win 6).cut (grid0.coords t) ((dats m 0 c).after 6 t) = _
  rw [after6]
  funext y
  have hl : (cfg0.win 6).xinj (grid0.coords t) y = (ix2 (y 0 : Fin 1024) (y 1 : Fin 128) : S1024x128.Idx) := by
    funext a
    match a with
    | ⟨0, _⟩ => rfl
    | ⟨1, _⟩ => rfl
  show (narrow m c t : Vec Ideal S1024x128 .f32) ((cfg0.win 6).xinj (grid0.coords t) y) = G6 m c (((cfg0.win 6).blk t).view.emb y)
  refine (congrArg (narrow m c t : Vec Ideal S1024x128 .f32) hl).trans ((narrow_apply m c t (y 0) (y 1)).trans ?_)
  refine congrArg₂ (side6 m c) (Fin.ext ?_) (Fin.ext ?_)
  · show 1024 * (t.val / 4) + (y 0).val = win0_6.index t 0 * 1024 + 1 * (y 0).val
    rw [hi]
    show _ = t.val / 4 * 1024 + 1 * (y 0).val
    omega
  · show (y 1).val = win0_6.index t 1 * 128 + 1 * (y 1).val
    rw [hi]
    show _ = 0 * 128 + 1 * (y 1).val
    omega

theorem inblk5 (t : Fin cfg0.N) (i : S16384x7168.Idx) :
    i ∈ ((cfg0.win 5).blk t).view.set ↔ ∀ a : Fin 2, win0_5.index t a * S1024x1792.size a ≤ (i a).val ∧ (i a).val < win0_5.index t a * S1024x1792.size a + S1024x1792.size a := by
  show i ∈ ((View.whole main_v12_0).slice (win0_5.rect t)).set ↔ _
  rw [View.set_slice_whole, Rect.mem_set_unit]
  exact Iff.rfl

theorem inblk6 (t : Fin cfg0.N) (i : S16384x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v12_1).slice (win0_6.rect t)).set ↔ _
  rw [View.set_slice_whole, Rect.mem_set_unit]
  exact Iff.rfl

theorem array5 : (dats m 0 c).arrAt 5 cfg0.N = G5 m c :=
  (dats m 0 c).arrAt_eq_of_cover 5 _ (fun t _ => back5 m c t) (fun i => by
    have h0 : (i 0).val < 16384 := (i 0).isLt
    have h1 : (i 1).val < 7168 := (i 1).isLt
    have hN : (i 0).val / 1024 * 4 + (i 1).val / 1792 < cfg0.N := lt_of_lt_of_eq (by omega) N_0.symm
    refine ⟨⟨_, hN⟩, flush0_5 _, ?_⟩
    rw [inblk5, index5]
    intro a
    match a with
    | ⟨0, _⟩ =>
      show ((i 0).val / 1024 * 4 + (i 1).val / 1792) / 4 * 1024 ≤ (i 0).val ∧ (i 0).val < ((i 0).val / 1024 * 4 + (i 1).val / 1792) / 4 * 1024 + 1024
      omega
    | ⟨1, _⟩ =>
      show ((i 0).val / 1024 * 4 + (i 1).val / 1792) % 4 * 1792 ≤ (i 1).val ∧ (i 1).val < ((i 0).val / 1024 * 4 + (i 1).val / 1792) % 4 * 1792 + 1792
      omega)

theorem array6 : (dats m 0 c).arrAt 6 cfg0.N = G6 m c :=
  (dats m 0 c).arrAt_eq_of_cover 6 _ (fun t _ => back6 m c t) (fun i => by
    have h0 : (i 0).val < 16384 := (i 0).isLt
    have h1 : (i 1).val < 128 := (i 1).isLt
    have hN : (i 0).val / 1024 * 4 + 3 < cfg0.N := lt_of_lt_of_eq (by omega) N_0.symm
    refine ⟨⟨_, hN⟩, (flush0_6 _).2 (by dsimp only; omega), ?_⟩
    rw [inblk6, index6]
    intro a
    match a with
    | ⟨0, _⟩ =>
      show ((i 0).val / 1024 * 4 + 3) / 4 * 1024 ≤ (i 0).val ∧ (i 0).val < ((i 0).val / 1024 * 4 + 3) / 4 * 1024 + 1024
      omega
    | ⟨1, _⟩ =>
      show 0 * 128 ≤ (i 1).val ∧ (i 1).val < 0 * 128 + 128
      omega)

end Arrays

/-- The run: each result at its closed form, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12_0) = G5 m c
      ∧ r.2.mem ((c : Thread nD τ).loc main_v12_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 5).trans (array5 m c), ((h.1 c).1 6).trans (array6 m c), h.2 c⟩)
    (θ_run_and (run_arrays m ρ) (unchanged m ρ))

end Cert.Kernel5Ideal.Pin

end
-- ==== Proof.PinRef.lean ====
/- The input projection's reference, read at an index. -/
module

public import proofs.«01_k».proof.Proof.FfnMath
public import proofs.«01_k».proof.Proof.Gen.Reference5Ideal.Run
public import Idealize.ShloMosaic.Lib.Pointwise

@[expose] public section

set_option maxRecDepth 16384

noncomputable section

namespace Cert.Reference5Ideal.Pin

open Idealize.ShloMosaic Idealize.ShloMosaic.TcCoe Idealize.SL.Sem Cert.Reference5Ideal Cert.Reference5Ideal.Gen Cert.FfnMath

section Terms

variable {F : FTy → Type} [FloatOps F]

/-- The rows normalised. -/
def normed (x : FVec F S4x4096x2048 .f32) (w : FVec F S2048 .f32) : FVec F S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 w))

/-- The products of the rows with the matrix. -/
def products (u : FVec F S4x4096x2048 .f32) (a : FVec F S1x2048x11280 .f32) : FVec F S4x4096x11280 .f32 :=
  Host.dotGeneral dot_S4x4096x2048_S2048x11280_S4x4096x11280_2_0_01_1_n_n none u (shapeCast S2048x11280 a shapeCasts_S1x2048x11280_S2048x11280)

/-- The first result, of the products: the queries scaled, the other columns as they are. -/
def mains (p : FVec F S4x4096x11280 .f32) : FVec F S16384x7168 .bf16 :=
  truncf .bf16 (shapeCast S16384x7168 (concatenate S4x4096x7168 2 [⟨S4x4096x1024, (mulf (extractStridedSlice S4x4096x1024 ![0, 0, 0] p slices_S4x4096x11280_S4x4096x1024_0_0_0) (broadcastInDim S4x4096x1024 ![] bcast_S_S4x4096x1024 (constant S_ .f32 0x3E0293EE#32)))⟩, ⟨S4x4096x6144, (extractStridedSlice S4x4096x6144 ![0, 0, 1024] p slices_S4x4096x11280_S4x4096x6144_0_0_1024)⟩] concatenates_S4x4096x1024_S4x4096x6144_S4x4096x7168_d2) shapeCasts_S4x4096x7168_S16384x7168) bitsLt_bf16_f32

/-- The second result, of the products: the side columns, then zeros. -/
def sides (p : FVec F S4x4096x11280 .f32) : FVec F S16384x128 .f32 :=
  shapeCast S16384x128 (concatenate S4x4096x128 2 [⟨S4x4096x16, (extractStridedSlice S4x4096x16 ![0, 0, 7168] p slices_S4x4096x11280_S4x4096x16_0_0_7168)⟩, ⟨S4x4096x112, (broadcastInDim S4x4096x112 ![] bcast_S_S4x4096x112 (constant S_ .f32 0x00000000#32))⟩] concatenates_S4x4096x16_S4x4096x112_S4x4096x128_d2) shapeCasts_S4x4096x128_S16384x128

end Terms

theorem normed_apply (x : FVec Ideal S4x4096x2048 .f32) (b : Fin 4) (t : Fin 4096) (w : FVec Ideal S2048 .f32) (e : Fin 2048) :
    normed x w (ix3 b t e) = norm (fun a => x (ix3 b t a)) (fun a => w (ix1 a)) e := by
  unfold normed
  pointwise
  rfl

theorem products_apply (u : FVec Ideal S4x4096x2048 .f32) (a : FVec Ideal S1x2048x11280 .f32) (b : Fin 4) (t : Fin 4096) (e : Fin 11280) :
    products u a (ix3 b t e) = ∑ k : Fin 2048, u (ix3 b t k) * a (ix3 0 k e) := by
  unfold products
  pointwise
  done

theorem mains_apply (p : FVec Ideal S4x4096x11280 .f32) (r : Fin 16384) (e : Fin 7168) :
    mains p (ix2 r e) = p (ix3 ⟨r.val / 4096, by omega⟩ ⟨r.val % 4096, Nat.mod_lt _ (by norm_num)⟩ ⟨e.val, by omega⟩) * (if e.val < 1024 then Ideal.ofBits .f32 0x3E0293EE#32 else 1) := by
  unfold mains
  pointwise
  by_cases h : e.val < 1024
  · rw [dif_pos h, if_pos h]
  · rw [dif_neg h, if_neg h, mul_one]
    exact congrArg (fun z => p (ix3 _ _ z)) (Fin.ext (by show 1024 + (e.val - 1024) = e.val; omega))

theorem sides_apply (p : FVec Ideal S4x4096x11280 .f32) (r : Fin 16384) (e : Fin 128) :
    sides p (ix2 r e) = if h : e.val < 16 then p (ix3 ⟨r.val / 4096, by omega⟩ ⟨r.val % 4096, Nat.mod_lt _ (by norm_num)⟩ ⟨7168 + e.val, by omega⟩) else 0 := by
  unfold sides
  pointwise

variable (m : (ℓ : Loc nD τ sig) → Buf (Elt Ideal) ℓ) (c : Dev nD)

/-- The products, of the arguments. -/
def prods : FVec Ideal S4x4096x11280 .f32 :=
  products (F := Ideal) (normed (F := Ideal) (m ((c : Thread nD τ).loc main_arg0)) (shapeCast S2048 (m ((c : Thread nD τ).loc main_arg1)) shapeCasts_S1x2048_S2048)) (m ((c : Thread nD τ).loc main_arg2))

theorem run (ρ : Dev nD → PrngReg) :
    θ_run defs (onTc (τ := τ) (main (F := Ideal))) ⟨m, fun _ => 0, ρ⟩ fun r => ∀ c : Dev nD,
      r.2.mem ((c.tc : Thread nD τ).loc main_v25) = mains (F := Ideal) (prods m c)
      ∧ r.2.mem ((c.tc : Thread nD τ).loc main_v26) = sides (F := Ideal) (prods m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-- The products at an index. -/
theorem prods_apply (b : Fin 4) (t : Fin 4096) (e : Fin 11280) :
    prods m c (ix3 b t e) = ∑ k : Fin 2048, norm (fun a => m ((c : Thread nD τ).loc main_arg0) (ix3 b t a)) (fun a => m ((c : Thread nD τ).loc main_arg1) (ix2 0 a)) k
      * m ((c : Thread nD τ).loc main_arg2) (ix3 0 k e) := by
  have hn : ∀ (z : FVec Ideal S1x2048 .f32) (a : Fin 2048), shapeCast S2048 z shapeCasts_S1x2048_S2048 (ix1 a) = z (ix2 0 a) := by
    intro z a
    pointwise
    done
  unfold prods
  rw [products_apply]
  simp only [normed_apply, hn]

end Cert.Reference5Ideal.Pin

end
-- ==== Proof.PinClaim.lean ====
/- The input projection: its frames, its reference's frame, and that the two compute the same two results. -/
module

public import proofs.«01_k».proof.Defs
public import proofs.«01_k».proof.Proof.PinFrame
public import proofs.«01_k».proof.Proof.PinValue
public import proofs.«01_k».proof.Proof.PinRef

@[expose] public section

noncomputable section

namespace Cert.ProjIn

open Idealize.ShloMosaic Idealize.ShloMosaic.TcCoe Idealize.SL.Sem

theorem frame_kernel : Cert.quiescent_Kernel5 := fun m ρ _ => Cert.Kernel5.Pin.frame m ρ

theorem frame_ideal : Cert.quiescent_Kernel5Ideal := fun m ρ _ => Cert.Kernel5Ideal.Pin.frame m ρ

theorem frame_reference : Cert.quiescent_Reference5Ideal := fun m ρ _ =>
  (θ_run Cert.Reference5Ideal.defs _ _).mono (fun r h => ⟨fun c => (h c).2.2, sem_eq_zero_of_no_sems (by decide) _⟩) (Cert.Reference5Ideal.Pin.run m ρ)

open Cert.Kernel5Ideal.Pin in
theorem value : Cert.algebraic_Kernel5Ideal_Reference5Ideal := by
  intro m ρ m' ρ' hpre hargs
  refine ⟨fun c => G5 m c, fun c => G6 m c, run m ρ, ?_⟩
  refine (θ_run Cert.Reference5Ideal.defs _ _).mono (fun r h c => ⟨(h c).1.trans ?_, (h c).2.1.trans ?_, (h c).2.2⟩) (Cert.Reference5Ideal.Pin.run m' ρ')
  · obtain ⟨a0, a1, a2⟩ := hargs c
    funext y
    have hy : ∃ (r : Fin 16384) (e : Fin 7168), y = (ix2 r e : Cert.Kernel5Ideal.S16384x7168.Idx) := by
      refine ⟨y 0, y 1, ?_⟩
      funext a
      match a with
      | ⟨0, _⟩ => rfl
      | ⟨1, _⟩ => rfl
    obtain ⟨r, e, rfl⟩ := hy
    refine (Cert.Reference5Ideal.Pin.mains_apply (Cert.Reference5Ideal.Pin.prods m' c) r e).trans ?_
    rw [Cert.Reference5Ideal.Pin.prods_apply, a0, a1, a2]
    rfl
  · obtain ⟨a0, a1, a2⟩ := hargs c
    funext y
    have hy : ∃ (r : Fin 16384) (e : Fin 128), y = (ix2 r e : Cert.Kernel5Ideal.S16384x128.Idx) := by
      refine ⟨y 0, y 1, ?_⟩
      funext a
      match a with
      | ⟨0, _⟩ => rfl
      | ⟨1, _⟩ => rfl
    obtain ⟨r, e, rfl⟩ := hy
    refine (Cert.Reference5Ideal.Pin.sides_apply (Cert.Reference5Ideal.Pin.prods m' c) r e).trans ?_
    show _ = side6 m c r e
    unfold side6 Sw
    by_cases h : e.val < 16
    · rw [dif_pos h, Cert.Reference5Ideal.Pin.prods_apply, a0, a1, a2]
      simp only [dif_pos h]
      rfl
    · rw [dif_neg h]
      simp only [dif_neg h, mul_zero, Finset.sum_const_zero]

end Cert.ProjIn

end
-- ==== Proof.MixMath.lean ====
/- Softmax attention of one query over the extended reals: dividing the weighted sum is weighting by the quotients. -/
module

public import proofs.«01_k».proof.Proof.FfnMath
public import Mathlib.Data.EReal.Operations
public import Mathlib.Data.EReal.Inv

@[expose] public section

noncomputable section

namespace Cert.MixMath

open Idealize.ShloMosaic Cert.FfnMath

/-- The query's scaled product with key `j`. -/
def score (q : Fin 128 → EReal) (k : Fin 256 → Fin 128 → EReal) (j : Fin 256) : EReal :=
  (∑ d, q d * k j d) * Ideal.ofBits .f32 0x3DB504F3#32

/-- A real number, as an extended real. -/
def IsReal (x : EReal) : Prop := ∃ r : ℝ, x = (r : EReal)

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {ι : Type*} (s : Finset ι) (f : ι → EReal) (h : ∀ i, IsReal (f i)) : IsReal (∑ i ∈ s, f i) := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

theorem mul_self_nonneg (x : EReal) : 0 ≤ x * x := by
  induction x with
  | bot => simp
  | top => simp
  | coe r => rw [← EReal.coe_mul]; exact_mod_cast _root_.mul_self_nonneg r

/-- The root's reciprocal of a nonnegative number off zero: real. -/
theorem rsqrt_real {y : EReal} (h : 0 < y) : IsReal (Ideal.rsqrt y) := by
  induction y with
  | bot => simp at h
  | top => exact ⟨0, rfl⟩
  | coe r =>
    have hr : 0 < r := by exact_mod_cast h
    refine ⟨(Real.sqrt r)⁻¹, ?_⟩
    show (if r < 0 then ⊥ else if r = 0 then ⊤ else (((Real.sqrt r)⁻¹ : ℝ) : EReal)) = _
    rw [if_neg (by linarith), if_neg (by linarith)]

theorem eps_pos : (0 : EReal) < Ideal.ofBits .f32 0x358637BD#32 := by
  simp [Ideal.ofBits, Ideal.ieee]
  exact_mod_cast (by positivity : (0 : ℝ) < 8796093 * (2 ^ 43)⁻¹)

theorem width_eq : Ideal.ofBits .f32 0x45000000#32 = ((2048 : ℝ) : EReal) := by
  simp [Ideal.ofBits, Ideal.ieee]
  exact_mod_cast (by norm_num : (8388608 : ℝ) * (2 ^ 12)⁻¹ = 2048)

theorem scale_real : IsReal (Ideal.ofBits .f32 0x3DB504F3#32) := ⟨_, by simp [Ideal.ofBits, Ideal.ieee]; rfl⟩

/-- A normalised row is real at real weights, whatever the row. -/
theorem norm_real (x w : Fin 2048 → EReal) (hw : ∀ e, IsReal (w e)) (e : Fin 2048) : IsReal (FfnMath.norm x w e) := by
  have hs : 0 ≤ ∑ a, x a * x a := Finset.sum_nonneg fun a _ => mul_self_nonneg (x a)
  have hd : Ideal.div (∑ a, x a * x a) (Ideal.ofBits .f32 0x45000000#32) = (∑ a, x a * x a) * ((2048⁻¹ : ℝ) : EReal) := by
    rw [width_eq]
    unfold Ideal.div
    rw [if_neg (by exact_mod_cast (by norm_num : (2048 : ℝ) ≠ 0)), ← EReal.coe_inv]
  have hc : (0 : EReal) < ((2048⁻¹ : ℝ) : EReal) := by exact_mod_cast (by norm_num : (0 : ℝ) < 2048⁻¹)
  have hp : 0 < Ideal.div (∑ a, x a * x a) (Ideal.ofBits .f32 0x45000000#32) + Ideal.ofBits .f32 0x358637BD#32 := by
    rw [hd]
    exact lt_of_lt_of_le eps_pos (le_add_of_nonneg_left (mul_nonneg hs hc.le))
  unfold FfnMath.norm
  refine real_mul ?_ (hw e)
  by_cases hx : ∀ a, IsReal (x a)
  · exact real_mul (hx e) (rsqrt_real hp)
  · -- an infinite entry makes the mean square infinite, and the root's reciprocal zero
    push Not at hx
    obtain ⟨a, ha⟩ := hx
    have hq : x a * x a = ⊤ := by
      induction hxa : x a with
      | bot => simp
      | top => simp
      | coe r => exact absurd ⟨r, hxa⟩ ha
    have ht : ∑ a, x a * x a = ⊤ := top_le_iff.mp (hq ▸ Finset.single_le_sum (f := fun a => x a * x a) (fun a _ => mul_self_nonneg (x a)) (Finset.mem_univ a))
    rw [hd, ht, EReal.top_mul_of_pos hc, EReal.top_add_of_ne_bot (ne_of_gt (lt_trans (by simp) eps_pos))]
    exact ⟨0, by show x e * (0 : EReal) = _; simp⟩

/-- Dividing a sum of products by a positive real is dividing the first factors. -/
theorem sum_div {ι : Type} (s : Finset ι) (p v : ι → EReal) (l : ℝ) (hl : 0 < l) :
    Ideal.div (∑ j ∈ s, p j * v j) l = ∑ j ∈ s, v j * Ideal.div (p j) l := by
  classical
  have hn : (l : EReal) ≠ 0 := by exact_mod_cast hl.ne'
  have hi : (0 : EReal) ≤ ((l⁻¹ : ℝ) : EReal) := by exact_mod_cast (inv_pos.mpr hl).le
  simp only [Ideal.div, if_neg hn, ← EReal.coe_inv]
  rw [mul_comm]
  induction s using Finset.induction_on with
  | empty => simp
  | insert i s hi' ih =>
    rw [Finset.sum_insert hi', Finset.sum_insert hi', EReal.left_distrib_of_nonneg_of_ne_top hi (EReal.coe_ne_top _), ih]
    congr 1
    rw [mul_comm (v i), mul_comm (((l⁻¹ : ℝ) : EReal)), mul_assoc, mul_assoc, mul_comm (v i)]

/-- The greatest score. -/
def top (s : Fin 256 → EReal) : EReal := Finset.univ.fold max (Ideal.ofBits .f32 0xFF800000#32) s

/-- A score's exponential, from the greatest. -/
def weight (s : Fin 256 → EReal) (j : Fin 256) : EReal := Ideal.exp (s j - top s)

theorem neg_inf : Ideal.ofBits .f32 0xFF800000#32 = (⊥ : EReal) := by
  simp [Ideal.ofBits, Ideal.ieee]

theorem top_real (s : Fin 256 → EReal) (hs : ∀ j, IsReal (s j)) : IsReal (top s) := by
  have h1 : top s < ⊤ := by
    unfold top
    rw [Finset.fold_max_lt, neg_inf]
    refine ⟨by simp, fun j _ => ?_⟩
    obtain ⟨r, hr⟩ := hs j
    rw [hr]
    exact EReal.coe_lt_top r
  have h2 : ⊥ < top s := by
    unfold top
    rw [Finset.lt_fold_max]
    refine Or.inr ⟨0, Finset.mem_univ _, ?_⟩
    obtain ⟨r, hr⟩ := hs 0
    rw [hr]
    exact EReal.bot_lt_coe r
  exact ⟨_, (EReal.coe_toReal h1.ne h2.ne').symm⟩

/-- At real scores the weights' sum is a positive real. -/
theorem weights_pos (s : Fin 256 → EReal) (hs : ∀ j, IsReal (s j)) : ∃ l : ℝ, 0 < l ∧ ∑ j, weight s j = (l : EReal) := by
  obtain ⟨M, hM⟩ := top_real s hs
  choose r hr using hs
  have hw : ∀ j, weight s j = ((Real.exp (r j - M) : ℝ) : EReal) := by
    intro j
    unfold weight
    rw [hM, hr j, ← EReal.coe_sub]
    rfl
  refine ⟨∑ j, Real.exp (r j - M), Finset.sum_pos (fun j _ => Real.exp_pos _) ⟨0, Finset.mem_univ _⟩, ?_⟩
  rw [Finset.sum_congr rfl fun j _ => hw j]
  induction (Finset.univ : Finset (Fin 256)) using Finset.induction_on with
  | empty => simp
  | insert j t hj ih => rw [Finset.sum_insert hj, Finset.sum_insert hj, ih, EReal.coe_add]

/-- The weighted sum over the weights' sum is the sum weighted by the quotients. -/
theorem average (s : Fin 256 → EReal) (hs : ∀ j, IsReal (s j)) (v : Fin 256 → EReal) :
    Ideal.div (∑ j, weight s j * v j) (∑ j, weight s j) = ∑ j, v j * Ideal.div (weight s j) (∑ j', weight s j') := by
  obtain ⟨l, hl, h⟩ := weights_pos s hs
  rw [h]
  exact sum_div _ _ _ l hl

theorem score_real (q : Fin 128 → EReal) (k : Fin 256 → Fin 128 → EReal) (hq : ∀ d, IsReal (q d)) (hk : ∀ j d, IsReal (k j d)) (j : Fin 256) :
    IsReal (score q k j) :=
  real_mul (real_sum _ _ fun d => real_mul (hq d) (hk j d)) scale_real

/-! ## The merge of one row -/

/-- The row plus the projected merge of its two branches. -/
def merged (ya yd : Fin 1024 → EReal) (h ga gb : Fin 2048 → EReal) (wa wb : Fin 1024 → Fin 2048 → EReal) (wo : Fin 2048 → Fin 2048 → EReal) (e : Fin 2048) : EReal :=
  h e + ∑ k, (Ideal.logistic (ga k) * (∑ a, ya a * wa a k) + Ideal.logistic (gb k) * ∑ a, yd a * wb a k) * wo k e

/-- The query of the normalised row. -/
def query (x w : Fin 2048 → EReal) (wq : Fin 2048 → Fin 512 → EReal) (d : Fin 512) : EReal := ∑ e, FfnMath.norm x w e * wq e d

/-- Head `n`'s scores of the query over the memory. -/
def scoreAt (q : Fin 512 → EReal) (kv : Fin 256 → Fin 1024 → EReal) (n : Fin 4) : Fin 256 → EReal :=
  score (fun d => q ⟨128 * n.val + d.val, by omega⟩) fun j d => kv j ⟨128 * n.val + d.val, by omega⟩

/-- Head `n`'s output, the weighted sum divided. -/
def headAt (q : Fin 512 → EReal) (kv : Fin 256 → Fin 1024 → EReal) (n : Fin 4) (d : Fin 128) : EReal :=
  Ideal.div (∑ j, weight (scoreAt q kv n) j * kv j ⟨512 + (128 * n.val + d.val), by omega⟩) (∑ j, weight (scoreAt q kv n) j)

/-- Head `n`'s output, weighted by the quotients. -/
def headSoft (q : Fin 512 → EReal) (kv : Fin 256 → Fin 1024 → EReal) (n : Fin 4) (d : Fin 128) : EReal :=
  ∑ j, kv j ⟨512 + (128 * n.val + d.val), by omega⟩ * Ideal.div (weight (scoreAt q kv n) j) (∑ j', weight (scoreAt q kv n) j')

/-- The row plus the projected heads. -/
def final (h : Fin 2048 → EReal) (q : Fin 512 → EReal) (kv : Fin 256 → Fin 1024 → EReal) (wx : Fin 512 → Fin 2048 → EReal) (e : Fin 2048) : EReal :=
  h e + ∑ k : Fin 512, headAt q kv ⟨k.val / 128, by omega⟩ ⟨k.val % 128, Nat.mod_lt _ (by norm_num)⟩ * wx k e

/-- The row plus the projected heads, these weighted by the quotients. -/
def finalSoft (h : Fin 2048 → EReal) (q : Fin 512 → EReal) (kv : Fin 256 → Fin 1024 → EReal) (wx : Fin 512 → Fin 2048 → EReal) (e : Fin 2048) : EReal :=
  h e + ∑ k : Fin 512, headSoft q kv ⟨k.val / 128, by omega⟩ ⟨k.val % 128, Nat.mod_lt _ (by norm_num)⟩ * wx k e

theorem head_eq (q : Fin 512 → EReal) (kv : Fin 256 → Fin 1024 → EReal) (hq : ∀ d, IsReal (q d)) (hk : ∀ j (d : Fin 512), IsReal (kv j ⟨d.val, by omega⟩)) (n : Fin 4) (d : Fin 128) :
    headAt q kv n d = headSoft q kv n d :=
  average _ (fun j => score_real _ _ (fun d => hq _) (fun j d => hk j ⟨128 * n.val + d.val, by omega⟩) j) _

theorem query_real (x w : Fin 2048 → EReal) (wq : Fin 2048 → Fin 512 → EReal) (hw : ∀ e, IsReal (w e)) (hq : ∀ e d, IsReal (wq e d)) (d : Fin 512) :
    IsReal (query x w wq d) :=
  real_sum _ _ fun e => real_mul (norm_real x w hw e) (hq e d)

theorem final_eq (h : Fin 2048 → EReal) (q : Fin 512 → EReal) (kv : Fin 256 → Fin 1024 → EReal) (wx : Fin 512 → Fin 2048 → EReal)
    (hq : ∀ d, IsReal (q d)) (hk : ∀ j (d : Fin 512), IsReal (kv j ⟨d.val, by omega⟩)) (e : Fin 2048) : final h q kv wx e = finalSoft h q kv wx e := by
  unfold final finalSoft
  simp only [head_eq q kv hq hk]

end Cert.MixMath

end
-- ==== Proof.MixPay.lean ====
/- What a grid point of the merge stores, over the extended reals. -/
module

public import proofs.«01_k».proof.Proof.MixMath
public import proofs.«01_k».proof.Proof.Whole
public import proofs.«01_k».proof.Proof.Gen.Kernel6Ideal.Value
public import Idealize.ShloMosaic.Lib.Pointwise

@[expose] public section

set_option maxRecDepth 16384

noncomputable section

namespace Cert.Kernel6Ideal.Mix

open Idealize.ShloMosaic Idealize.ShloMosaic.TcCoe Idealize.SL.Sem Cert.Kernel6Ideal Cert.Kernel6Ideal.Gen Cert.Whole Cert.FfnMath Cert.MixMath

section Terms

variable {F : FTy → Type} [FloatOps F]

/-- A head's scaled scores. -/
def scores (q : FVec F S512x128 .f32) (k : FVec F S256x128 .bf16) : FVec F S512x256 .f32 :=
  mulf (matmul dot_S512x128_S256x128_S512x256_1_1_0_0_n_n none (truncf .bf16 q bitsLt_bf16_f32) k (constant S512x256 .f32 0x00000000#32)) (broadcast S512x256 (Scalar.ofBits .f32 0x3DB504F3#32))

/-- The scores' exponentials, each row from its greatest. -/
def weights (s : FVec F S512x256 .f32) : FVec F S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The weighted values, over the weights' sum. -/
def averaged (p : FVec F S512x256 .f32) (v : FVec F S256x128 .bf16) : FVec F S512x128 .f32 :=
  divf (matmul dot_S512x256_S256x128_S512x128_1_0_0_1_n_n none (truncf .bf16 p bitsLt_bf16_f32) v (constant S512x128 .f32 0x00000000#32))
    (broadcastTo S512x128 (shapeCast S512x1 (multiReduction .add [1] S512 p 0x00000000#32 reduces_S512x256_S512 (.inl rfl) rfl) shapeCasts_S512_S512x1) broadcasts_S512x1_S512x128)

/-- A head. -/
def headOf (q : FVec F S512x128 .f32) (k v : FVec F S256x128 .bf16) : FVec F S512x128 .f32 := averaged (weights (scores q k)) v

/-- The four heads side by side. -/
def joined (a b c d : FVec F S512x128 .f32) : FVec F S512x512 .f32 :=
  concatenate S512x512 1 [⟨S512x128, a⟩, ⟨S512x128, b⟩, ⟨S512x128, c⟩, ⟨S512x128, d⟩] concatenates_S512x128_S512x128_S512x128_S512x128_S512x512_d1

/-- The rows plus the projected heads. -/
def closed (h : FVec F S512x2048 .f32) (o : FVec F S512x512 .f32) (w : FVec F S512x2048 .bf16) : FVec F S1x512x2048 .f32 :=
  shapeCast S1x512x2048 (addf h (matmul dot_S512x512_S512x2048_S512x2048_1_0_0_1_n_n none (truncf .bf16 o bitsLt_bf16_f32) (shapeCast S512x2048 w shapeCasts_S512x2048_S512x2048) (constant S512x2048 .f32 0x00000000#32))) shapeCasts_S512x2048_S1x512x2048

/-- A memory block as a matrix. -/
def flat (x : FVec F S1x256x128 .bf16) : FVec F S256x128 .bf16 := shapeCast S256x128 x shapeCasts_S1x256x128_S256x128

theorem pay6_eq (a : FVec F S512x2048 .f32) (b : FVec F S1x2048 .f32) (c : FVec F S512x2048 .f32) (w : Vec F S2048x512 .bf16) (k v : Vec F S1x256x128 .bf16) :
    k0_pay6 a b c w k v = headOf (extractStridedSlice S512x128 ![0, 0] (k0_pay5 a b c w) slices_S512x512_o0_0_S512x128) (flat k) (flat v) := rfl

theorem pay8_eq (q : FVec F S512x512 .f32) (k v : Vec F S1x256x128 .bf16) :
    k0_pay8 q (k0_pay7 k) v = headOf (extractStridedSlice S512x128 ![0, 128] q slices_S512x512_o0_128_S512x128) (flat k) (flat v) := rfl

theorem pay9_eq (q : FVec F S512x512 .f32) (k v : Vec F S1x256x128 .bf16) :
    k0_pay9 q k v = headOf (extractStridedSlice S512x128 ![0, 256] q slices_S512x512_o0_256_S512x128) (flat k) (flat v) := rfl

theorem pay1_eq (h : FVec F S512x2048 .f32) (q : FVec F S512x512 .f32) (a b c : FVec F S512x128 .f32) (k v : Vec F S1x256x128 .bf16) (w : Vec F S512x2048 .bf16) :
    k0_pay1 h q a b c (k0_pay10 k) v w = closed h (joined a b c (headOf (extractStridedSlice S512x128 ![0, 384] q slices_S512x512_o0_384_S512x128) (flat k) (flat v))) w := rfl

end Terms

theorem scores_apply (q : FVec Ideal S512x128 .f32) (k : FVec Ideal S256x128 .bf16) (i : Fin 512) (j : Fin 256) :
    scores q k (ix2 i j) = score (fun d => q (ix2 i d)) (fun a d => k (ix2 a d)) j := by
  unfold scores
  pointwise
  rfl

theorem weights_apply (s : FVec Ideal S512x256 .f32) (i : Fin 512) (j : Fin 256) :
    weights s (ix2 i j) = weight (fun j => s (ix2 i j)) j := by
  unfold weights
  pointwise
  rfl

theorem averaged_apply (p : FVec Ideal S512x256 .f32) (v : FVec Ideal S256x128 .bf16) (i : Fin 512) (d : Fin 128) :
    averaged p v (ix2 i d) = Ideal.div (∑ j : Fin 256, p (ix2 i j) * v (ix2 j d)) (∑ j : Fin 256, p (ix2 i j)) := by
  unfold averaged
  pointwise
  done

theorem joined_apply (H : Fin 4 → FVec Ideal S512x128 .f32) (i : Fin 512) (n : Fin 4) (d : Fin 128) :
    joined (H 0) (H 1) (H 2) (H 3) (ix2 i ⟨128 * n.val + d.val, by omega⟩) = H n (ix2 i d) := by
  unfold joined
  fin_cases n
  · pointwise
    done
  · pointwise
    done
  · pointwise
    rw [dif_neg (by omega), dif_neg (by omega), dif_pos (by omega)]
    exact congrArg (H 2) (congrArg (ix2 i) (Fin.ext (by show 256 + d.val - 128 - 128 = d.val; omega)))
  · pointwise
    rw [dif_neg (by omega), dif_neg (by omega), dif_neg (by omega)]
    exact congrArg (H 3) (congrArg (ix2 i) (Fin.ext (by show 384 + d.val - 128 - 128 - 128 = d.val; omega)))

theorem closed_apply (h : FVec Ideal S512x2048 .f32) (o : FVec Ideal S512x512 .f32) (w : FVec Ideal S512x2048 .bf16) (u : Fin 1) (i : Fin 512) (e : Fin 2048) :
    closed h o w (ix3 u i e) = h (ix2 i e) + ∑ k : Fin 512, o (ix2 i k) * w (ix2 k e) := by
  unfold closed
  pointwise
  done

theorem flat_apply (x : FVec Ideal S1x256x128 .bf16) (j : Fin 256) (d : Fin 128) : flat x (ix2 j d) = x (ix3 0 j d) := by
  unfold flat
  pointwise
  done

theorem hidden_apply (x1 : Vec Ideal S1x512x1024 .bf16) (x5 : Vec Ideal S1024x2048 .bf16) (x2 : Vec Ideal S1x512x1024 .bf16) (x6 : Vec Ideal S1024x2048 .bf16)
    (x3 x4 : Vec Ideal S1x512x2048 .bf16) (x0 : Vec Ideal S1x512x2048 .f32) (x7 : Vec Ideal S2048x2048 .bf16) (i : Fin 512) (e : Fin 2048) :
    k0_pay2 x1 x5 x2 x6 x3 x4 x0 x7 (ix2 i e)
      = merged (fun a => x1 (ix3 0 i a)) (fun a => x2 (ix3 0 i a)) (fun a => x0 (ix3 0 i a)) (fun a => x3 (ix3 0 i a)) (fun a => x4 (ix3 0 i a))
          (fun a k => x5 (ix2 a k)) (fun a k => x6 (ix2 a k)) (fun k e => x7 (ix2 k e)) e := by
  unfold k0_pay2
  pointwise
  rfl

theorem query_apply (h : FVec Ideal S512x2048 .f32) (w : Vec Ideal S1x2048 .f32) (x9 : Vec Ideal S2048x512 .bf16) (i : Fin 512) (d : Fin 512) :
    k0_pay5 h (k0_pay3 w) (mulf h h) x9 (ix2 i d) = query (fun a => h (ix2 i a)) (fun a => w (ix2 0 a)) (fun e d => x9 (ix2 e d)) d := by
  unfold k0_pay5 k0_pay3
  pointwise
  rfl

theorem headOf_apply (q : FVec Ideal S512x128 .f32) (k v : FVec Ideal S256x128 .bf16) (i : Fin 512) (d : Fin 128) :
    headOf q k v (ix2 i d) = Ideal.div (∑ j, weight (score (fun d => q (ix2 i d)) fun a d => k (ix2 a d)) j * v (ix2 j d)) (∑ j, weight (score (fun d => q (ix2 i d)) fun a d => k (ix2 a d)) j) := by
  unfold headOf
  rw [averaged_apply]
  simp only [weights_apply, scores_apply]

/-- A head of the queries' columns over its columns of the memory. -/
theorem headOf_at (q : FVec Ideal S512x128 .f32) (k v : FVec Ideal S256x128 .bf16) (Q : Fin 512 → EReal) (kv : Fin 256 → Fin 1024 → EReal) (n : Fin 4) (i : Fin 512) (d : Fin 128)
    (hq : ∀ d, q (ix2 i d) = Q ⟨128 * n.val + d.val, by omega⟩) (hk : ∀ j d, k (ix2 j d) = kv j ⟨128 * n.val + d.val, by omega⟩)
    (hv : ∀ j d, v (ix2 j d) = kv j ⟨512 + (128 * n.val + d.val), by omega⟩) : headOf q k v (ix2 i d) = headAt Q kv n d := by
  rw [headOf_apply]
  simp only [hq, hk, hv]
  rfl

theorem zero3 : (![0, 0, 0] : Fin 3 → ℕ) = fun _ => 0 := by decide

theorem ld3 {n : Fin 3 → ℕ} {e : EltTy} (x : Vec Ideal ⟨3, n⟩ e) (inb : ∀ a, (![0, 0, 0] : Fin 3 → ℕ) a + n a ≤ n a) :
    View.ld (Val := Elt Ideal) x (Rect.unit (s := ⟨3, n⟩) ![0, 0, 0] n inb) = x := View.ld_unit_zero (S := ⟨3, n⟩) zero3 inb x

/-- A load of 128 columns of the memory. -/
theorem ld_cols (x : Vec Ideal S1x256x1024 .bf16) (o : ℕ) (inb : ∀ a, (![0, 0, o] : Fin 3 → ℕ) a + S1x256x128.size a ≤ S1x256x1024.size a) (h : o + 128 ≤ 1024) (j : Fin 256) (d : Fin 128) :
    flat (F := Ideal) (View.ld (Val := Elt Ideal) x (Rect.unit (s := S1x256x1024) ![0, 0, o] S1x256x128.size inb)) (ix2 j d) = x (ix3 0 j ⟨o + d.val, by omega⟩) := by
  refine (flat_apply _ j d).trans ?_
  show x _ = x _
  congr 1
  funext a
  apply Fin.ext
  match a with
  | ⟨0, _⟩ => rfl
  | ⟨1, _⟩ => show 0 + 1 * j.val = j.val; omega
  | ⟨2, _⟩ => show o + 1 * d.val = o + d.val; omega

theorem slice0 (q : FVec Ideal S512x512 .f32) (i : Fin 512) (d : Fin 128) :
    extractStridedSlice S512x128 ![0, 0] q slices_S512x512_o0_0_S512x128 (ix2 i d) = q (ix2 i ⟨128 * (0 : Fin 4).val + d.val, by show 128 * 0 + d.val < 512; omega⟩) := by
  pointwise
  first | done | rfl

theorem slice1 (q : FVec Ideal S512x512 .f32) (i : Fin 512) (d : Fin 128) :
    extractStridedSlice S512x128 ![0, 128] q slices_S512x512_o0_128_S512x128 (ix2 i d) = q (ix2 i ⟨128 * (1 : Fin 4).val + d.val, by show 128 * 1 + d.val < 512; omega⟩) := by
  pointwise
  first | done | rfl

theorem slice2 (q : FVec Ideal S512x512 .f32) (i : Fin 512) (d : Fin 128) :
    extractStridedSlice S512x128 ![0, 256] q slices_S512x512_o0_256_S512x128 (ix2 i d) = q (ix2 i ⟨128 * (2 : Fin 4).val + d.val, by show 128 * 2 + d.val < 512; omega⟩) := by
  pointwise
  first | done | rfl

theorem slice3 (q : FVec Ideal S512x512 .f32) (i : Fin 512) (d : Fin 128) :
    extractStridedSlice S512x128 ![0, 384] q slices_S512x512_o0_384_S512x128 (ix2 i d) = q (ix2 i ⟨128 * (3 : Fin 4).val + d.val, by show 128 * 3 + d.val < 512; omega⟩) := by
  pointwise
  first | done | rfl

/-- The heads side by side, each over its columns. -/
theorem joined_at (q : FVec Ideal S512x512 .f32) (x : Vec Ideal S1x256x1024 .bf16) (i : Fin 512) (n : Fin 4) (d : Fin 128) :
    joined (F := Ideal) (headOf (extractStridedSlice S512x128 ![0, 0] q slices_S512x512_o0_0_S512x128) (flat (View.ld x r0_6)) (flat (View.ld x r0_7))) (headOf (extractStridedSlice S512x128 ![0, 128] q slices_S512x512_o0_128_S512x128) (flat (View.ld x r0_8)) (flat (View.ld x r0_9))) (headOf (extractStridedSlice S512x128 ![0, 256] q slices_S512x512_o0_256_S512x128) (flat (View.ld x r0_10)) (flat (View.ld x r0_11))) (headOf (extractStridedSlice S512x128 ![0, 384] q slices_S512x512_o0_384_S512x128) (flat (View.ld x r0_12)) (flat (View.ld x r0_13))) (ix2 i ⟨128 * n.val + d.val, by omega⟩) = headAt (fun d => q (ix2 i d)) (fun j d => x (ix3 0 j d)) n d := by
  refine (joined_apply ![_, _, _, _] i n d).trans ?_
  match n with
  | ⟨0, _⟩ => exact headOf_at _ _ _ _ _ 0 i d (fun d => slice0 _ i d) (fun j d => (ld_cols x 0 _ (by norm_num) j d).trans (by congr 2)) (fun j d => (ld_cols x 512 _ (by norm_num) j d).trans (by congr 2; exact Fin.ext (by show 512 + d.val = 512 + (128 * 0 + d.val); omega)))
  | ⟨1, _⟩ => exact headOf_at _ _ _ _ _ 1 i d (fun d => slice1 _ i d) (fun j d => (ld_cols x 128 _ (by norm_num) j d).trans (by congr 2)) (fun j d => (ld_cols x 640 _ (by norm_num) j d).trans (by congr 2; exact Fin.ext (by show 640 + d.val = 512 + (128 * 1 + d.val); omega)))
  | ⟨2, _⟩ => exact headOf_at _ _ _ _ _ 2 i d (fun d => slice2 _ i d) (fun j d => (ld_cols x 256 _ (by norm_num) j d).trans (by congr 2)) (fun j d => (ld_cols x 768 _ (by norm_num) j d).trans (by congr 2; exact Fin.ext (by show 768 + d.val = 512 + (128 * 2 + d.val); omega)))
  | ⟨3, _⟩ => exact headOf_at _ _ _ _ _ 3 i d (fun d => slice3 _ i d) (fun j d => (ld_cols x 384 _ (by norm_num) j d).trans (by congr 2)) (fun j d => (ld_cols x 896 _ (by norm_num) j d).trans (by congr 2; exact Fin.ext (by show 896 + d.val = 512 + (128 * 3 + d.val); omega)))

/-- What a point stores, of its blocks. -/
theorem out_apply (x0 : Vec Ideal S1x512x2048 .f32) (x1 : Vec Ideal S1x512x1024 .bf16) (x2 : Vec Ideal S1x512x1024 .bf16) (x3 : Vec Ideal S1x512x2048 .bf16) (x4 : Vec Ideal S1x512x2048 .bf16) (x5 : Vec Ideal S1024x2048 .bf16) (x6 : Vec Ideal S1024x2048 .bf16) (x7 : Vec Ideal S2048x2048 .bf16) (x8 : Vec Ideal S1x2048 .f32) (x9 : Vec Ideal S2048x512 .bf16) (x10 : Vec Ideal S1x256x1024 .bf16) (x11 : Vec Ideal S512x2048 .bf16) (i : Fin 512) (e : Fin 2048) :
    out0_12 x0 x1 x2 x3 x4 x5 x6 x7 x8 x9 x10 x11 (ix3 0 i e) =
      final (merged (fun a => x1 (ix3 0 i a)) (fun a => x2 (ix3 0 i a)) (fun a => x0 (ix3 0 i a)) (fun a => x3 (ix3 0 i a)) (fun a => x4 (ix3 0 i a)) (fun a k => x5 (ix2 a k)) (fun a k => x6 (ix2 a k)) (fun k e => x7 (ix2 k e)))
        (query (merged (fun a => x1 (ix3 0 i a)) (fun a => x2 (ix3 0 i a)) (fun a => x0 (ix3 0 i a)) (fun a => x3 (ix3 0 i a)) (fun a => x4 (ix3 0 i a)) (fun a k => x5 (ix2 a k)) (fun a k => x6 (ix2 a k)) (fun k e => x7 (ix2 k e))) (fun a => x8 (ix2 0 a)) (fun e d => x9 (ix2 e d)))
        (fun j d => x10 (ix3 0 j d)) (fun k e => x11 (ix2 k e)) e := by
  have h11 : k0_pay11 x0 x1 x2 x3 x4 x5 x6 x7 x8 x9 x10 x11 = k0_pay2 x1 x5 x2 x6 x3 x4 x0 x7 := by
    unfold k0_pay11
    simp only [ld3, ld2]
  have h12 : k0_pay12 x0 x1 x2 x3 x4 x5 x6 x7 x8 x9 x10 x11 = k0_pay3 x8 := by
    unfold k0_pay12
    simp only [ld2]
  have h13 : k0_pay13 x0 x1 x2 x3 x4 x5 x6 x7 x8 x9 x10 x11 = mulf (k0_pay11 x0 x1 x2 x3 x4 x5 x6 x7 x8 x9 x10 x11) (k0_pay11 x0 x1 x2 x3 x4 x5 x6 x7 x8 x9 x10 x11) := rfl
  have h14 : k0_pay14 x0 x1 x2 x3 x4 x5 x6 x7 x8 x9 x10 x11 = k0_pay5 (k0_pay11 x0 x1 x2 x3 x4 x5 x6 x7 x8 x9 x10 x11) (k0_pay12 x0 x1 x2 x3 x4 x5 x6 x7 x8 x9 x10 x11) (k0_pay13 x0 x1 x2 x3 x4 x5 x6 x7 x8 x9 x10 x11) x9 := by
    unfold k0_pay14
    simp only [ld2]
  have hQ : ∀ d : Fin 512, k0_pay14 x0 x1 x2 x3 x4 x5 x6 x7 x8 x9 x10 x11 (ix2 i d) = query (merged (fun a => x1 (ix3 0 i a)) (fun a => x2 (ix3 0 i a)) (fun a => x0 (ix3 0 i a)) (fun a => x3 (ix3 0 i a)) (fun a => x4 (ix3 0 i a)) (fun a k => x5 (ix2 a k)) (fun a k => x6 (ix2 a k)) (fun k e => x7 (ix2 k e))) (fun a => x8 (ix2 0 a)) (fun e d => x9 (ix2 e d)) d := by
    intro d
    rw [h14, h12, h13, query_apply, h11]
    simp only [hidden_apply]
  have hx : View.ld (Val := Elt Ideal) x9 r0_5 = x9 := ld2 x9 _
  have hw : View.ld (Val := Elt Ideal) x11 r0_14 = x11 := ld2 x11 _
  unfold out0_12
  refine (congrFun (View.canon_cons_unit_zero zero3 _ _ _) _).trans ?_
  rw [hx, hw, pay6_eq, pay8_eq, pay9_eq, pay1_eq, closed_apply, h11, hidden_apply, ← h11, ← h14]
  unfold final
  refine congrArg₂ (· + ·) rfl (Finset.sum_congr rfl fun k _ => congrArg₂ (· * ·) ?_ rfl)
  have hk : (ix2 i k : S512x512.Idx) = ix2 i ⟨128 * (⟨k.val / 128, by omega⟩ : Fin 4).val + (⟨k.val % 128, Nat.mod_lt _ (by norm_num)⟩ : Fin 128).val, by show 128 * (k.val / 128) + k.val % 128 < 512; omega⟩ :=
    congrArg (ix2 i) (Fin.ext (by show k.val = 128 * (k.val / 128) + k.val % 128; omega))
  rw [hk]
  refine (joined_at _ x10 i _ _).trans ?_
  exact congrArg (fun z => headAt z _ _ _) (funext hQ)

end Cert.Kernel6Ideal.Mix

end
-- ==== Proof.MixValue.lean ====
/- The merge's result over the extended reals. -/
module

public import proofs.«01_k».proof.Proof.MixPay
public import Idealize.ShloMosaic.Lib.StableHlo.ReadAt

@[expose] public section

set_option maxRecDepth 16384

noncomputable section

namespace Cert.Kernel6Ideal.Mix

open Idealize.ShloMosaic Idealize.ShloMosaic.TcCoe Idealize.SL.Sem Cert.Kernel6Ideal Cert.Kernel6Ideal.Gen Cert.Whole Cert.MixMath

variable (m : (ℓ : Loc nD τ sig) → Buf (Elt Ideal) ℓ) (c : Dev nD)

/-- The hidden state. -/
def Hs (b : Fin 4) (s : Fin 4096) (e : Fin 2048) : EReal := m ((c : Thread nD τ).loc main_arg0) (ix3 b s e)
/-- The two branches. -/
def Ya (b : Fin 4) (s : Fin 4096) (e : Fin 1024) : EReal := m ((c : Thread nD τ).loc main_arg1) (ix3 b s e)
def Yd (b : Fin 4) (s : Fin 4096) (e : Fin 1024) : EReal := m ((c : Thread nD τ).loc main_arg2) (ix3 b s e)
/-- The two gates. -/
def Ga (b : Fin 4) (s : Fin 4096) (e : Fin 2048) : EReal := m ((c : Thread nD τ).loc main_arg3) (ix3 b s ⟨e.val, by omega⟩)
def Gb (b : Fin 4) (s : Fin 4096) (e : Fin 2048) : EReal := m ((c : Thread nD τ).loc main_arg3) (ix3 b s ⟨2048 + e.val, by omega⟩)
/-- The matrices, and the normalisation's weights. -/
def Wa (k : Fin 1024) (e : Fin 2048) : EReal := m ((c : Thread nD τ).loc main_arg4) (ix3 0 k e)
def Wb (k : Fin 1024) (e : Fin 2048) : EReal := m ((c : Thread nD τ).loc main_arg5) (ix3 0 k e)
def Wo (k : Fin 2048) (e : Fin 2048) : EReal := m ((c : Thread nD τ).loc main_arg6) (ix3 0 k e)
def Nw (e : Fin 2048) : EReal := m ((c : Thread nD τ).loc main_arg7) (ix2 0 e)
def Wq (k : Fin 2048) (e : Fin 512) : EReal := m ((c : Thread nD τ).loc main_arg8) (ix3 0 k e)
def Kv (b : Fin 4) (j : Fin 256) (e : Fin 1024) : EReal := m ((c : Thread nD τ).loc main_arg9) (ix3 b j e)
def Wx (k : Fin 512) (e : Fin 2048) : EReal := m ((c : Thread nD τ).loc main_arg10) (ix3 0 k e)

theorem V_main_v1 (r : Fin 1024) (e : Fin 2048) : (V m c main_v1 : S1024x2048.Idx → EReal) (ix2 r e) = Wa m c r e := by
  unfold V
  after_reads_at
  rfl

theorem V_main_v3 (r : Fin 1024) (e : Fin 2048) : (V m c main_v3 : S1024x2048.Idx → EReal) (ix2 r e) = Wb m c r e := by
  unfold V
  after_reads_at
  rfl

theorem V_main_v5 (r : Fin 2048) (e : Fin 2048) : (V m c main_v5 : S2048x2048.Idx → EReal) (ix2 r e) = Wo m c r e := by
  unfold V
  after_reads_at
  rfl

theorem V_main_v7 (r : Fin 1) (e : Fin 2048) : (V m c main_v7 : S1x2048.Idx → EReal) (ix2 r e) = Nw m c e := by
  unfold V
  after_reads_at
  rfl

theorem V_main_v9 (r : Fin 2048) (e : Fin 512) : (V m c main_v9 : S2048x512.Idx → EReal) (ix2 r e) = Wq m c r e := by
  unfold V
  after_reads_at
  rfl

theorem V_main_v11 (r : Fin 512) (e : Fin 2048) : (V m c main_v11 : S512x2048.Idx → EReal) (ix2 r e) = Wx m c r e := by
  unfold V
  after_reads_at
  rfl

theorem rowlt (t : Fin cfg0.N) : t.val / 8 < 4 := by
  have h := lt_of_lt_of_eq t.isLt N_0
  omega

theorem collt (t : Fin cfg0.N) (i : Fin 512) : 512 * (t.val % 8) + i.val < 4096 := by
  have h := Nat.mod_lt t.val (show 0 < 8 by norm_num)
  omega

/-- A point's batch row, and its block's rows. -/
def bt (t : Fin cfg0.N) : Fin 4 := ⟨t.val / 8, rowlt t⟩
def st (t : Fin cfg0.N) (i : Fin 512) : Fin 4096 := ⟨512 * (t.val % 8) + i.val, collt t i⟩

theorem index0 : ∀ t : Fin cfg0.N, win0_0.index t = ![t.val / 8, t.val % 8, 0] := (by decide +kernel : ∀ t : Fin grid0.N, _)

theorem blk0 (t : Fin cfg0.N) (u : Fin 1) (i : Fin 512) (j : Fin 2048) : (iblk m c 0 t : Vec Ideal S1x512x2048 .f32) (ix3 u i j) = Hs m c (bt t) (st t i) j := by
  have hi := index0 t
  refine Eq.trans ?_ (congrFun (V_main_arg0 m c) (ix3 (bt t) (st t i) j))
  unfold iblk
  rw [View.read_apply]
  show V m c main_arg0 _ = V m c main_arg0 _
  congr 1
  funext a
  apply Fin.ext
  match a with
  | ⟨0, _⟩ => show win0_0.index t 0 * 1 + 1 * u.val = t.val / 8; rw [hi]; show t.val / 8 * 1 + 1 * u.val = _; omega
  | ⟨1, _⟩ => show win0_0.index t 1 * 512 + 1 * i.val = 512 * (t.val % 8) + i.val; rw [hi]; show t.val % 8 * 512 + 1 * i.val = _; omega
  | ⟨2, _⟩ => show win0_0.index t 2 * 2048 + 1 * j.val = j.val; rw [hi]; show 0 * 2048 + 1 * j.val = _; omega

theorem index1 : ∀ t : Fin cfg0.N, win0_1.index t = ![t.val / 8, t.val % 8, 0] := (by decide +kernel : ∀ t : Fin grid0.N, _)

theorem blk1 (t : Fin cfg0.N) (u : Fin 1) (i : Fin 512) (j : Fin 1024) : (iblk m c 1 t : Vec Ideal S1x512x1024 .bf16) (ix3 u i j) = Ya m c (bt t) (st t i) j := by
  have hi := index1 t
  refine Eq.trans ?_ (congrFun (V_main_arg1 m c) (ix3 (bt t) (st t i) j))
  unfold iblk
  rw [View.read_apply]
  show V m c main_arg1 _ = V m c main_arg1 _
  congr 1
  funext a
  apply Fin.ext
  match a with
  | ⟨0, _⟩ => show win0_1.index t 0 * 1 + 1 * u.val = t.val / 8; rw [hi]; show t.val / 8 * 1 + 1 * u.val = _; omega
  | ⟨1, _⟩ => show win0_1.index t 1 * 512 + 1 * i.val = 512 * (t.val % 8) + i.val; rw [hi]; show t.val % 8 * 512 + 1 * i.val = _; omega
  | ⟨2, _⟩ => show win0_1.index t 2 * 1024 + 1 * j.val = j.val; rw [hi]; show 0 * 1024 + 1 * j.val = _; omega

theorem index2 : ∀ t : Fin cfg0.N, win0_2.index t = ![t.val / 8, t.val % 8, 0] := (by decide +kernel : ∀ t : Fin grid0.N, _)

theorem blk2 (t : Fin cfg0.N) (u : Fin 1) (i : Fin 512) (j : Fin 1024) : (iblk m c 2 t : Vec Ideal S1x512x1024 .bf16) (ix3 u i j) = Yd m c (bt t) (st t i) j := by
  have hi := index2 t
  refine Eq.trans ?_ (congrFun (V_main_arg2 m c) (ix3 (bt t) (st t i) j))
  unfold iblk
  rw [View.read_apply]
  show V m c main_arg2 _ = V m c main_arg2 _
  congr 1
  funext a
  apply Fin.ext
  match a with
  | ⟨0, _⟩ => show win0_2.index t 0 * 1 + 1 * u.val = t.val / 8; rw [hi]; show t.val / 8 * 1 + 1 * u.val = _; omega
  | ⟨1, _⟩ => show win0_2.index t 1 * 512 + 1 * i.val = 512 * (t.val % 8) + i.val; rw [hi]; show t.val % 8 * 512 + 1 * i.val = _; omega
  | ⟨2, _⟩ => show win0_2.index t 2 * 1024 + 1 * j.val = j.val; rw [hi]; show 0 * 1024 + 1 * j.val = _; omega

theorem index3 : ∀ t : Fin cfg0.N, win0_3.index t = ![t.val / 8, t.val % 8, 0] := (by decide +kernel : ∀ t : Fin grid0.N, _)

theorem blk3 (t : Fin cfg0.N) (u : Fin 1) (i : Fin 512) (j : Fin 2048) : (iblk m c 3 t : Vec Ideal S1x512x2048 .bf16) (ix3 u i j) = Ga m c (bt t) (st t i) j := by
  have hi := index3 t
  refine Eq.trans ?_ (congrFun (V_main_arg3 m c) (ix3 (bt t) (st t i) ⟨j.val, by omega⟩))
  unfold iblk
  rw [View.read_apply]
  show V m c main_arg3 _ = V m c main_arg3 _
  congr 1
  funext a
  apply Fin.ext
  match a with
  | ⟨0, _⟩ => show win0_3.index t 0 * 1 + 1 * u.val = t.val / 8; rw [hi]; show t.val / 8 * 1 + 1 * u.val = _; omega
  | ⟨1, _⟩ => show win0_3.index t 1 * 512 + 1 * i.val = 512 * (t.val % 8) + i.val; rw [hi]; show t.val % 8 * 512 + 1 * i.val = _; omega
  | ⟨2, _⟩ => show win0_3.index t 2 * 2048 + 1 * j.val = j.val; rw [hi]; show 0 * 2048 + 1 * j.val = _; omega

theorem index4 : ∀ t : Fin cfg0.N, win0_4.index t = ![t.val / 8, t.val % 8, 1] := (by decide +kernel : ∀ t : Fin grid0.N, _)

theorem blk4 (t : Fin cfg0.N) (u : Fin 1) (i : Fin 512) (j : Fin 2048) : (iblk m c 4 t : Vec Ideal S1x512x2048 .bf16) (ix3 u i j) = Gb m c (bt t) (st t i) j := by
  have hi := index4 t
  refine Eq.trans ?_ (congrFun (V_main_arg3 m c) (ix3 (bt t) (st t i) ⟨2048 + j.val, by omega⟩))
  unfold iblk
  rw [View.read_apply]
  show V m c main_arg3 _ = V m c main_arg3 _
  congr 1
  funext a
  apply Fin.ext
  match a with
  | ⟨0, _⟩ => show win0_4.index t 0 * 1 + 1 * u.val = t.val / 8; rw [hi]; show t.val / 8 * 1 + 1 * u.val = _; omega
  | ⟨1, _⟩ => show win0_4.index t 1 * 512 + 1 * i.val = 512 * (t.val % 8) + i.val; rw [hi]; show t.val % 8 * 512 + 1 * i.val = _; omega
  | ⟨2, _⟩ => show win0_4.index t 2 * 2048 + 1 * j.val = 2048 + j.val; rw [hi]; show 1 * 2048 + 1 * j.val = _; omega

theorem index10 : ∀ t : Fin cfg0.N, win0_10.index t = ![t.val / 8, 0, 0] := (by decide +kernel : ∀ t : Fin grid0.N, _)

theorem blk10 (t : Fin cfg0.N) (u : Fin 1) (i : Fin 256) (j : Fin 1024) : (iblk m c 10 t : Vec Ideal S1x256x1024 .bf16) (ix3 u i j) = Kv m c (bt t) i j := by
  have hi := index10 t
  refine Eq.trans ?_ (congrFun (V_main_arg9 m c) (ix3 (bt t) i j))
  unfold iblk
  rw [View.read_apply]
  show V m c main_arg9 _ = V m c main_arg9 _
  congr 1
  funext a
  apply Fin.ext
  match a with
  | ⟨0, _⟩ => show win0_10.index t 0 * 1 + 1 * u.val = t.val / 8; rw [hi]; show t.val / 8 * 1 + 1 * u.val = _; omega
  | ⟨1, _⟩ => show win0_10.index t 1 * 256 + 1 * i.val = i.val; rw [hi]; show 0 * 256 + 1 * i.val = _; omega
  | ⟨2, _⟩ => show win0_10.index t 2 * 1024 + 1 * j.val = j.val; rw [hi]; show 0 * 1024 + 1 * j.val = _; omega

theorem index5 : ∀ t : Fin cfg0.N, win0_5.index t = ![0, 0] := (by decide +kernel : ∀ t : Fin grid0.N, _)

theorem blk5 (t : Fin cfg0.N) (i : Fin 1024) (j : Fin 2048) : (iblk m c 5 t : Vec Ideal S1024x2048 .bf16) (ix2 i j) = Wa m c i j := by
  have hi := index5 t
  refine Eq.trans ?_ (V_main_v1 m c i j)
  unfold iblk
  rw [View.read_apply]
  show V m c main_v1 _ = V m c main_v1 _
  congr 1
  funext a
  apply Fin.ext
  match a with
  | ⟨0, _⟩ => show win0_5.index t 0 * 1024 + 1 * i.val = i.val; rw [hi]; show 0 * 1024 + 1 * i.val = _; omega
  | ⟨1, _⟩ => show win0_5.index t 1 * 2048 + 1 * j.val = j.val; rw [hi]; show 0 * 2048 + 1 * j.val = _; omega

theorem index6 : ∀ t : Fin cfg0.N, win0_6.index t = ![0, 0] := (by decide +kernel : ∀ t : Fin grid0.N, _)

theorem blk6 (t : Fin cfg0.N) (i : Fin 1024) (j : Fin 2048) : (iblk m c 6 t : Vec Ideal S1024x2048 .bf16) (ix2 i j) = Wb m c i j := by
  have hi := index6 t
  refine Eq.trans ?_ (V_main_v3 m c i j)
  unfold iblk
  rw [View.read_apply]
  show V m c main_v3 _ = V m c main_v3 _
  congr 1
  funext a
  apply Fin.ext
  match a with
  | ⟨0, _⟩ => show win0_6.index t 0 * 1024 + 1 * i.val = i.val; rw [hi]; show 0 * 1024 + 1 * i.val = _; omega
  | ⟨1, _⟩ => show win0_6.index t 1 * 2048 + 1 * j.val = j.val; rw [hi]; show 0 * 2048 + 1 * j.val = _; omega

theorem index7 : ∀ t : Fin cfg0.N, win0_7.index t = ![0, 0] := (by decide +kernel : ∀ t : Fin grid0.N, _)

theorem blk7 (t : Fin cfg0.N) (i : Fin 2048) (j : Fin 2048) : (iblk m c 7 t : Vec Ideal S2048x2048 .bf16) (ix2 i j) = Wo m c i j := by
  have hi := index7 t
  refine Eq.trans ?_ (V_main_v5 m c i j)
  unfold iblk
  rw [View.read_apply]
  show V m c main_v5 _ = V m c main_v5 _
  congr 1
  funext a
  apply Fin.ext
  match a with
  | ⟨0, _⟩ => show win0_7.index t 0 * 2048 + 1 * i.val = i.val; rw [hi]; show 0 * 2048 + 1 * i.val = _; omega
  | ⟨1, _⟩ => show win0_7.index t 1 * 2048 + 1 * j.val = j.val; rw [hi]; show 0 * 2048 + 1 * j.val = _; omega

theorem index8 : ∀ t : Fin cfg0.N, win0_8.index t = ![0, 0] := (by decide +kernel : ∀ t : Fin grid0.N, _)

theorem blk8 (t : Fin cfg0.N) (i : Fin 1) (j : Fin 2048) : (iblk m c 8 t : Vec Ideal S1x2048 .f32) (ix2 i j) = Nw m c j := by
  have hi := index8 t
  refine Eq.trans ?_ (V_main_v7 m c i j)
  unfold iblk
  rw [View.read_apply]
  show V m c main_v7 _ = V m c main_v7 _
  congr 1
  funext a
  apply Fin.ext
  match a with
  | ⟨0, _⟩ => show win0_8.index t 0 * 1 + 1 * i.val = i.val; rw [hi]; show 0 * 1 + 1 * i.val = _; omega
  | ⟨1, _⟩ => show win0_8.index t 1 * 2048 + 1 * j.val = j.val; rw [hi]; show 0 * 2048 + 1 * j.val = _; omega

theorem index9 : ∀ t : Fin cfg0.N, win0_9.index t = ![0, 0] := (by decide +kernel : ∀ t : Fin grid0.N, _)

theorem blk9 (t : Fin cfg0.N) (i : Fin 2048) (j : Fin 512) : (iblk m c 9 t : Vec Ideal S2048x512 .bf16) (ix2 i j) = Wq m c i j := by
  have hi := index9 t
  refine Eq.trans ?_ (V_main_v9 m c i j)
  unfold iblk
  rw [View.read_apply]
  show V m c main_v9 _ = V m c main_v9 _
  congr 1
  funext a
  apply Fin.ext
  match a with
  | ⟨0, _⟩ => show win0_9.index t 0 * 2048 + 1 * i.val = i.val; rw [hi]; show 0 * 2048 + 1 * i.val = _; omega
  | ⟨1, _⟩ => show win0_9.index t 1 * 512 + 1 * j.val = j.val; rw [hi]; show 0 * 512 + 1 * j.val = _; omega

theorem index11 : ∀ t : Fin cfg0.N, win0_11.index t = ![0, 0] := (by decide +kernel : ∀ t : Fin grid0.N, _)

theorem blk11 (t : Fin cfg0.N) (i : Fin 512) (j : Fin 2048) : (iblk m c 11 t : Vec Ideal S512x2048 .bf16) (ix2 i j) = Wx m c i j := by
  have hi := index11 t
  refine Eq.trans ?_ (V_main_v11 m c i j)
  unfold iblk
  rw [View.read_apply]
  show V m c main_v11 _ = V m c main_v11 _
  congr 1
  funext a
  apply Fin.ext
  match a with
  | ⟨0, _⟩ => show win0_11.index t 0 * 512 + 1 * i.val = i.val; rw [hi]; show 0 * 512 + 1 * i.val = _; omega
  | ⟨1, _⟩ => show win0_11.index t 1 * 2048 + 1 * j.val = j.val; rw [hi]; show 0 * 2048 + 1 * j.val = _; omega

/-! ## The result -/

/-- The merged row. -/
def M2 (b : Fin 4) (s : Fin 4096) : Fin 2048 → EReal :=
  merged (Ya m c b s) (Yd m c b s) (Hs m c b s) (Ga m c b s) (Gb m c b s) (Wa m c) (Wb m c) (Wo m c)

/-- The row's query. -/
def Qs (b : Fin 4) (s : Fin 4096) : Fin 512 → EReal := query (M2 m c b s) (Nw m c) (Wq m c)

/-- What a point stores. -/
theorem stored (t : Fin cfg0.N) (i : Fin 512) (e : Fin 2048) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 i e)
      = final (M2 m c (bt t) (st t i)) (Qs m c (bt t) (st t i)) (Kv m c (bt t)) (Wx m c) e := by
  rw [out_apply]
  simp only [blk0, blk1, blk2, blk3, blk4, blk5, blk6, blk7, blk8, blk9, blk10, blk11]
  rfl

theorem index12 : ∀ t : Fin cfg0.N, win0_12.index t = ![t.val / 8, t.val % 8, 0] := (by decide +kernel : ∀ t : Fin grid0.N, _)

theorem read12 (t : Fin cfg0.N) (A : Vec Ideal S4x4096x2048 .f32) (i : Fin 512) (e : Fin 2048) :
    (((cfg0.win 12).blk t).view.read (Elt Ideal) A : Vec Ideal S1x512x2048 .f32) (ix3 0 i e) = A (ix3 (bt t) (st t i) e) := by
  have hi := index12 t
  rw [View.read_apply]
  show A _ = A _
  congr 1
  funext a
  apply Fin.ext
  match a with
  | ⟨0, _⟩ => show win0_12.index t 0 * 1 + 1 * 0 = t.val / 8; rw [hi]; show t.val / 8 * 1 + 1 * 0 = _; omega
  | ⟨1, _⟩ => show win0_12.index t 1 * 512 + 1 * i.val = 512 * (t.val % 8) + i.val; rw [hi]; show t.val % 8 * 512 + 1 * i.val = _; omega
  | ⟨2, _⟩ => show win0_12.index t 2 * 2048 + 1 * e.val = e.val; rw [hi]; show 0 * 2048 + 1 * e.val = _; omega

theorem cut12 (t : Fin cfg0.N) (x : Vec Ideal S1x512x2048 .f32) (i : Fin 512) (e : Fin 2048) :
    ((cfg0.win 12).cut (grid0.coords t) x : Vec Ideal S1x512x2048 .f32) (ix3 0 i e) = x (ix3 0 i e) := rfl

/-- The result at a point's rows. -/
theorem final_at (t : Fin cfg0.N) (i : Fin 512) (e : Fin 2048) :
    ((dats m 0 c).arrAt 12 cfg0.N : Vec Ideal S4x4096x2048 .f32) (ix3 (bt t) (st t i) e) = final (M2 m c (bt t) (st t i)) (Qs m c (bt t) (st t i)) (Kv m c (bt t)) (Wx m c) e := by
  refine (read12 t _ i e).symm.trans ?_
  refine (congrFun (Value.blocks12 m c t (flush0_12 t)) (ix3 0 i e)).trans ?_
  refine (congrFun (Value.flushed12 m c t) (ix3 0 i e)).trans ?_
  exact (cut12 t _ i e).trans (stored m c t i e)

/-- The result. -/
theorem result_apply (b : Fin 4) (s : Fin 4096) (e : Fin 2048) :
    ((dats m 0 c).arrAt 12 cfg0.N : Vec Ideal S4x4096x2048 .f32) (ix3 b s e) = final (M2 m c b s) (Qs m c b s) (Kv m c b) (Wx m c) e := by
  have hN : 8 * b.val + s.val / 512 < cfg0.N := lt_of_lt_of_eq (by omega) N_0.symm
  have hb : bt ⟨_, hN⟩ = b := Fin.ext (by show (8 * b.val + s.val / 512) / 8 = b.val; omega)
  have hs : st ⟨_, hN⟩ ⟨s.val % 512, Nat.mod_lt _ (by norm_num)⟩ = s := Fin.ext (by show 512 * ((8 * b.val + s.val / 512) % 8) + s.val % 512 = s.val; omega)
  have h := final_at m c ⟨_, hN⟩ ⟨s.val % 512, Nat.mod_lt _ (by norm_num)⟩ e
  rw [hb, hs] at h
  exact h

end Cert.Kernel6Ideal.Mix

end
-- ==== Proof.MixRef.lean ====
/- The merge's reference, read at an index. -/
module

public import proofs.«01_k».proof.Proof.MixMath
public import proofs.«01_k».proof.Proof.Gen.Reference6Ideal.Run
public import Idealize.ShloMosaic.Lib.Pointwise

@[expose] public section

set_option maxRecDepth 16384

noncomputable section

namespace Cert.Reference6Ideal.Mix

open Idealize.ShloMosaic Idealize.ShloMosaic.TcCoe Idealize.SL.Sem Cert.Reference6Ideal Cert.Reference6Ideal.Gen Cert.MixMath

section Terms

variable {F : FTy → Type} [FloatOps F]

/-- A branch's product with its matrix. -/
def branch (y : FVec F S4x4096x1024 .bf16) (w : FVec F S1x1024x2048 .f32) : FVec F S4x4096x2048 .f32 :=
  Host.dotGeneral dot_S4x4096x1024_S1024x2048_S4x4096x2048_2_0_01_1_n_n none (extf .f32 y bitsLt_bf16_f32) (shapeCast S1024x2048 w shapeCasts_S1x1024x2048_S1024x2048)

/-- The logistic function of a gate times a branch. -/
def gated (g a : FVec F S4x4096x2048 .f32) : FVec F S4x4096x2048 .f32 :=
  mulf (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf g)))) a

/-- The two gated branches added. -/
def both (g : FVec F S4x4096x4096 .bf16) (a b : FVec F S4x4096x2048 .f32) : FVec F S4x4096x2048 .f32 :=
  addf (gated (extractStridedSlice S4x4096x2048 ![0, 0, 0] (extf .f32 g bitsLt_bf16_f32) slices_S4x4096x4096_S4x4096x2048_0_0_0) a)
    (gated (extractStridedSlice S4x4096x2048 ![0, 0, 2048] (extf .f32 g bitsLt_bf16_f32) slices_S4x4096x4096_S4x4096x2048_0_0_2048) b)

/-- The hidden state plus the projected merge. -/
def added (h u : FVec F S4x4096x2048 .f32) (w : FVec F S1x2048x2048 .f32) : FVec F S4x4096x2048 .f32 :=
  addf h (Host.dotGeneral dot_S4x4096x2048_S2048x2048_S4x4096x2048_2_0_01_1_n_n none u (shapeCast S2048x2048 w shapeCasts_S1x2048x2048_S2048x2048))

/-- The rows normalised. -/
def normed (x : FVec F S4x4096x2048 .f32) (w : FVec F S2048 .f32) : FVec F S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 w))

/-- The queries, head by head. -/
def queries (x : FVec F S4x4096x2048 .f32) (w : FVec F S1x2048x512 .f32) : FVec F S4x4096x4x128 .f32 :=
  shapeCast S4x4096x4x128 (Host.dotGeneral dot_S4x4096x2048_S2048x512_S4x4096x512_2_0_01_1_n_n none x (shapeCast S2048x512 w shapeCasts_S1x2048x512_S2048x512)) shapeCasts_S4x4096x512_S4x4096x4x128

/-- The memory's keys and values, head by head. -/
def pairs (kv : FVec F S4x256x1024 .bf16) : FVec F S4x256x2x4x128 .f32 :=
  shapeCast S4x256x2x4x128 (extf .f32 kv bitsLt_bf16_f32) shapeCasts_S4x256x1024_S4x256x2x4x128

def keys (kv : FVec F S4x256x1024 .bf16) : FVec F S4x256x4x128 .f32 :=
  shapeCast S4x256x4x128 (extractStridedSlice S4x256x1x4x128 ![0, 0, 0, 0, 0] (pairs kv) slices_S4x256x2x4x128_S4x256x1x4x128_0_0_0_0_0) shapeCasts_S4x256x1x4x128_S4x256x4x128

def vals (kv : FVec F S4x256x1024 .bf16) : FVec F S4x256x4x128 .f32 :=
  shapeCast S4x256x4x128 (extractStridedSlice S4x256x1x4x128 ![0, 0, 1, 0, 0] (pairs kv) slices_S4x256x2x4x128_S4x256x1x4x128_0_0_1_0_0) shapeCasts_S4x256x1x4x128_S4x256x4x128

/-- The scaled scores. -/
def scores (q : FVec F S4x4096x4x128 .f32) (k : FVec F S4x256x4x128 .f32) : FVec F S4x4x4096x256 .f32 :=
  mulf (Host.dotGeneral dot_S4x4096x4x128_S4x256x4x128_S4x4x4096x256_3_3_1_1_02_02 none q k) (broadcastInDim S4x4x4096x256 ![] bcast_S_S4x4x4096x256 (constant S_ .f32 0x3DB504F3#32))

/-- Each row's greatest score. -/
def tops (s : FVec F S4x4x4096x256 .f32) : FVec F S4x4x4096 .f32 :=
  Host.reduce FloatOps.maximumf s (constant S_ .f32 0xFF800000#32) reducesTo_S4x4x4096x256_S4x4x4096_d3 h_S_

/-- The scores' exponentials, each row from its greatest. -/
def weights (s : FVec F S4x4x4096x256 .f32) (t : FVec F S4x4x4096 .f32) : FVec F S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2
    (maximumf (broadcastInDim S4x4x4096 ![] bcast_S_S4x4x4096 (constant S_ .f32 0xFF800000#32)) t))))

/-- The weights over their sums. -/
def shares (p : FVec F S4x4x4096x256 .f32) : FVec F S4x4x4096x256 .f32 :=
  Host.divf p (broadcastInDim S4x4x4096x256 ![0, 1, 2, 3] bcast_S4x4x4096x1_S4x4x4096x256_0_1_2_3 (broadcastInDim S4x4x4096x1 ![0, 1, 2] bcast_S4x4x4096_S4x4x4096x1_0_1_2
    (Host.reduceAdd p (constant S_ .f32 0x00000000#32) reducesTo_S4x4x4096x256_S4x4x4096_d3 h_S_)))

/-- The weighted values, the heads side by side. -/
def heads (v : FVec F S4x256x4x128 .f32) (p : FVec F S4x4x4096x256 .f32) : FVec F S4x4096x512 .f32 :=
  shapeCast S4x4096x512 (transpose S4x4096x4x128 [0, 3, 1, 2] (Host.dotGeneral dot_S4x256x4x128_S4x4x4096x256_S4x4x128x4096_1_3_3_2_02_01 none v p) transposes_S4x4x128x4096_S4x4096x4x128_0_3_1_2) shapeCasts_S4x4096x4x128_S4x4096x512

/-- The hidden state plus the projected heads. -/
def closed (h : FVec F S4x4096x2048 .f32) (o : FVec F S4x4096x512 .f32) (w : FVec F S1x512x2048 .f32) : FVec F S4x4096x2048 .f32 :=
  addf h (Host.dotGeneral dot_S4x4096x512_S512x2048_S4x4096x2048_2_0_01_1_n_n none o (shapeCast S512x2048 w shapeCasts_S1x512x2048_S512x2048))

end Terms

theorem branch_apply (y : FVec Ideal S4x4096x1024 .bf16) (w : FVec Ideal S1x1024x2048 .f32) (b : Fin 4) (t : Fin 4096) (e : Fin 2048) :
    branch y w (ix3 b t e) = ∑ k : Fin 1024, y (ix3 b t k) * w (ix3 0 k e) := by
  unfold branch
  pointwise
  done

theorem gated_apply (g a : FVec Ideal S4x4096x2048 .f32) (b : Fin 4) (t : Fin 4096) (e : Fin 2048) :
    gated g a (ix3 b t e) = Ideal.logistic (g (ix3 b t e)) * a (ix3 b t e) := by
  unfold gated
  pointwise
  rfl

theorem both_apply (g : FVec Ideal S4x4096x4096 .bf16) (x y : FVec Ideal S4x4096x2048 .f32) (b : Fin 4) (t : Fin 4096) (e : Fin 2048) :
    both g x y (ix3 b t e) = Ideal.logistic (g (ix3 b t ⟨e.val, by omega⟩)) * x (ix3 b t e) + Ideal.logistic (g (ix3 b t ⟨2048 + e.val, by omega⟩)) * y (ix3 b t e) := by
  unfold both
  show gated _ x (ix3 b t e) + gated _ y (ix3 b t e) = _
  rw [gated_apply, gated_apply]
  pointwise

theorem added_apply (h u : FVec Ideal S4x4096x2048 .f32) (w : FVec Ideal S1x2048x2048 .f32) (b : Fin 4) (t : Fin 4096) (e : Fin 2048) :
    added h u w (ix3 b t e) = h (ix3 b t e) + ∑ k : Fin 2048, u (ix3 b t k) * w (ix3 0 k e) := by
  unfold added
  pointwise
  done

theorem normed_apply (x : FVec Ideal S4x4096x2048 .f32) (b : Fin 4) (t : Fin 4096) (w : FVec Ideal S2048 .f32) (e : Fin 2048) :
    normed x w (ix3 b t e) = FfnMath.norm (fun a => x (ix3 b t a)) (fun a => w (ix1 a)) e := by
  unfold normed
  pointwise
  rfl

theorem queries_apply (x : FVec Ideal S4x4096x2048 .f32) (w : FVec Ideal S1x2048x512 .f32) (b : Fin 4) (t : Fin 4096) (n : Fin 4) (d : Fin 128) :
    queries x w (ix4 b t n d) = ∑ k : Fin 2048, x (ix3 b t k) * w (ix3 0 k ⟨n.val * 128 + d.val, by omega⟩) := by
  unfold queries
  pointwise
  done

theorem keys_apply (kv : FVec Ideal S4x256x1024 .bf16) (b : Fin 4) (j : Fin 256) (n : Fin 4) (d : Fin 128) :
    keys kv (ix4 b j n d) = kv (ix3 b j ⟨n.val * 128 + d.val, by omega⟩) := by
  unfold keys pairs
  pointwise
  done

theorem vals_apply (kv : FVec Ideal S4x256x1024 .bf16) (b : Fin 4) (j : Fin 256) (n : Fin 4) (d : Fin 128) :
    vals kv (ix4 b j n d) = kv (ix3 b j ⟨512 + n.val * 128 + d.val, by omega⟩) := by
  unfold vals pairs
  pointwise
  done

theorem scores_apply (q : FVec Ideal S4x4096x4x128 .f32) (k : FVec Ideal S4x256x4x128 .f32) (b n : Fin 4) (t : Fin 4096) (j : Fin 256) :
    scores q k (ix4 b n t j) = score (fun d => q (ix4 b t n d)) (fun j d => k (ix4 b j n d)) j := by
  unfold scores
  pointwise
  rfl

theorem tops_apply (s : FVec Ideal S4x4x4096x256 .f32) (b n : Fin 4) (t : Fin 4096) :
    tops s (ix3 b n t) = top (fun j => s (ix4 b n t j)) := by
  unfold tops
  pointwise
  rfl

theorem weights_apply (s : FVec Ideal S4x4x4096x256 .f32) (g : FVec Ideal S4x4x4096 .f32) (b n : Fin 4) (t : Fin 4096) (j : Fin 256) :
    weights s g (ix4 b n t j) = Ideal.exp (s (ix4 b n t j) - max (Ideal.ofBits .f32 0xFF800000#32) (g (ix3 b n t))) := by
  unfold weights
  pointwise
  done

theorem shares_apply (p : FVec Ideal S4x4x4096x256 .f32) (b n : Fin 4) (t : Fin 4096) (j : Fin 256) :
    shares p (ix4 b n t j) = Ideal.div (p (ix4 b n t j)) (∑ j : Fin 256, p (ix4 b n t j)) := by
  unfold shares
  pointwise
  done

theorem heads_apply (v : FVec Ideal S4x256x4x128 .f32) (p : FVec Ideal S4x4x4096x256 .f32) (b : Fin 4) (t : Fin 4096) (n : Fin 4) (d : Fin 128) :
    heads v p (ix3 b t ⟨128 * n.val + d.val, by omega⟩) = ∑ j : Fin 256, v (ix4 b j n d) * p (ix4 b n t j) := by
  unfold heads
  pointwise
  done

theorem closed_apply (h : FVec Ideal S4x4096x2048 .f32) (o : FVec Ideal S4x4096x512 .f32) (w : FVec Ideal S1x512x2048 .f32) (b : Fin 4) (t : Fin 4096) (e : Fin 2048) :
    closed h o w (ix3 b t e) = h (ix3 b t e) + ∑ k : Fin 512, o (ix3 b t k) * w (ix3 0 k e) := by
  unfold closed
  pointwise
  done

variable (m : (ℓ : Loc nD τ sig) → Buf (Elt Ideal) ℓ) (c : Dev nD)

/-- The merged rows, of the arguments. -/
def mergedRows : FVec Ideal S4x4096x2048 .f32 :=
  added (F := Ideal) (m ((c : Thread nD τ).loc main_arg0)) (both (F := Ideal) (m ((c : Thread nD τ).loc main_arg3)) (branch (F := Ideal) (m ((c : Thread nD τ).loc main_arg1)) (m ((c : Thread nD τ).loc main_arg4))) (branch (F := Ideal) (m ((c : Thread nD τ).loc main_arg2)) (m ((c : Thread nD τ).loc main_arg5)))) (m ((c : Thread nD τ).loc main_arg6))

/-- The queries, of the arguments. -/
def allQueries : FVec Ideal S4x4096x4x128 .f32 :=
  queries (F := Ideal) (normed (F := Ideal) (mergedRows m c) (shapeCast S2048 (m ((c : Thread nD τ).loc main_arg7)) shapeCasts_S1x2048_S2048)) (m ((c : Thread nD τ).loc main_arg8))

/-- The scores, of the arguments. -/
def allScores : FVec Ideal S4x4x4096x256 .f32 := scores (F := Ideal) (allQueries m c) (keys (F := Ideal) (m ((c : Thread nD τ).loc main_arg9)))

/-- The weights, of the arguments. -/
def allWeights : FVec Ideal S4x4x4096x256 .f32 := weights (F := Ideal) (allScores m c) (tops (F := Ideal) (allScores m c))

/-- The result, of the arguments. -/
def result : FVec Ideal S4x4096x2048 .f32 :=
  closed (F := Ideal) (mergedRows m c) (heads (F := Ideal) (vals (F := Ideal) (m ((c : Thread nD τ).loc main_arg9))) (shares (F := Ideal) (allWeights m c))) (m ((c : Thread nD τ).loc main_arg10))

theorem run (ρ : Dev nD → PrngReg) :
    θ_run defs (onTc (τ := τ) (main (F := Ideal))) ⟨m, fun _ => 0, ρ⟩ fun r => ∀ c : Dev nD,
      r.2.mem ((c.tc : Thread nD τ).loc main_v70) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run m ρ

/-! ## The result at an index -/

def Hs (b : Fin 4) (s : Fin 4096) (e : Fin 2048) : EReal := m ((c : Thread nD τ).loc main_arg0) (ix3 b s e)
def Ya (b : Fin 4) (s : Fin 4096) (e : Fin 1024) : EReal := m ((c : Thread nD τ).loc main_arg1) (ix3 b s e)
def Yd (b : Fin 4) (s : Fin 4096) (e : Fin 1024) : EReal := m ((c : Thread nD τ).loc main_arg2) (ix3 b s e)
def Ga (b : Fin 4) (s : Fin 4096) (e : Fin 2048) : EReal := m ((c : Thread nD τ).loc main_arg3) (ix3 b s ⟨e.val, by omega⟩)
def Gb (b : Fin 4) (s : Fin 4096) (e : Fin 2048) : EReal := m ((c : Thread nD τ).loc main_arg3) (ix3 b s ⟨2048 + e.val, by omega⟩)
def Wa (k : Fin 1024) (e : Fin 2048) : EReal := m ((c : Thread nD τ).loc main_arg4) (ix3 0 k e)
def Wb (k : Fin 1024) (e : Fin 2048) : EReal := m ((c : Thread nD τ).loc main_arg5) (ix3 0 k e)
def Wo (k : Fin 2048) (e : Fin 2048) : EReal := m ((c : Thread nD τ).loc main_arg6) (ix3 0 k e)
def Nw (e : Fin 2048) : EReal := m ((c : Thread nD τ).loc main_arg7) (ix2 0 e)
def Wq (k : Fin 2048) (e : Fin 512) : EReal := m ((c : Thread nD τ).loc main_arg8) (ix3 0 k e)
def Kv (b : Fin 4) (j : Fin 256) (e : Fin 1024) : EReal := m ((c : Thread nD τ).loc main_arg9) (ix3 b j e)
def Wx (k : Fin 512) (e : Fin 2048) : EReal := m ((c : Thread nD τ).loc main_arg10) (ix3 0 k e)

/-- The merged row. -/
def M2 (b : Fin 4) (s : Fin 4096) : Fin 2048 → EReal :=
  merged (Ya m c b s) (Yd m c b s) (Hs m c b s) (Ga m c b s) (Gb m c b s) (Wa m c) (Wb m c) (Wo m c)

/-- The row's query. -/
def Qs (b : Fin 4) (s : Fin 4096) : Fin 512 → EReal := query (M2 m c b s) (Nw m c) (Wq m c)

theorem mergedRows_apply (b : Fin 4) (s : Fin 4096) (e : Fin 2048) : mergedRows m c (ix3 b s e) = M2 m c b s e := by
  unfold mergedRows
  rw [added_apply]
  simp only [both_apply, branch_apply]
  rfl

theorem allQueries_apply (b : Fin 4) (s : Fin 4096) (n : Fin 4) (d : Fin 128) :
    allQueries m c (ix4 b s n d) = Qs m c b s ⟨128 * n.val + d.val, by omega⟩ := by
  have hn : ∀ (z : FVec Ideal S1x2048 .f32) (a : Fin 2048), shapeCast S2048 z shapeCasts_S1x2048_S2048 (ix1 a) = z (ix2 0 a) := by
    intro z a
    pointwise
    done
  have hd : (⟨n.val * 128 + d.val, by omega⟩ : Fin 512) = ⟨128 * n.val + d.val, by omega⟩ := Fin.ext (by show n.val * 128 + d.val = 128 * n.val + d.val; omega)
  unfold allQueries
  rw [queries_apply, hd]
  simp only [normed_apply, hn, mergedRows_apply]
  rfl

theorem allScores_apply (b n : Fin 4) (s : Fin 4096) (j : Fin 256) :
    allScores m c (ix4 b n s j) = scoreAt (Qs m c b s) (Kv m c b) n j := by
  have hd : ∀ d : Fin 128, (⟨n.val * 128 + d.val, by omega⟩ : Fin 1024) = ⟨128 * n.val + d.val, by omega⟩ := fun d => Fin.ext (by show n.val * 128 + d.val = 128 * n.val + d.val; omega)
  unfold allScores
  rw [scores_apply]
  simp only [allQueries_apply, keys_apply, hd]
  rfl

theorem allWeights_apply (b n : Fin 4) (s : Fin 4096) (j : Fin 256) :
    allWeights m c (ix4 b n s j) = weight (scoreAt (Qs m c b s) (Kv m c b) n) j := by
  unfold allWeights
  rw [weights_apply, tops_apply, neg_inf, max_eq_right bot_le]
  simp only [allScores_apply]
  rfl

theorem heads_at (b : Fin 4) (s : Fin 4096) (n : Fin 4) (d : Fin 128) :
    heads (F := Ideal) (vals (F := Ideal) (m ((c : Thread nD τ).loc main_arg9))) (shares (F := Ideal) (allWeights m c)) (ix3 b s ⟨128 * n.val + d.val, by omega⟩)
      = headSoft (Qs m c b s) (Kv m c b) n d := by
  have hd : (⟨512 + n.val * 128 + d.val, by omega⟩ : Fin 1024) = ⟨512 + (128 * n.val + d.val), by omega⟩ := Fin.ext (by show 512 + n.val * 128 + d.val = 512 + (128 * n.val + d.val); omega)
  rw [heads_apply]
  simp only [vals_apply, shares_apply, allWeights_apply, hd]
  rfl

/-- The result at an index. -/
theorem result_apply (b : Fin 4) (s : Fin 4096) (e : Fin 2048) :
    result m c (ix3 b s e) = finalSoft (M2 m c b s) (Qs m c b s) (Kv m c b) (Wx m c) e := by
  unfold result
  rw [closed_apply, mergedRows_apply]
  unfold finalSoft
  refine congrArg₂ (· + ·) rfl (Finset.sum_congr rfl fun k _ => congrArg₂ (· * ·) ?_ rfl)
  have hk : (ix3 b s k : S4x4096x512.Idx) = ix3 b s ⟨128 * (⟨k.val / 128, by omega⟩ : Fin 4).val + (⟨k.val % 128, Nat.mod_lt _ (by norm_num)⟩ : Fin 128).val, by show 128 * (k.val / 128) + k.val % 128 < 512; omega⟩ :=
    congrArg (ix3 b s) (Fin.ext (by show k.val = 128 * (k.val / 128) + k.val % 128; omega))
  rw [hk]
  exact heads_at m c b s _ _

end Cert.Reference6Ideal.Mix

end
-- ==== Proof.MixClaim.lean ====
/- The merge with the memory cross-attention: its frames, its reference's frame, and that the two compute the same function where the queries and the keys are finite. -/
module

public import proofs.«01_k».proof.Defs
public import proofs.«01_k».proof.Proof.Gen.Kernel6.Frame
public import proofs.«01_k».proof.Proof.GdnClaim
public import proofs.«01_k».proof.Proof.MixValue
public import proofs.«01_k».proof.Proof.MixRef
public import Idealize.ShloMosaic.Lib.Pointwise

@[expose] public section

set_option maxRecDepth 16384

noncomputable section

namespace Cert.Mix

open Idealize.ShloMosaic Idealize.ShloMosaic.TcCoe Idealize.SL.Sem

theorem facts_finite : Cert.Pre_finite6.Facts where
  bcast_S_S1x2048 := by decide
  bcast_S_S1x2048x512 := by decide
  slices_S4x256x1024_S4x256x512_0_0_0 := by decide
  bitsLt_bf16_f32 := by decide
  bcast_S_S4x256x512 := by decide

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ideal_finite : Cert.quiescent_Kernel6Ideal_pre_finite6 (hPre_finite6 := facts_finite) := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) _⟩) (Cert.Reference6Ideal.Mix.run m ρ)

theorem frame_reference_finite : Cert.quiescent_Reference6Ideal_pre_finite6 (hPre_finite6 := facts_finite) := fun m ρ _ => frame_reference m ρ trivial

/-- The precondition, read: the gains, the query matrix and the keys are real. -/
theorem finite_args (m : (ℓ : Loc Cert.Kernel6Ideal.nD Cert.Kernel6Ideal.τ Cert.Kernel6Ideal.sig) → Buf (Elt Ideal) ℓ)
    (h : Cert.Pre_Kernel6Ideal_finite6 (hPre_finite6 := facts_finite) m) (c : Dev Cert.Kernel6Ideal.nD) :
    (∀ e, Cert.MixMath.IsReal (Cert.Kernel6Ideal.Mix.Nw m c e))
    ∧ (∀ k e, Cert.MixMath.IsReal (Cert.Kernel6Ideal.Mix.Wq m c k e))
    ∧ ∀ b j (d : Fin 512), Cert.MixMath.IsReal (Cert.Kernel6Ideal.Mix.Kv m c b j ⟨d.val, by omega⟩) := by
  letI := facts_finite
  obtain ⟨e0, e1, e2⟩ := h c
  have key : ∀ x : EReal, BitVec.ofBool (decide (max x (-x) < Ideal.ofBits .f32 0x7F800000#32)) = 1#1 → Cert.MixMath.IsReal x := fun x hx => by
    have hi : Ideal.ofBits .f32 0x7F800000#32 = (⊤ : EReal) := by simp [Ideal.ofBits, Ideal.ieee]
    rw [hi] at hx
    refine ⟨x.toReal, Cert.Gdn.real_of_abs_lt ?_⟩
    by_contra hn
    rw [decide_eq_false hn] at hx
    exact absurd hx (by decide)
  refine ⟨fun e => key _ (congrFun e0 (ix2 0 e)), fun k e => key _ (congrFun e1 (ix3 0 k e)), fun b j d => ?_⟩
  have hs (z : FVec Ideal Cert.Pre_finite6.S4x256x1024 .bf16) :
      extractStridedSlice Cert.Pre_finite6.S4x256x512 ![0, 0, 0] z Cert.Pre_finite6.Facts.slices_S4x256x1024_S4x256x512_0_0_0 (ix3 b j d) = z (ix3 b j ⟨d.val, by omega⟩) := by
    pointwise
  exact key _ ((congrArg (fun x : EReal => BitVec.ofBool (decide (max x (-x) < Ideal.ofBits .f32 0x7F800000#32)))
    (hs (m ((c.tc : Thread Cert.Kernel6Ideal.nD Cert.Kernel6Ideal.τ).loc Cert.Kernel6Ideal.main_arg9)))).symm.trans (congrFun e2 (ix3 b j d)))

theorem value : Cert.algebraic_Kernel6Ideal_Reference6Ideal_pre_finite6 (hPre_finite6 := facts_finite) := by
  intro m ρ m' ρ' hpre hargs
  refine ⟨fun c => (Cert.Kernel6Ideal.Gen.dats m 0 c).arrAt 12 Cert.Kernel6Ideal.cfg0.N, Cert.Kernel6Ideal.Value.run_blocks m ρ, ?_⟩
  refine (θ_run Cert.Reference6Ideal.defs _ _).mono (fun r h c => ⟨(h c).1.trans ?_, (h c).2⟩) (Cert.Reference6Ideal.Mix.run m' ρ')
  obtain ⟨a0, a1, a2, a3, a4, a5, a6, a7, a8, a9, a10⟩ := hargs c
  obtain ⟨h7, h8, h9⟩ := finite_args m hpre c
  have eH : Cert.Reference6Ideal.Mix.Hs m' c = Cert.Kernel6Ideal.Mix.Hs m c := by
    funext b s e; exact congrFun a0 (ix3 b s e)
  have eYa : Cert.Reference6Ideal.Mix.Ya m' c = Cert.Kernel6Ideal.Mix.Ya m c := by
    funext b s e; exact congrFun a1 (ix3 b s e)
  have eYd : Cert.Reference6Ideal.Mix.Yd m' c = Cert.Kernel6Ideal.Mix.Yd m c := by
    funext b s e; exact congrFun a2 (ix3 b s e)
  have eGa : Cert.Reference6Ideal.Mix.Ga m' c = Cert.Kernel6Ideal.Mix.Ga m c := by
    funext b s e; exact congrFun a3 (ix3 b s ⟨e.val, by omega⟩)
  have eGb : Cert.Reference6Ideal.Mix.Gb m' c = Cert.Kernel6Ideal.Mix.Gb m c := by
    funext b s e; exact congrFun a3 (ix3 b s ⟨2048 + e.val, by omega⟩)
  have eWa : Cert.Reference6Ideal.Mix.Wa m' c = Cert.Kernel6Ideal.Mix.Wa m c := by
    funext k e; exact congrFun a4 (ix3 0 k e)
  have eWb : Cert.Reference6Ideal.Mix.Wb m' c = Cert.Kernel6Ideal.Mix.Wb m c := by
    funext k e; exact congrFun a5 (ix3 0 k e)
  have eWo : Cert.Reference6Ideal.Mix.Wo m' c = Cert.Kernel6Ideal.Mix.Wo m c := by
    funext k e; exact congrFun a6 (ix3 0 k e)
  have eNw : Cert.Reference6Ideal.Mix.Nw m' c = Cert.Kernel6Ideal.Mix.Nw m c := by
    funext e; exact congrFun a7 (ix2 0 e)
  have eWq : Cert.Reference6Ideal.Mix.Wq m' c = Cert.Kernel6Ideal.Mix.Wq m c := by
    funext k e; exact congrFun a8 (ix3 0 k e)
  have eKv : Cert.Reference6Ideal.Mix.Kv m' c = Cert.Kernel6Ideal.Mix.Kv m c := by
    funext b j e; exact congrFun a9 (ix3 b j e)
  have eWx : Cert.Reference6Ideal.Mix.Wx m' c = Cert.Kernel6Ideal.Mix.Wx m c := by
    funext k e; exact congrFun a10 (ix3 0 k e)
  have eM (b : Fin 4) (s : Fin 4096) : Cert.Reference6Ideal.Mix.M2 m' c b s = Cert.Kernel6Ideal.Mix.M2 m c b s := by
    unfold Cert.Reference6Ideal.Mix.M2 Cert.Kernel6Ideal.Mix.M2
    rw [eH, eYa, eYd, eGa, eGb, eWa, eWb, eWo]
  have eQ (b : Fin 4) (s : Fin 4096) : Cert.Reference6Ideal.Mix.Qs m' c b s = Cert.Kernel6Ideal.Mix.Qs m c b s := by
    unfold Cert.Reference6Ideal.Mix.Qs Cert.Kernel6Ideal.Mix.Qs
    rw [eM, eNw, eWq]
  have hq (b : Fin 4) (s : Fin 4096) (d : Fin 512) : Cert.MixMath.IsReal (Cert.Kernel6Ideal.Mix.Qs m c b s d) :=
    Cert.MixMath.query_real _ _ _ h7 h8 d
  funext y
  have hy : ∃ (b : Fin 4) (s : Fin 4096) (e : Fin 2048), y = (ix3 b s e : Cert.Kernel6Ideal.S4x4096x2048.Idx) := by
    refine ⟨y 0, y 1, y 2, ?_⟩
    funext a
    match a with
    | ⟨0, _⟩ => rfl
    | ⟨1, _⟩ => rfl
    | ⟨2, _⟩ => rfl
  obtain ⟨b, s, e, rfl⟩ := hy
  refine (Cert.Reference6Ideal.Mix.result_apply m' c b s e).trans ?_
  rw [eM, eQ, eKv, eWx]
  exact ((Cert.Kernel6Ideal.Mix.result_apply m c b s e).trans (Cert.MixMath.final_eq _ _ _ _ (hq b s) (h9 b) e)).symm

end Cert.Mix

end
-- ==== Proof.KvValue.lean ====
/- The memory's projection to keys and values: what a grid point stores, and its result over the extended reals. -/
module

public import proofs.«01_k».proof.Proof.FfnMath
public import proofs.«01_k».proof.Proof.Whole
public import proofs.«01_k».proof.Proof.Gen.Kernel7Ideal.Value
public import Idealize.ShloMosaic.Lib.StableHlo.ReadAt
public import Idealize.ShloMosaic.Lib.Pointwise

@[expose] public section

set_option maxRecDepth 16384

noncomputable section

namespace Cert.Kernel7Ideal.Kv

open Idealize.ShloMosaic Idealize.ShloMosaic.TcCoe Idealize.SL.Sem Cert.Kernel7Ideal Cert.Kernel7Ideal.Gen Cert.Whole Cert.FfnMath

section Stored

variable {F : FTy → Type} [FloatOps F]

/-- The products a point stores. -/
theorem out0_A_3_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x2048 .bf16) (harg6 : arg6.IsWhole) (hc0 : cond0_0 i)
    (x0 : Vec F S512x2048 .f32) (x1 : Vec F S1x2048 .f32) (x2 : Vec F S2048x1024 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  refine (View.canon_cons_unit_zero zero2 _ _ _).trans ?_
  unfold kernelRun0_A.sl.v3 kernelRun0_A.sl.HS0_1
  simp only [rd]
  repeat rw [ld2]
  try rw [cov2]
  first | done | rfl

end Stored

/-! ## The stored values at an index -/

theorem rows_apply (x : Vec Ideal S512x2048 .f32) (w : Vec Ideal S1x2048 .f32) (i : Fin 512) (e : Fin 2048) :
    k0_pay1 x w (ix2 i e) = norm (fun a => x (ix2 i a)) (fun a => w (ix2 0 a)) e := by
  unfold k0_pay1
  pointwise
  rfl

theorem product_apply (u : Vec Ideal S512x2048 .bf16) (w : Vec Ideal S2048x1024 .bf16) (i : Fin 512) (e : Fin 1024) :
    k0_pay2 u w (ix2 i e) = ∑ k : Fin 2048, u (ix2 i k) * w (ix2 k e) := by
  unfold k0_pay2
  pointwise
  done

/-! ## The staged arrays and their blocks -/

section Arrays

variable (m : (ℓ : Loc nD τ sig) → Buf (Elt Ideal) ℓ) (c : Dev nD)

/-- A row of the memory. -/
def X (r : Fin 1024) (e : Fin 2048) : EReal := m ((c : Thread nD τ).loc main_arg0) (ix3 ⟨r.val / 256, by omega⟩ ⟨r.val % 256, Nat.mod_lt _ (by norm_num)⟩ e)
/-- The normalisation's weights. -/
def Nw (e : Fin 2048) : EReal := m ((c : Thread nD τ).loc main_arg1) (ix2 0 e)
/-- The matrix. -/
def Kw (k : Fin 2048) (f : Fin 1024) : EReal := m ((c : Thread nD τ).loc main_arg2) (ix3 0 k f)

theorem V_main_v0 (r : Fin 1024) (e : Fin 2048) : (V m c main_v0 : S1024x2048.Idx → EReal) (ix2 r e) = X m c r e := by
  unfold V
  after_reads_at
  rfl

theorem V_main_v2 (r : Fin 1) (e : Fin 2048) : (V m c main_v2 : S1x2048.Idx → EReal) (ix2 r e) = Nw m c e := by
  unfold V
  after_reads_at
  rfl

theorem V_main_v4 (r : Fin 2048) (e : Fin 1024) : (V m c main_v4 : S2048x1024.Idx → EReal) (ix2 r e) = Kw m c r e := by
  unfold V
  after_reads_at
  rfl

theorem rowlt (t : Fin cfg0.N) (i : Fin 512) : 512 * t.val + i.val < 1024 := by
  have h := lt_of_lt_of_eq t.isLt N_0
  omega

theorem index0 : ∀ t : Fin cfg0.N, win0_0.index t = ![t.val, 0] := (by decide +kernel : ∀ t : Fin grid0.N, _)

theorem blk0 (t : Fin cfg0.N) (i : Fin 512) (j : Fin 2048) : (iblk m c 0 t : Vec Ideal S512x2048 .f32) (ix2 i j) = X m c ⟨512 * t.val + i.val, rowlt t i⟩ j := by
  have hi := index0 t
  refine Eq.trans ?_ (V_main_v0 m c ⟨512 * t.val + i.val, rowlt t i⟩ j)
  unfold iblk
  rw [View.read_apply]
  show V m c main_v0 _ = V m c main_v0 _
  congr 1
  funext a
  apply Fin.ext
  match a with
  | ⟨0, _⟩ => show win0_0.index t 0 * 512 + 1 * i.val = 512 * t.val + i.val; rw [hi]; show t.val * 512 + 1 * i.val = _; omega
  | ⟨1, _⟩ => show win0_0.index t 1 * 2048 + 1 * j.val = j.val; rw [hi]; show 0 * 2048 + 1 * j.val = _; omega

theorem index1 : ∀ t : Fin cfg0.N, win0_1.index t = ![0, 0] := (by decide +kernel : ∀ t : Fin grid0.N, _)

theorem blk1 (t : Fin cfg0.N) (i : Fin 1) (j : Fin 2048) : (iblk m c 1 t : Vec Ideal S1x2048 .f32) (ix2 i j) = Nw m c j := by
  have hi := index1 t
  refine Eq.trans ?_ (V_main_v2 m c i j)
  unfold iblk
  rw [View.read_apply]
  show V m c main_v2 _ = V m c main_v2 _
  congr 1
  funext a
  apply Fin.ext
  match a with
  | ⟨0, _⟩ => show win0_1.index t 0 * 1 + 1 * i.val = i.val; rw [hi]; show 0 * 1 + 1 * i.val = _; omega
  | ⟨1, _⟩ => show win0_1.index t 1 * 2048 + 1 * j.val = j.val; rw [hi]; show 0 * 2048 + 1 * j.val = _; omega

theorem index2 : ∀ t : Fin cfg0.N, win0_2.index t = ![0, 0] := (by decide +kernel : ∀ t : Fin grid0.N, _)

theorem blk2 (t : Fin cfg0.N) (i : Fin 2048) (j : Fin 1024) : (iblk m c 2 t : Vec Ideal S2048x1024 .bf16) (ix2 i j) = Kw m c i j := by
  have hi := index2 t
  refine Eq.trans ?_ (V_main_v4 m c i j)
  unfold iblk
  rw [View.read_apply]
  show V m c main_v4 _ = V m c main_v4 _
  congr 1
  funext a
  apply Fin.ext
  match a with
  | ⟨0, _⟩ => show win0_2.index t 0 * 2048 + 1 * i.val = i.val; rw [hi]; show 0 * 2048 + 1 * i.val = _; omega
  | ⟨1, _⟩ => show win0_2.index t 1 * 1024 + 1 * j.val = j.val; rw [hi]; show 0 * 1024 + 1 * j.val = _; omega

/-! ## The result -/

/-- The result at a row and a column. -/
def kv (r : Fin 1024) (e : Fin 1024) : EReal := ∑ k : Fin 2048, norm (X m c r) (Nw m c) k * Kw m c k e

/-- What a point stores. -/
theorem stored (t : Fin cfg0.N) (i : Fin 512) (e : Fin 1024) :
    (outsAt0 m c t : Vec Ideal S512x1024 .bf16) (ix2 i e) = kv m c ⟨512 * t.val + i.val, rowlt t i⟩ e := by
  unfold outsAt0
  rw [out0_A_3_eq, product_apply]
  unfold kv
  refine Finset.sum_congr rfl fun k _ => congrArg₂ (· * ·) ?_ (blk2 m c t k e)
  rw [rows_apply]
  congr 1
  · funext a; exact blk0 m c t i a
  · funext a; exact blk1 m c t 0 a

/-- The result. -/
def G3 : Buf (Elt Ideal) ((c : Thread nD τ).loc main_v5) := fun i : S1024x1024.Idx => kv m c (i 0) (i 1)

theorem index3 : ∀ t : Fin cfg0.N, win0_3.index t = ![t.val, 0] := (by decide +kernel : ∀ t : Fin grid0.N, _)

theorem back3 (t : Fin cfg0.N) : (dats m 0 c).flushed 3 t = ((cfg0.win 3).blk t).view.read (Elt Ideal) (G3 m c) := by
  have hi := index3 t
  rw [Value.flushed3]
  funext y
  have hl : (cfg0.win 3).xinj (grid0.coords t) y = (ix2 (y 0 : Fin 512) (y 1 : Fin 1024) : S512x1024.Idx) := by
    funext a
    match a with
    | ⟨0, _⟩ => rfl
    | ⟨1, _⟩ => rfl
  show (outsAt0 m c t : Vec Ideal S512x1024 .bf16) ((cfg0.win 3).xinj (grid0.coords t) y) = G3 m c (((cfg0.win 3).blk t).view.emb y)
  refine (congrArg (outsAt0 m c t : Vec Ideal S512x1024 .bf16) hl).trans ((stored m c t (y 0) (y 1)).trans ?_)
  refine congrArg₂ (kv m c) (Fin.ext ?_) (Fin.ext ?_)
  · show 512 * t.val + (y 0).val = win0_3.index t 0 * 512 + 1 * (y 0).val
    rw [hi]
    show _ = t.val * 512 + 1 * (y 0).val
    omega
  · show (y 1).val = win0_3.index t 1 * 1024 + 1 * (y 1).val
    rw [hi]
    show _ = 0 * 1024 + 1 * (y 1).val
    omega

theorem inblk3 (t : Fin cfg0.N) (i : S1024x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5).slice (win0_3.rect t)).set ↔ _
  rw [View.set_slice_whole, Rect.mem_set_unit]
  exact Iff.rfl

theorem array3 : (dats m 0 c).arrAt 3 cfg0.N = G3 m c :=
  (dats m 0 c).arrAt_eq_of_cover 3 _ (fun t _ => back3 m c t) (fun i => by
    have h0 : (i 0).val < 1024 := (i 0).isLt
    have h1 : (i 1).val < 1024 := (i 1).isLt
    have hN : (i 0).val / 512 < cfg0.N := lt_of_lt_of_eq (by omega) N_0.symm
    refine ⟨⟨_, hN⟩, flush0_3 _, ?_⟩
    rw [inblk3, index3]
    intro a
    match a with
    | ⟨0, _⟩ =>
      show (i 0).val / 512 * 512 ≤ (i 0).val ∧ (i 0).val < (i 0).val / 512 * 512 + 512
      omega
    | ⟨1, _⟩ =>
      show 0 * 1024 ≤ (i 1).val ∧ (i 1).val < 0 * 1024 + 1024
      omega)

end Arrays

/-- The run: the result at its closed form, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array3 m c), (h c).2⟩) (Value.run_blocks m ρ)

end Cert.Kernel7Ideal.Kv

end
-- ==== Proof.KvRef.lean ====
/- The reference of the memory's projection, read at an index. -/
module

public import proofs.«01_k».proof.Proof.FfnMath
public import proofs.«01_k».proof.Proof.Gen.Reference7Ideal.Run
public import Idealize.ShloMosaic.Lib.Pointwise

@[expose] public section

set_option maxRecDepth 16384

noncomputable section

namespace Cert.Reference7Ideal.Kv

open Idealize.ShloMosaic Idealize.ShloMosaic.TcCoe Idealize.SL.Sem Cert.Reference7Ideal Cert.Reference7Ideal.Gen Cert.FfnMath

section Terms

variable {F : FTy → Type} [FloatOps F]

/-- The rows normalised. -/
def normed (x : FVec F S4x256x2048 .f32) (w : FVec F S2048 .f32) : FVec F S4x256x2048 .f32 :=
  mulf (mulf x (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf x x) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32))))))
    (broadcastInDim S4x256x2048 ![0, 1, 2] bcast_S1x1x2048_S4x256x2048_0_1_2 (broadcastInDim S1x1x2048 ![2] bcast_S2048_S1x1x2048_2 w))

/-- The products of the normalised rows with the matrix. -/
def products (u : FVec F S4x256x2048 .f32) (a : FVec F S1x2048x1024 .f32) : FVec F S1024x1024 .bf16 :=
  truncf .bf16 (shapeCast S1024x1024 (Host.dotGeneral dot_S4x256x2048_S2048x1024_S4x256x1024_2_0_01_1_n_n none u (shapeCast S2048x1024 a shapeCasts_S1x2048x1024_S2048x1024)) shapeCasts_S4x256x1024_S1024x1024) bitsLt_bf16_f32

end Terms

theorem normed_apply (x : FVec Ideal S4x256x2048 .f32) (b : Fin 4) (t : Fin 256) (w : FVec Ideal S2048 .f32) (e : Fin 2048) :
    normed x w (ix3 b t e) = norm (fun a => x (ix3 b t a)) (fun a => w (ix1 a)) e := by
  unfold normed
  pointwise
  rfl

theorem products_apply (u : FVec Ideal S4x256x2048 .f32) (a : FVec Ideal S1x2048x1024 .f32) (r : Fin 1024) (e : Fin 1024) :
    products u a (ix2 r e) = ∑ k : Fin 2048, u (ix3 ⟨r.val / 256, by omega⟩ ⟨r.val % 256, Nat.mod_lt _ (by norm_num)⟩ k) * a (ix3 0 k e) := by
  unfold products
  pointwise
  done

variable (m : (ℓ : Loc nD τ sig) → Buf (Elt Ideal) ℓ) (c : Dev nD)

/-- The result, of the arguments. -/
def result : FVec Ideal S1024x1024 .bf16 :=
  products (F := Ideal) (normed (F := Ideal) (m ((c : Thread nD τ).loc main_arg0)) (shapeCast S2048 (m ((c : Thread nD τ).loc main_arg1)) shapeCasts_S1x2048_S2048)) (m ((c : Thread nD τ).loc main_arg2))

theorem run (ρ : Dev nD → PrngReg) :
    θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-- The result at an index. -/
theorem result_apply (r : Fin 1024) (e : Fin 1024) :
    result m c (ix2 r e) = ∑ k : Fin 2048, norm (fun a => m ((c : Thread nD τ).loc main_arg0) (ix3 ⟨r.val / 256, by omega⟩ ⟨r.val % 256, Nat.mod_lt _ (by norm_num)⟩ a)) (fun a => m ((c : Thread nD τ).loc main_arg1) (ix2 0 a)) k
      * m ((c : Thread nD τ).loc main_arg2) (ix3 0 k e) := by
  have hn : ∀ (z : FVec Ideal S1x2048 .f32) (a : Fin 2048), shapeCast S2048 z shapeCasts_S1x2048_S2048 (ix1 a) = z (ix2 0 a) := by
    intro z a
    pointwise
    done
  unfold result
  rw [products_apply]
  simp only [normed_apply, hn]

end Cert.Reference7Ideal.Kv

end
-- ==== Proof.KvClaim.lean ====
/- The memory's projection to keys and values: its frames, its reference's frame, and that the two compute the same function. -/
module

public import proofs.«01_k».proof.Defs
public import proofs.«01_k».proof.Proof.Gen.Kernel7.Frame
public import proofs.«01_k».proof.Proof.KvValue
public import proofs.«01_k».proof.Proof.KvRef

@[expose] public section

noncomputable section

namespace Cert.MemKv

open Idealize.ShloMosaic Idealize.ShloMosaic.TcCoe Idealize.SL.Sem

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) _⟩) (Cert.Reference7Ideal.Kv.run m ρ)

theorem value : Cert.algebraic_Kernel7Ideal_Reference7Ideal := by
  intro m ρ m' ρ' hpre hargs
  refine ⟨fun c => Cert.Kernel7Ideal.Kv.G3 m c, Cert.Kernel7Ideal.Kv.run m ρ, ?_⟩
  refine (θ_run Cert.Reference7Ideal.defs _ _).mono (fun r h c => ⟨(h c).1.trans ?_, (h c).2⟩) (Cert.Reference7Ideal.Kv.run m' ρ')
  obtain ⟨a0, a1, a2⟩ := hargs c
  funext y
  have hy : ∃ (r : Fin 1024) (e : Fin 1024), y = (ix2 r e : Cert.Kernel7Ideal.S1024x1024.Idx) := by
    refine ⟨y 0, y 1, ?_⟩
    funext a
    match a with
    | ⟨0, _⟩ => rfl
    | ⟨1, _⟩ => rfl
  obtain ⟨r, e, rfl⟩ := hy
  refine (Cert.Reference7Ideal.Kv.result_apply m' c r e).trans ?_
  rw [a0, a1, a2]
  rfl

end Cert.MemKv

end
-- ==== Proof.PrePieces.lean ====
/- What one grid point of the short convolution's call stores: sixteen normalised columns, the value columns, and the gates' block. -/
module

public import proofs.«01_k».proof.Proof.Gen.Kernel8Ideal.Frame
public import Idealize.ShloMosaic.Lib.Pipeline.ReadBack
public import Idealize.ShloMosaic.Lib.ValueIdx

@[expose] public section

set_option maxRecDepth 65536

noncomputable section

namespace Cert.Kernel8Ideal.Pre

open Idealize.ShloMosaic Idealize.SL.Sem Cert.Kernel8Ideal Cert.Kernel8Ideal.Gen Idealize.ShloMosaic.ValueIdx

variable {F : FTy → Type} [FloatOps F]

theorem inbQ (h : Fin 8) : ∀ a, (![0, 0, 128 * h.val] : Fin 3 → ℕ) a + S1x256x128.size a ≤ S1x256x3072.size a := by
  revert h; decide

theorem inbK (h : Fin 8) : ∀ a, (![0, 0, 1024 + 128 * h.val] : Fin 3 → ℕ) a + S1x256x128.size a ≤ S1x256x3072.size a := by
  revert h; decide

/-- The columns of query head `h`. -/
abbrev rQ (h : Fin 8) : Rect S1x256x3072 := Rect.unit (s := S1x256x3072) ![0, 0, 128 * h.val] S1x256x128.size (inbQ h)

/-- The columns of key head `h`. -/
abbrev rK (h : Fin 8) : Rect S1x256x3072 := Rect.unit (s := S1x256x3072) ![0, 0, 1024 + 128 * h.val] S1x256x128.size (inbK h)

/-- The columns of the values. -/
abbrev rV : Rect S1x256x3072 := Rect.unit (s := S1x256x3072) ![0, 0, 2048] S1x256x1024.size inb_S1x256x3072_S1x256x1024_0_0_2048

/-- A head's columns times the inverse square root of their sum of squares. -/
def unitRow (t : FVec F S256x128 .f32) : FVec F S256x128 .f32 :=
  mulf t (broadcastTo S256x128 (rsqrt (addf (shapeCast S256x1 (multiReduction .add [1] S256 (mulf t t) 0x00000000#32 reduces_S256x128_S256 (.inl rfl) rfl : FVec F S256 .f32) shapeCasts_S256_S256x1 : FVec F S256x1 .f32)
    (broadcast S256x1 (Scalar.ofBits .f32 0x358637BD#32 : F .f32)))) broadcasts_S256x1_S256x128)

/-- The stored query columns of head `h`. -/
def qHead (y : FVec F S256x3072 .f32) (h : Fin 8) : FVec F S1x256x128 .bf16 :=
  shapeCast S1x256x128 (truncf .bf16 (mulf (unitRow (extractStridedSlice S256x128 ![0, 128 * h.val] y (by revert h; decide)))
    (broadcast S256x128 (Scalar.ofBits .f32 0x3DB504F3#32 : F .f32))) bitsLt_bf16_f32 : FVec F S256x128 .bf16) shapeCasts_S256x128_S1x256x128

/-- The stored key columns of head `h`. -/
def kHead (y : FVec F S256x3072 .f32) (h : Fin 8) : FVec F S1x256x128 .bf16 :=
  shapeCast S1x256x128 (truncf .bf16 (unitRow (extractStridedSlice S256x128 ![0, 1024 + 128 * h.val] y (by revert h; decide))) bitsLt_bf16_f32 : FVec F S256x128 .bf16)
    shapeCasts_S256x128_S1x256x128

/-- The heads, last stored first. -/
def order : List (Fin 8) := [7, 6, 5, 4, 3, 2, 1, 0]

/-- The pieces of the first result's block. -/
def pieces (y : FVec F S256x3072 .f32) : List (View.Piece (Elt F) S1x256x3072 .bf16) :=
  ⟨rV, k0_pay32 y⟩ :: (order.map (fun h => ⟨rK h, kHead y h⟩) ++ order.map (fun h => ⟨rQ h, qHead y h⟩))

/-- The convolution's rows after the SiLU, of the point's blocks and the weights' four rows. -/
def conv (i : grid0.Coords) (x : Vec F S1x256x3072 .bf16) (hl : Vec F S1x8x3072 .bf16) (w3 w2 w1 w0 : Vec F S1x3072 .f32) : FVec F S256x3072 .f32 :=
  k0_pay6 (k0_pay2 x) (k0_pay3 i hl) (iota .tc S8x3072 32 [0] iota_S8x3072_d0_w32) (iota .tc S256x256 32 [0] iota_S256x256_d0_w32) (iota .tc S256x256 32 [1] iota_S256x256_d1_w32)
    (k0_pay4 i x hl w3 w2) k0_pay5 w1 w0

abbrev rX : Rect S1x256x3072 := Rect.unit (s := S1x256x3072) ![0, 0, 0] S1x256x3072.size inb_S1x256x3072_S1x256x3072_0_0_0
abbrev rH : Rect S1x8x3072 := Rect.unit (s := S1x8x3072) ![0, 0, 0] S1x8x3072.size inb_S1x8x3072_S1x8x3072_0_0_0
abbrev rB : Rect S1x256x128 := Rect.unit (s := S1x256x128) ![0, 0, 0] S1x256x128.size inb_S1x256x128_S1x256x128_0_0_0

/-- The convolution's rows, of the point's whole blocks. -/
def rows (i : grid0.Coords) (x : Vec F S1x256x3072 .bf16) (hl : Vec F S1x8x3072 .bf16) (w : Vec F S4x3072 .f32) : FVec F S256x3072 .f32 :=
  conv i (View.ld (Val := Elt F) x rX) (View.ld (Val := Elt F) hl rH)
    (View.ld (Val := Elt F) w (Rect.unit (s := S4x3072) ![3, 0] S1x3072.size inb_S4x3072_S1x3072_3_0))
    (View.ld (Val := Elt F) w (Rect.unit (s := S4x3072) ![2, 0] S1x3072.size inb_S4x3072_S1x3072_2_0))
    (View.ld (Val := Elt F) w (Rect.unit (s := S4x3072) ![1, 0] S1x3072.size inb_S4x3072_S1x3072_1_0))
    (View.ld (Val := Elt F) w (Rect.unit (s := S4x3072) ![0, 0] S1x3072.size inb_S4x3072_S1x3072_0_0))

/-- The gates' block, of the beta and decay columns and the two parameter rows. -/
def gates (ba : Vec F S1x256x128 .f32) (a0 a1 : Vec F S1x128 .f32) : FVec F S1x256x128 .f32 :=
  k0_pay1 (iota .tc S256x128 32 [1] iota_S256x128_d1_w32) (k0_pay34 ba) (k0_pay35 ba a1) (k0_pay36 a0)

/-- The gates' block, of the point's whole blocks. -/
def gateBlock (ba : Vec F S1x256x128 .f32) (ap : Vec F S2x128 .f32) : FVec F S1x256x128 .f32 :=
  gates (View.ld (Val := Elt F) ba rB) (View.ld (Val := Elt F) ap (Rect.unit (s := S2x128) ![0, 0] S1x128.size inb_S2x128_S1x128_0_0))
    (View.ld (Val := Elt F) ap (Rect.unit (s := S2x128) ![1, 0] S1x128.size inb_S2x128_S1x128_1_0))

section Lists

variable (c : Dev nD) (i : grid0.Coords) (arg2 : Memref sig .tc .vmem S1x256x3072 .bf16) (harg2 : arg2.IsWhole) (arg3 : Memref sig .tc .vmem S1x8x3072 .bf16) (harg3 : arg3.IsWhole) (arg4 : Memref sig .tc .vmem S1x256x128 .f32) (harg4 : arg4.IsWhole) (arg5 : Memref sig .tc .vmem S4x3072 .f32) (harg5 : arg5.IsWhole) (arg6 : Memref sig .tc .vmem S2x128 .f32) (harg6 : arg6.IsWhole) (arg7 : Memref sig .tc .vmem S1x256x3072 .bf16) (harg7 : arg7.IsWhole) (arg8 : Memref sig .tc .vmem S1x256x128 .f32) (harg8 : arg8.IsWhole)
    (x0 : Vec F S1x256x3072 .bf16) (x1 : Vec F S1x8x3072 .bf16) (x2 : Vec F S1x256x128 .f32) (x3 : Vec F S4x3072 .f32) (x4 : Vec F S2x128 .f32)

theorem list5 :
    (kernelRun0_A c i arg2 harg2 arg3 harg3 arg4 harg4 arg5 harg5 arg6 harg6 arg7 harg7 arg8 harg8 x0 x1 x2 x3 x4).1
      = pieces (rows i (arg2.view.read (Elt F) (harg2.unread x0)) (arg3.view.read (Elt F) (harg3.unread x1)) (arg5.view.read (Elt F) (harg5.unread x3))) := rfl

theorem list6 :
    (kernelRun0_A c i arg2 harg2 arg3 harg3 arg4 harg4 arg5 harg5 arg6 harg6 arg7 harg7 arg8 harg8 x0 x1 x2 x3 x4).2.1
      = [⟨rB, gateBlock (arg4.view.read (Elt F) (harg4.unread x2)) (arg6.view.read (Elt F) (harg6.unread x4))⟩] := rfl

theorem out5 (G : Vec F S1x256x3072 .bf16) (hG : ∀ p ∈ pieces (rows i x0 x1 x3), ∀ x, p.2 x = G (p.1.emb x)) :
    out0_A_5 c i arg2 harg2 arg3 harg3 arg4 harg4 arg5 harg5 arg6 harg6 arg7 harg7 arg8 harg8 x0 x1 x2 x3 x4 = G := by
  have hc := cover0_A_5 (F := F) c i arg2 harg2 arg3 harg3 arg4 harg4 arg5 harg5 arg6 harg6 arg7 harg7 arg8 harg8 x0 x1 x2 x3 x4
  unfold out0_A_5
  rw [View.read_writes_eq_canon _ _ _ hc]
  rw [list5] at hc ⊢
  simp only [harg2.read_unread, harg3.read_unread, harg5.read_unread] at hc ⊢
  funext y
  exact View.canon_apply_of_pieces G _ hG y (hc y)

theorem out6 :
    out0_A_6 c i arg2 harg2 arg3 harg3 arg4 harg4 arg5 harg5 arg6 harg6 arg7 harg7 arg8 harg8 x0 x1 x2 x3 x4 = gateBlock x2 x4 := by
  have hc := cover0_A_6 (F := F) c i arg2 harg2 arg3 harg3 arg4 harg4 arg5 harg5 arg6 harg6 arg7 harg7 arg8 harg8 x0 x1 x2 x3 x4
  unfold out0_A_6
  rw [View.read_writes_eq_canon _ _ _ hc, list6]
  simp only [harg4.read_unread, harg6.read_unread]
  exact View.canon_unit_zero (by funext a; fin_cases a <;> rfl) _ _

end Lists

end Cert.Kernel8Ideal.Pre

end
-- ==== Proof.PreMath.lean ====
/- The functions of the short convolution's part: the normalised row, the SiLU, the gates. -/
module

public import Idealize.ShloMosaic.Lib.Pointwise
public import Idealize.ShloMosaic.Lib.IdealHost

@[expose] public section

noncomputable section

namespace Cert.PreMath

open Idealize.ShloMosaic

/-- An entry times the inverse square root of its row's sum of squares. -/
def unitAt (f : Fin 128 → EReal) (d : Fin 128) : EReal := f d * Ideal.rsqrt ((∑ a, f a * f a) + Ideal.ofBits .f32 0x358637BD#32)

/-- The queries' scale. -/
def scale : EReal := Ideal.ofBits .f32 0x3DB504F3#32

def silu (z : EReal) : EReal := z * Ideal.logistic z

/-- The softplus. -/
def softplus (t : EReal) : EReal := max t 0 + Ideal.log1p (Ideal.exp (-FloatOps.absf (F := Ideal) (φ := .f32) t))

/-- A gate: beta on the first eight lanes, the log decay on the next eight, zero after. -/
def gateAt (b a0 a1 : EReal) (d : ℕ) : EReal :=
  if d < 8 then Ideal.logistic b else if d < 16 then -Ideal.exp a0 * softplus (b + a1) else 0

/-- The columns of one token: queries normalised and scaled, keys normalised, values. -/
def tokenAt (y : Fin 3072 → EReal) (e : Fin 3072) : EReal :=
  if e.val < 1024 then unitAt (fun a => y ⟨128 * (e.val / 128) + a.val, by omega⟩) ⟨e.val % 128, Nat.mod_lt _ (by norm_num)⟩ * scale
  else if e.val < 2048 then unitAt (fun a => y ⟨128 * (e.val / 128) + a.val, by omega⟩) ⟨e.val % 128, Nat.mod_lt _ (by norm_num)⟩
  else y e

/-- An entry `k` rows above a token, zero above the first row. -/
def above (x : Fin 4 → Fin 4096 → Fin 3072 → EReal) (k : ℕ) (b : Fin 4) (s : Fin 4096) (e : Fin 3072) : EReal :=
  if s.val < k then 0 else x b ⟨s.val - k, by omega⟩ e

/-- The convolution's sum at a token. -/
def convAt (x : Fin 4 → Fin 4096 → Fin 3072 → EReal) (w : Fin 4 → Fin 3072 → EReal) (b : Fin 4) (s : Fin 4096) (e : Fin 3072) : EReal :=
  x b s e * w 3 e + above x 1 b s e * w 2 e + above x 2 b s e * w 1 e + above x 3 b s e * w 0 e

/-- A parameter per head on the lanes of the log decays. -/
def laneAt (a : Fin 8 → EReal) (d : ℕ) : EReal := if h : 8 ≤ d ∧ d < 16 then a ⟨d - 8, by omega⟩ else 0

end Cert.PreMath

end
-- ==== Proof.PreConv.lean ====
/- The short convolution's stored values at a row and a column. -/
module

public import proofs.«01_k».proof.Proof.PrePieces
public import proofs.«01_k».proof.Proof.PreMath
public import Idealize.ShloMosaic.Lib.Pointwise
public import Idealize.ShloMosaic.Lib.IdealHost

@[expose] public section

set_option maxRecDepth 65536

noncomputable section

namespace Cert.Kernel8Ideal.Pre

open Idealize.ShloMosaic Idealize.SL.Sem Cert.Kernel8Ideal Cert.Kernel8Ideal.Gen Cert.PreMath

/-! ## A shift by rows -/

/-- The entry of the matrix that shifts by `k` rows. -/
theorem entry (r x k : ℕ) (hr : r < 256) (hx : x < 256) (hk : k < 256) :
    (FloatOps.sitofp (F := Ideal) .f32 (BitVec.setWidth 32 (IntOp.cmpi .eq (IntOp.subi (BitVec.ofNat 32 r) (BitVec.ofNat 32 x)) (BitVec.ofNat 32 k))) : EReal)
      = if r = x + k then 1 else 0 := by
  have hb : IntOp.subi (BitVec.ofNat 32 r) (BitVec.ofNat 32 x) = BitVec.ofNat 32 k ↔ r = x + k := by
    show BitVec.ofNat 32 r - BitVec.ofNat 32 x = BitVec.ofNat 32 k ↔ r = x + k
    rw [← BitVec.toNat_inj, BitVec.toNat_sub, BitVec.toNat_ofNat, BitVec.toNat_ofNat, BitVec.toNat_ofNat]
    omega
  have hv : (IntOp.cmpi .eq (IntOp.subi (BitVec.ofNat 32 r) (BitVec.ofNat 32 x)) (BitVec.ofNat 32 k) : BitVec 1) = if r = x + k then 1#1 else 0#1 := by
    by_cases h : r = x + k
    · rw [if_pos h, hb.2 h]
      simp [IntOp.cmpi]
    · rw [if_neg h]
      have h' : (IntOp.subi (BitVec.ofNat 32 r) (BitVec.ofNat 32 x) == BitVec.ofNat 32 k) = false := beq_eq_false_iff_ne.2 fun e => h (hb.1 e)
      show BitVec.ofBool (IntOp.subi (BitVec.ofNat 32 r) (BitVec.ofNat 32 x) == BitVec.ofNat 32 k) = 0#1
      rw [h']
      rfl
  rw [hv]
  by_cases h : r = x + k
  · rw [if_pos h, if_pos h]
    show ((((1#1 : BitVec 1).setWidth 32).toInt : ℝ) : EReal) = 1
    simp
  · rw [if_neg h, if_neg h]
    show ((((0#1 : BitVec 1).setWidth 32).toInt : ℝ) : EReal) = 0
    simp

/-- The product with the matrix that shifts by `k` rows, at a row that has one `k` rows above it. -/
theorem shifted (v : Fin 256 → EReal) (A : Fin 256 → EReal) (r k : ℕ) (hr : r < 256) (hk : k ≤ r)
    (hA : ∀ x : Fin 256, A x = if r = x.val + k then 1 else 0) : (∑ x : Fin 256, A x * v x) = v ⟨r - k, by omega⟩ := by
  rw [Finset.sum_eq_single (⟨r - k, by omega⟩ : Fin 256)]
  · rw [hA, if_pos (by show r = r - k + k; omega), one_mul]
  · intro b _ hb
    rw [hA, if_neg (fun e => hb (Fin.ext (by show b.val = r - k; omega))), zero_mul]
  · intro h
    exact absurd (Finset.mem_univ _) h

/-- A row `k` rows above row `r` of the block: the block's own, or one of the rows before it. -/
def tap (H : Fin 8 → EReal) (X : Fin 256 → EReal) (k : ℕ) (r : Fin 256) : EReal :=
  if r.val < k then H ⟨(r.val + 8 - k) % 8, Nat.mod_lt _ (by norm_num)⟩ else X ⟨r.val - k, by omega⟩

theorem below (r k : ℕ) (hr : r < 256) (hk : k < 256) : (IntOp.cmpi .slt (BitVec.ofNat 32 r) (BitVec.ofNat 32 k) : BitVec 1) = if r < k then 1#1 else 0#1 := by
  have h : (BitVec.ofNat 32 r).slt (BitVec.ofNat 32 k) = decide (r < k) := by
    have hn : ∀ n : ℕ, n < 256 → (BitVec.ofNat 32 n).toInt = (n : ℤ) := by
      intro n hn
      rw [BitVec.toInt_eq_toNat_of_lt (by rw [BitVec.toNat_ofNat]; omega), BitVec.toNat_ofNat]
      omega
    rw [BitVec.slt_eq_decide, hn r hr, hn k hk]
    exact decide_eq_decide.2 Int.ofNat_lt
  by_cases hc : r < k
  · rw [if_pos hc]
    simp [IntOp.cmpi, h, hc]
  · rw [if_neg hc]
    simp [IntOp.cmpi, h, hc]

/-- The shifted rows as the body writes them: the first eight rows patched, the others the product's. -/
theorem patched (H : Fin 8 → EReal) (X : Fin 256 → EReal) (k : ℕ) (hk : k < 8) (r : Fin 256) (A B : Fin 256 → EReal)
    (hA : ∀ x : Fin 256, A x = if r.val = x.val + k then 1 else 0) (hB : 8 ≤ r.val → ∀ x : Fin 256, B x = if r.val = x.val + k then 1 else 0) :
    (if h : r.val < 8 then Scalar.select (IntOp.cmpi .slt (BitVec.ofNat 32 r.val) (BitVec.ofNat 32 k)) (H ⟨(r.val + 8 - k) % 8, Nat.mod_lt _ (by norm_num)⟩) (∑ x : Fin 256, A x * X x)
      else ∑ x : Fin 256, B x * X x) = tap H X k r := by
  unfold tap
  by_cases h : r.val < 8
  · rw [dif_pos h, below _ _ r.isLt (by omega)]
    by_cases hc : r.val < k
    · rw [if_pos hc, if_pos hc]
      rfl
    · rw [if_neg hc, if_neg hc]
      exact shifted X A r.val k r.isLt (by omega) hA
  · rw [dif_neg h, if_neg (by omega)]
    exact shifted X B r.val k r.isLt (by omega) (hB (by omega))

/-! ## The rows -/

theorem pay5_apply (r x : Fin 256) : (k0_pay5 : FVec Ideal S256x256 .bf16) (ix2 r x) = if r.val = x.val + 2 then 1 else 0 := by
  unfold k0_pay5
  pointwise
  exact entry r.val x.val 2 r.isLt x.isLt (by norm_num)

theorem pay4_apply (i : grid0.Coords) (x : Vec Ideal S1x256x3072 .bf16) (hl : Vec Ideal S1x8x3072 .bf16) (w3 w2 : Vec Ideal S1x3072 .f32) (r : Fin 256) (e : Fin 3072) :
    k0_pay4 i x hl w3 w2 (ix2 r e) = x (ix3 0 r e) * w3 (ix2 0 e) + tap (fun q => k0_pay3 i hl (ix2 q e)) (fun q => x (ix3 0 q e)) 1 r * w2 (ix2 0 e) := by
  have hx : ∀ q : Fin 256, (k0_pay2 x : FVec Ideal S256x3072 .bf16) (ix2 q e) = x (ix3 0 q e) := by
    intro q
    unfold k0_pay2
    pointwise
  unfold k0_pay4
  pointwise
  simp only [hx]
  congr 2
  refine patched (fun q => k0_pay3 i hl (ix2 q e)) (fun q => x (ix3 0 q e)) 1 (by norm_num) r _ _ (fun z => entry r.val z.val 1 r.isLt z.isLt (by norm_num)) (fun h8 z => ?_)
  rw [entry (8 + (r.val - 8)) z.val 1 (by omega) z.isLt (by norm_num)]
  exact if_congr (by omega) rfl rfl

theorem pay6_apply (v1 : FVec Ideal S256x3072 .bf16) (v8 : FVec Ideal S8x3072 .f32) (v34 : FVec Ideal S256x3072 .f32) (w1 w0 : Vec Ideal S1x3072 .f32) (r : Fin 256) (e : Fin 3072) (z : EReal)
    (hz : v34 (ix2 r e) + tap (fun q => v8 (ix2 q e)) (fun q => v1 (ix2 q e)) 2 r * w1 (ix2 0 e) + tap (fun q => v8 (ix2 q e)) (fun q => v1 (ix2 q e)) 3 r * w0 (ix2 0 e) = z) :
    k0_pay6 v1 v8 (iota .tc S8x3072 32 [0] iota_S8x3072_d0_w32) (iota .tc S256x256 32 [0] iota_S256x256_d0_w32) (iota .tc S256x256 32 [1] iota_S256x256_d1_w32) v34 k0_pay5 w1 w0 (ix2 r e)
      = silu z := by
  unfold k0_pay6
  pointwise
  simp only [pay5_apply]
  refine congrArg (fun t : EReal => t * Ideal.logistic t) (Eq.trans ?_ hz)
  refine congrArg₂ (· + ·) (congrArg₂ (· + ·) rfl (congrArg (· * _) ?_)) (congrArg (· * _) ?_)
  · exact patched (fun q => v8 (ix2 q e)) (fun q => v1 (ix2 q e)) 2 (by norm_num) r _ _ (fun x => rfl) (fun h8 x => if_congr (by omega) rfl rfl)
  · refine patched (fun q => v8 (ix2 q e)) (fun q => v1 (ix2 q e)) 3 (by norm_num) r _ _ (fun x => entry r.val x.val 3 r.isLt x.isLt (by norm_num)) (fun h8 x => ?_)
    rw [entry (8 + (r.val - 8)) x.val 3 (by omega) x.isLt (by norm_num)]
    exact if_congr (by omega) rfl rfl

theorem qHead_apply (y : FVec Ideal S256x3072 .f32) (h : Fin 8) (r : Fin 256) (d : Fin 128) : qHead y h (ix3 0 r d) = unitAt (fun a => y (ix2 r ⟨128 * h.val + a.val, by omega⟩)) d * scale := by
  unfold qHead unitRow
  pointwise
  rfl

theorem kHead_apply (y : FVec Ideal S256x3072 .f32) (h : Fin 8) (r : Fin 256) (d : Fin 128) : kHead y h (ix3 0 r d) = unitAt (fun a => y (ix2 r ⟨1024 + 128 * h.val + a.val, by omega⟩)) d := by
  unfold kHead unitRow
  pointwise
  rfl

theorem vHead_apply (y : FVec Ideal S256x3072 .f32) (r : Fin 256) (d : Fin 1024) : k0_pay32 y (ix3 0 r d) = y (ix2 r ⟨2048 + d.val, by omega⟩) := by
  unfold k0_pay32
  pointwise

theorem gates_apply (ba : Vec Ideal S1x256x128 .f32) (a0 a1 : Vec Ideal S1x128 .f32) (r : Fin 256) (d : Fin 128) :
    gates ba a0 a1 (ix3 0 r d) = gateAt (ba (ix3 0 r d)) (a0 (ix2 0 d)) (a1 (ix2 0 d)) d.val := by
  unfold gates k0_pay1 k0_pay34 k0_pay35 k0_pay36 k0_pay33
  pointwise
  rw [below d.val 8 (by omega) (by norm_num), below d.val 16 (by omega) (by norm_num), zero_sub, zero_sub]
  have hs : ∀ t u v : EReal, (if t ≠ t then u else v) = v := fun t u v => if_neg (fun h => h rfl)
  rw [hs]
  unfold gateAt softplus
  by_cases h : d.val < 8
  · rw [if_pos h, if_pos h]
    rfl
  · rw [if_neg h, if_neg h]
    by_cases h' : d.val < 16
    · rw [if_pos h', if_pos h']
      rfl
    · rw [if_neg h', if_neg h']
      rfl

end Cert.Kernel8Ideal.Pre

end
-- ==== Proof.PreValue.lean ====
/- The short convolution's call: its staged arrays, its stored blocks and its two results over the extended reals. -/
module

public import proofs.«01_k».proof.Proof.PreConv
public import proofs.«01_k».proof.Proof.Gen.Kernel8Ideal.Value
public import Idealize.ShloMosaic.Lib.Pipeline.ValueKit.Tiles
public import Idealize.ShloMosaic.Lib.StableHlo.ReadAt
public import Idealize.ShloMosaic.Lib.Pointwise
public import Idealize.ShloMosaic.Lib.IdealHost
public import Idealize.ShloMosaic.Lib.Routing.OpsSet

@[expose] public section

set_option maxRecDepth 65536

noncomputable section

namespace Cert.Kernel8Ideal.Pre

open Idealize.ShloMosaic Idealize.ShloMosaic.TcCoe Idealize.SL.Sem Cert.Kernel8Ideal Cert.Kernel8Ideal.Gen Cert.PreMath

/-! ## The two parameter rows -/

section Rows

open Idealize.ShloMosaic.Routing

theorem row_lands (idx : IVec S2 32) (q : Fin 2) (h0 : (idx (ix1 0)).toInt = (q.val : ℤ)) (h1 : (idx (ix1 1)).toInt = 8) (k : Fin 8) (r : Fin 2) (e : Fin 128) :
    scatter_S2x128_S2_S8_0_0_01_0.resultIdx? (ix1 k) idx = some (ix2 r e) ↔ q = r ∧ k.val + 8 = e.val := by
  have hw0 : scatter_S2x128_S2_S8_0_0_01_0.window (ix1 k) 0 = 0 := by
    unfold ScatterDims.window
    rw [dif_neg (by decide)]
  have hw1 : scatter_S2x128_S2_S8_0_0_01_0.window (ix1 k) 1 = k.val := by
    unfold ScatterDims.window
    rw [dif_pos (by decide)]
    rfl
  have hs0 : scatter_S2x128_S2_S8_0_0_01_0.start (ix1 k) idx 0 = (q.val : ℤ) := by
    unfold ScatterDims.start
    rw [dif_pos (by decide)]
    refine Eq.trans ?_ h0
    congr 2
    funext b
    match b with
    | ⟨0, _⟩ => rfl
  have hs1 : scatter_S2x128_S2_S8_0_0_01_0.start (ix1 k) idx 1 = 8 := by
    unfold ScatterDims.start
    rw [dif_pos (by decide)]
    refine Eq.trans ?_ h1
    congr 2
    funext b
    match b with
    | ⟨0, _⟩ => rfl
  refine (resultIdx?_ix2 (R := 2) (C := 128) _ _ _ _ _).trans ?_
  rw [hs0, hw0, hs1, hw1, Fin.ext_iff]
  omega

theorem row_apply (x : S2x128.Idx → EReal) (idx : IVec S2 32) (q : Fin 2) (h0 : (idx (ix1 0)).toInt = (q.val : ℤ)) (h1 : (idx (ix1 1)).toInt = 8) (u : S8.Idx → EReal) (r : Fin 2) (e : Fin 128) :
    Host.scatter scatter_S2x128_S2_S8_0_0_01_0 (fun _ b => b) x idx u (ix2 r e) = if h : q = r ∧ 8 ≤ e.val ∧ e.val < 16 then u (ix1 ⟨e.val - 8, by omega⟩) else x (ix2 r e) := by
  by_cases h : q = r ∧ 8 ≤ e.val ∧ e.val < 16
  · rw [dif_pos h]
    refine scatter_set_hit _ x idx u _ _ (fun j hj => ?_) (ix1 (⟨e.val - 8, by omega⟩ : Fin 8)) ((row_lands idx q h0 h1 ⟨e.val - 8, by omega⟩ r e).2 ⟨h.1, by show e.val - 8 + 8 = e.val; omega⟩)
    rw [eq_ix1 j] at hj ⊢
    have := (row_lands idx q h0 h1 (j 0) r e).1 hj
    congr 2
    apply Fin.ext
    show (j 0).val = e.val - 8
    omega
  · rw [dif_neg h]
    refine scatter_set_miss _ x idx u _ fun j hj => h ?_
    rw [eq_ix1 j] at hj
    have := (row_lands idx q h0 h1 (j 0) r e).1 hj
    have hj1 : (j 0).val < 8 := (j 0).isLt
    exact ⟨this.1, by omega, by omega⟩

end Rows

theorem three {α β γ δ : Type} (f : α → β → γ → δ) {a a' : α} {b b' : β} {d d' : γ} (ha : a = a') (hb : b = b') (hd : d = d') : f a b d = f a' b' d' := by
  rw [ha, hb, hd]

/-! ## The stored values of whole blocks -/

theorem select_apply (i : grid0.Coords) (hl : Vec Ideal S1x8x3072 .bf16) (q : Fin 8) (e : Fin 3072) :
    k0_pay3 i hl (ix2 q e) = Scalar.select (Scalar.cmpi .sgt (BitVec.ofNat 32 (i 1).val) 0#32) (hl (ix3 0 q e) : EReal) (0 : EReal) := by
  unfold k0_pay3
  pointwise

theorem row_of (w : Vec Ideal S4x3072 .f32) (j : Fin 4) (inb : ∀ a, (![j.val, 0] : Fin 2 → ℕ) a + S1x3072.size a ≤ S4x3072.size a) (e : Fin 3072) :
    View.ld (Val := Elt Ideal) w (Rect.unit (s := S4x3072) ![j.val, 0] S1x3072.size inb) (ix2 0 e) = w (ix2 j e) := by
  refine View.ld_unit_apply_of _ _ _ _ _ (ix2 j e) (fun a => ?_)
  match a with
  | ⟨0, _⟩ => rfl
  | ⟨1, _⟩ => exact (Nat.zero_add _).symm

theorem rows_apply (i : grid0.Coords) (x : Vec Ideal S1x256x3072 .bf16) (hl : Vec Ideal S1x8x3072 .bf16) (w : Vec Ideal S4x3072 .f32) (r : Fin 256) (e : Fin 3072) :
    rows (F := Ideal) i x hl w (ix2 r e) = silu (x (ix3 0 r e) * w (ix2 3 e) + tap (fun q => k0_pay3 i hl (ix2 q e)) (fun q => x (ix3 0 q e)) 1 r * w (ix2 2 e)
      + tap (fun q => k0_pay3 i hl (ix2 q e)) (fun q => x (ix3 0 q e)) 2 r * w (ix2 1 e) + tap (fun q => k0_pay3 i hl (ix2 q e)) (fun q => x (ix3 0 q e)) 3 r * w (ix2 0 e)) := by
  have hX : View.ld (Val := Elt Ideal) x rX = x := View.ld_unit_zero (by funext a; fin_cases a <;> rfl) _ _
  have hH : View.ld (Val := Elt Ideal) hl rH = hl := View.ld_unit_zero (by funext a; fin_cases a <;> rfl) _ _
  have hx : (fun q : Fin 256 => (k0_pay2 x : FVec Ideal S256x3072 .bf16) (ix2 q e)) = fun q => x (ix3 0 q e) := by
    funext q
    unfold k0_pay2
    pointwise
  unfold rows conv
  rw [hX, hH]
  refine pay6_apply _ _ _ _ _ r e _ ?_
  rw [hx, pay4_apply]
  exact congrArg₂ (· + ·) (congrArg₂ (· + ·) (congrArg₂ (· + ·) (congrArg (_ * ·) (row_of w 3 _ e)) (congrArg (_ * ·) (row_of w 2 _ e)))
    (congrArg (_ * ·) (row_of w 1 _ e))) (congrArg (_ * ·) (row_of w 0 _ e))

theorem gateBlock_apply (ba : Vec Ideal S1x256x128 .f32) (ap : Vec Ideal S2x128 .f32) (r : Fin 256) (d : Fin 128) :
    gateBlock (F := Ideal) ba ap (ix3 0 r d) = gateAt (ba (ix3 0 r d)) (ap (ix2 0 d)) (ap (ix2 1 d)) d.val := by
  have hB : View.ld (Val := Elt Ideal) ba rB = ba := View.ld_unit_zero (by funext a; fin_cases a <;> rfl) _ _
  unfold gateBlock
  rw [hB, gates_apply]
  congr 1
  · refine View.ld_unit_apply_of _ _ _ _ _ (ix2 0 d) (fun a => ?_)
    match a with
    | ⟨0, _⟩ => rfl
    | ⟨1, _⟩ => exact (Nat.zero_add _).symm
  · refine View.ld_unit_apply_of _ _ _ _ _ (ix2 1 d) (fun a => ?_)
    match a with
    | ⟨0, _⟩ => rfl
    | ⟨1, _⟩ => exact (Nat.zero_add _).symm

/-! ## The staged arrays and their blocks -/

section Arrays

variable (m : (ℓ : Loc nD τ sig) → Buf (Elt Ideal) ℓ) (ρ : Dev nD → PrngReg) (c : Dev nD)

/-- The convolved columns of the joint projection. -/
def P (b : Fin 4) (s : Fin 4096) (e : Fin 3072) : EReal := m ((c : Thread nD τ).loc main_arg0) (ix3 b s ⟨3072 + e.val, by omega⟩)
/-- The gate columns. -/
def B (b : Fin 4) (s : Fin 4096) (d : Fin 128) : EReal := m ((c : Thread nD τ).loc main_arg1) (ix3 b s d)
/-- The convolution's weights. -/
def Cw (j : Fin 4) (e : Fin 3072) : EReal := m ((c : Thread nD τ).loc main_arg2) (ix3 0 j e)
/-- The decay parameters on their lanes. -/
def A0 (d : ℕ) : EReal := laneAt (fun h => m ((c : Thread nD τ).loc main_arg3) (ix2 0 h)) d
/-- The biases on their lanes. -/
def A1 (d : ℕ) : EReal := laneAt (fun h => m ((c : Thread nD τ).loc main_arg4) (ix2 0 h)) d

theorem V_main_v11 (r : Fin 4) (e : Fin 3072) : (V m c main_v11 : S4x3072.Idx → EReal) (ix2 r e) = Cw m c r e := by
  unfold V
  after_reads_at
  unfold Cw
  pointwise

theorem V_main_v10_0 (e : Fin 128) : (V m c main_v10 : S2x128.Idx → EReal) (ix2 0 e) = A0 m c e.val := by
  unfold V
  after_reads_at
  refine (row_apply _ _ 1 rfl rfl _ 0 e).trans ((dif_neg (by rintro ⟨h, _⟩; exact absurd h (by decide))).trans ?_)
  refine (row_apply _ _ 0 rfl rfl _ 0 e).trans ?_
  unfold A0 laneAt
  by_cases h : 8 ≤ e.val ∧ e.val < 16
  · rw [dif_pos ⟨rfl, h⟩, dif_pos h]
    pointwise
  · rw [dif_neg (fun k => h k.2), dif_neg h]
    exact Ideal.ofBits_zero_f32

theorem V_main_v10_1 (e : Fin 128) : (V m c main_v10 : S2x128.Idx → EReal) (ix2 1 e) = A1 m c e.val := by
  unfold V
  after_reads_at
  refine (row_apply _ _ 1 rfl rfl _ 1 e).trans ?_
  unfold A1 laneAt
  by_cases h : 8 ≤ e.val ∧ e.val < 16
  · rw [dif_pos ⟨rfl, h⟩, dif_pos h]
    pointwise
  · rw [dif_neg (fun k => h k.2), dif_neg h]
    refine (row_apply _ _ 0 rfl rfl _ 1 e).trans ((dif_neg (by rintro ⟨h, _⟩; exact absurd h (by decide))).trans ?_)
    exact Ideal.ofBits_zero_f32

theorem V_main_arg0 (b : Fin 4) (s : Fin 4096) (e : Fin 7168) : (V m c main_arg0 : S4x4096x7168.Idx → EReal) (ix3 b s e) = m ((c : Thread nD τ).loc main_arg0) (ix3 b s e) := by
  unfold V
  after_reads_at

theorem V_main_arg1 (b : Fin 4) (s : Fin 4096) (e : Fin 128) : (V m c main_arg1 : S4x4096x128.Idx → EReal) (ix3 b s e) = B m c b s e := by
  unfold V
  after_reads_at
  rfl

/-- The sequence of a grid point. -/
def seq (t : Fin cfg0.N) : Fin 4 := ⟨t.val / 16, by have h := lt_of_lt_of_eq t.isLt N_0; omega⟩
/-- A token of a grid point. -/
def tok (t : Fin cfg0.N) (r : Fin 256) : Fin 4096 := ⟨256 * (t.val % 16) + r.val, by omega⟩
/-- A token of the rows before a grid point. -/
def old (t : Fin cfg0.N) (q : Fin 8) : Fin 4096 := ⟨8 * (32 * (t.val % 16) - 1) + q.val, by omega⟩

theorem index0 : ∀ t : Fin cfg0.N, win0_0.index t = ![t.val / 16, t.val % 16, 1] := (by decide +kernel : ∀ t : Fin grid0.N, _)

theorem blk0 (t : Fin cfg0.N) (r : Fin 256) (e : Fin 3072) : (X0_0 m c t : Vec Ideal S1x256x3072 .bf16) (ix3 0 r e) = P m c (seq t) (tok t r) e := by
  have hi := index0 t
  refine Eq.trans ?_ (V_main_arg0 m c (seq t) (tok t r) ⟨3072 + e.val, by omega⟩)
  unfold X0_0 Pipeline.Window.fill
  rw [dif_pos (moved0_0 t _)]
  unfold iblk
  rw [View.read_apply]
  show V m c main_arg0 _ = V m c main_arg0 _
  congr 1
  funext a
  apply Fin.ext
  match a with
  | ⟨0, _⟩ => show win0_0.index t 0 * 1 + 1 * (0 : Fin 1).val = t.val / 16; rw [hi]; show t.val / 16 * 1 + 1 * (0 : Fin 1).val = _; omega
  | ⟨1, _⟩ => show win0_0.index t 1 * 256 + 1 * r.val = 256 * (t.val % 16) + r.val; rw [hi]; show t.val % 16 * 256 + 1 * r.val = _; omega
  | ⟨2, _⟩ => show win0_0.index t 2 * 3072 + 1 * e.val = 3072 + e.val; rw [hi]; show 1 * 3072 + 1 * e.val = _; omega

theorem index1 : ∀ t : Fin cfg0.N, win0_1.index t = ![t.val / 16, (32 * (t.val % 16) - 1), 1] := (by decide +kernel : ∀ t : Fin grid0.N, _)

theorem blk1 (t : Fin cfg0.N) (q : Fin 8) (e : Fin 3072) : (X0_1 m c t : Vec Ideal S1x8x3072 .bf16) (ix3 0 q e) = P m c (seq t) (old t q) e := by
  have hi := index1 t
  refine Eq.trans ?_ (V_main_arg0 m c (seq t) (old t q) ⟨3072 + e.val, by omega⟩)
  unfold X0_1 Pipeline.Window.fill
  rw [dif_pos (moved0_1 t _)]
  unfold iblk
  rw [View.read_apply]
  show V m c main_arg0 _ = V m c main_arg0 _
  congr 1
  funext a
  apply Fin.ext
  match a with
  | ⟨0, _⟩ => show win0_1.index t 0 * 1 + 1 * (0 : Fin 1).val = t.val / 16; rw [hi]; show t.val / 16 * 1 + 1 * (0 : Fin 1).val = _; omega
  | ⟨1, _⟩ => show win0_1.index t 1 * 8 + 1 * q.val = 8 * (32 * (t.val % 16) - 1) + q.val; rw [hi]; show (32 * (t.val % 16) - 1) * 8 + 1 * q.val = _; omega
  | ⟨2, _⟩ => show win0_1.index t 2 * 3072 + 1 * e.val = 3072 + e.val; rw [hi]; show 1 * 3072 + 1 * e.val = _; omega

theorem index2 : ∀ t : Fin cfg0.N, win0_2.index t = ![t.val / 16, t.val % 16, 0] := (by decide +kernel : ∀ t : Fin grid0.N, _)

theorem blk2 (t : Fin cfg0.N) (r : Fin 256) (e : Fin 128) : (iblk m c 2 t : Vec Ideal S1x256x128 .f32) (ix3 0 r e) = B m c (seq t) (tok t r) e := by
  have hi := index2 t
  refine Eq.trans ?_ (V_main_arg1 m c (seq t) (tok t r) e)
  unfold iblk
  rw [View.read_apply]
  show V m c main_arg1 _ = V m c main_arg1 _
  congr 1
  funext a
  apply Fin.ext
  match a with
  | ⟨0, _⟩ => show win0_2.index t 0 * 1 + 1 * (0 : Fin 1).val = t.val / 16; rw [hi]; show t.val / 16 * 1 + 1 * (0 : Fin 1).val = _; omega
  | ⟨1, _⟩ => show win0_2.index t 1 * 256 + 1 * r.val = 256 * (t.val % 16) + r.val; rw [hi]; show t.val % 16 * 256 + 1 * r.val = _; omega
  | ⟨2, _⟩ => show win0_2.index t 2 * 128 + 1 * e.val = e.val; rw [hi]; show 0 * 128 + 1 * e.val = _; omega

theorem index3 : ∀ t : Fin cfg0.N, win0_3.index t = ![0, 0] := (by decide +kernel : ∀ t : Fin grid0.N, _)

theorem blk3 (t : Fin cfg0.N) (j : Fin 4) (e : Fin 3072) : (iblk m c 3 t : Vec Ideal S4x3072 .f32) (ix2 j e) = Cw m c j e := by
  have hi := index3 t
  refine Eq.trans ?_ (V_main_v11 m c j e)
  unfold iblk
  rw [View.read_apply]
  show V m c main_v11 _ = V m c main_v11 _
  congr 1
  funext a
  apply Fin.ext
  match a with
  | ⟨0, _⟩ => show win0_3.index t 0 * 4 + 1 * j.val = j.val; rw [hi]; show 0 * 4 + 1 * j.val = _; omega
  | ⟨1, _⟩ => show win0_3.index t 1 * 3072 + 1 * e.val = e.val; rw [hi]; show 0 * 3072 + 1 * e.val = _; omega

theorem index4 : ∀ t : Fin cfg0.N, win0_4.index t = ![0, 0] := (by decide +kernel : ∀ t : Fin grid0.N, _)

theorem blk4 (t : Fin cfg0.N) (j : Fin 2) (e : Fin 128) : (iblk m c 4 t : Vec Ideal S2x128 .f32) (ix2 j e) = (V m c main_v10 : S2x128.Idx → EReal) (ix2 j e) := by
  have hi := index4 t
  refine Eq.trans ?_ (rfl)
  unfold iblk
  rw [View.read_apply]
  show V m c main_v10 _ = V m c main_v10 _
  congr 1
  funext a
  apply Fin.ext
  match a with
  | ⟨0, _⟩ => show win0_4.index t 0 * 2 + 1 * j.val = j.val; rw [hi]; show 0 * 2 + 1 * j.val = _; omega
  | ⟨1, _⟩ => show win0_4.index t 1 * 128 + 1 * e.val = e.val; rw [hi]; show 0 * 128 + 1 * e.val = _; omega

/-! ## A point's rows -/

theorem coord1 : ∀ t : Fin cfg0.N, ((grid0.coords t) 1).val = t.val % 16 := (by decide +kernel : ∀ t : Fin grid0.N, _)

theorem later : ∀ n : Fin 16, (Scalar.cmpi .sgt (BitVec.ofNat 32 n.val) 0#32 : BitVec 1) = if n.val = 0 then 0#1 else 1#1 := by decide

/-- The rows before a grid point's, zero at a sequence's first point. -/
theorem halo (t : Fin cfg0.N) (q : Fin 8) (e : Fin 3072) :
    k0_pay3 (grid0.coords t) (X0_1 m c t) (ix2 q e) = if t.val % 16 = 0 then 0 else P m c (seq t) (old t q) e := by
  refine (select_apply (grid0.coords t) (X0_1 m c t) q e).trans ?_
  rw [coord1, later ⟨t.val % 16, Nat.mod_lt _ (by norm_num)⟩]
  by_cases ht : t.val % 16 = 0
  · rw [if_pos ht, if_pos ht]
    rfl
  · rw [if_neg ht, if_neg ht]
    exact blk1 m c t q e

/-- A tap of a point's rows is the entry above its token. -/
theorem tap_eq (t : Fin cfg0.N) (k : ℕ) (hk : k ≤ 3) (r : Fin 256) (e : Fin 3072) :
    tap (fun q => k0_pay3 (grid0.coords t) (X0_1 m c t) (ix2 q e)) (fun q => (X0_0 m c t : Vec Ideal S1x256x3072 .bf16) (ix3 0 q e)) k r = above (P m c) k (seq t) (tok t r) e := by
  unfold tap above
  by_cases hr : r.val < k
  · rw [if_pos hr]
    refine (halo m c t _ e).trans ?_
    by_cases ht : t.val % 16 = 0
    · rw [if_pos ht, if_pos (by show 256 * (t.val % 16) + r.val < k; omega)]
    · rw [if_neg ht, if_neg (by show ¬ 256 * (t.val % 16) + r.val < k; omega)]
      refine congrArg (fun z => P m c (seq t) z e) (Fin.ext ?_)
      show 8 * (32 * (t.val % 16) - 1) + (r.val + 8 - k) % 8 = 256 * (t.val % 16) + r.val - k
      omega
  · rw [if_neg hr, if_neg (by show ¬ 256 * (t.val % 16) + r.val < k; omega)]
    refine (blk0 m c t _ e).trans ?_
    refine congrArg (fun z => P m c (seq t) z e) (Fin.ext ?_)
    show 256 * (t.val % 16) + (r.val - k) = 256 * (t.val % 16) + r.val - k
    omega

/-- The convolution's rows of a point. -/
def ys (t : Fin cfg0.N) : FVec Ideal S256x3072 .f32 := rows (F := Ideal) (grid0.coords t) (X0_0 m c t) (X0_1 m c t) (iblk m c 3 t)

/-- A token's columns after the SiLU. -/
def act (b : Fin 4) (s : Fin 4096) (e : Fin 3072) : EReal := silu (convAt (P m c) (Cw m c) b s e)

theorem ys_apply (t : Fin cfg0.N) (r : Fin 256) (e : Fin 3072) : ys m c t (ix2 r e) = act m c (seq t) (tok t r) e := by
  refine (rows_apply (grid0.coords t) (X0_0 m c t) (X0_1 m c t) (iblk m c 3 t) r e).trans ?_
  unfold act convAt
  refine congrArg silu ?_
  exact congrArg₂ (· + ·) (congrArg₂ (· + ·) (congrArg₂ (· + ·) (congrArg₂ (· * ·) (blk0 m c t r e) (blk3 m c t 3 e))
    (congrArg₂ (· * ·) (tap_eq m c t 1 (by norm_num) r e) (blk3 m c t 2 e))) (congrArg₂ (· * ·) (tap_eq m c t 2 (by norm_num) r e) (blk3 m c t 1 e)))
    (congrArg₂ (· * ·) (tap_eq m c t 3 (by norm_num) r e) (blk3 m c t 0 e))

/-- The block of a point's rows. -/
def blockOf (y : FVec Ideal S256x3072 .f32) : Vec Ideal S1x256x3072 .bf16 := fun i : S1x256x3072.Idx => tokenAt (fun e => y (ix2 (i 1 : Fin 256) e)) (i 2)

theorem block_q (y : FVec Ideal S256x3072 .f32) (h : Fin 8) (x : (rQ h).shape.Idx) : qHead y h x = blockOf y ((rQ h).emb x) := by
  obtain ⟨r, d, rfl⟩ : ∃ (r : Fin 256) (d : Fin 128), x = (ix3 0 r d : S1x256x128.Idx) := by
    refine ⟨x 1, x 2, ?_⟩
    funext a
    match a with
    | ⟨0, _⟩ => exact Subsingleton.elim (α := Fin 1) _ _
    | ⟨1, _⟩ => rfl
    | ⟨2, _⟩ => rfl
  have he : (rQ h).emb (ix3 0 r d : S1x256x128.Idx) = (ix3 0 r ⟨128 * h.val + d.val, by omega⟩ : S1x256x3072.Idx) := by
    funext a
    apply Fin.ext
    match a with
    | ⟨0, _⟩ => rfl
    | ⟨1, _⟩ => show 0 + 1 * r.val = r.val; omega
    | ⟨2, _⟩ => show 128 * h.val + 1 * d.val = 128 * h.val + d.val; omega
  refine (qHead_apply y h r d).trans (Eq.trans ?_ (congrArg (blockOf y) he).symm)
  show _ = tokenAt (fun e => y (ix2 r e)) ⟨128 * h.val + d.val, by omega⟩
  unfold tokenAt
  rw [if_pos (by show 128 * h.val + d.val < 1024; omega)]
  refine congrArg (· * scale) (congrArg₂ unitAt ?_ (Fin.ext ?_))
  · funext a
    refine congrArg (fun z => y (ix2 r z)) (Fin.ext ?_)
    show 128 * h.val + a.val = 128 * ((128 * h.val + d.val) / 128) + a.val
    omega
  · show d.val = (128 * h.val + d.val) % 128
    omega

theorem block_k (y : FVec Ideal S256x3072 .f32) (h : Fin 8) (x : (rK h).shape.Idx) : kHead y h x = blockOf y ((rK h).emb x) := by
  obtain ⟨r, d, rfl⟩ : ∃ (r : Fin 256) (d : Fin 128), x = (ix3 0 r d : S1x256x128.Idx) := by
    refine ⟨x 1, x 2, ?_⟩
    funext a
    match a with
    | ⟨0, _⟩ => exact Subsingleton.elim (α := Fin 1) _ _
    | ⟨1, _⟩ => rfl
    | ⟨2, _⟩ => rfl
  have he : (rK h).emb (ix3 0 r d : S1x256x128.Idx) = (ix3 0 r ⟨1024 + 128 * h.val + d.val, by omega⟩ : S1x256x3072.Idx) := by
    funext a
    apply Fin.ext
    match a with
    | ⟨0, _⟩ => rfl
    | ⟨1, _⟩ => show 0 + 1 * r.val = r.val; omega
    | ⟨2, _⟩ => show 1024 + 128 * h.val + 1 * d.val = 1024 + 128 * h.val + d.val; omega
  refine (kHead_apply y h r d).trans (Eq.trans ?_ (congrArg (blockOf y) he).symm)
  show _ = tokenAt (fun e => y (ix2 r e)) ⟨1024 + 128 * h.val + d.val, by omega⟩
  unfold tokenAt
  rw [if_neg (by show ¬ 1024 + 128 * h.val + d.val < 1024; omega), if_pos (by show 1024 + 128 * h.val + d.val < 2048; omega)]
  refine congrArg₂ unitAt ?_ (Fin.ext ?_)
  · funext a
    refine congrArg (fun z => y (ix2 r z)) (Fin.ext ?_)
    show 1024 + 128 * h.val + a.val = 128 * ((1024 + 128 * h.val + d.val) / 128) + a.val
    omega
  · show d.val = (1024 + 128 * h.val + d.val) % 128
    omega

theorem block_v (y : FVec Ideal S256x3072 .f32) (x : rV.shape.Idx) : k0_pay32 y x = blockOf y (rV.emb x) := by
  obtain ⟨r, d, rfl⟩ : ∃ (r : Fin 256) (d : Fin 1024), x = (ix3 0 r d : S1x256x1024.Idx) := by
    refine ⟨x 1, x 2, ?_⟩
    funext a
    match a with
    | ⟨0, _⟩ => exact Subsingleton.elim (α := Fin 1) _ _
    | ⟨1, _⟩ => rfl
    | ⟨2, _⟩ => rfl
  have he : rV.emb (ix3 0 r d : S1x256x1024.Idx) = (ix3 0 r ⟨2048 + d.val, by omega⟩ : S1x256x3072.Idx) := by
    funext a
    apply Fin.ext
    match a with
    | ⟨0, _⟩ => rfl
    | ⟨1, _⟩ => show 0 + 1 * r.val = r.val; omega
    | ⟨2, _⟩ => show 2048 + 1 * d.val = 2048 + d.val; omega
  refine (vHead_apply y r d).trans (Eq.trans ?_ (congrArg (blockOf y) he).symm)
  show _ = tokenAt (fun e => y (ix2 r e)) ⟨2048 + d.val, by omega⟩
  unfold tokenAt
  rw [if_neg (by show ¬ 2048 + d.val < 1024; omega), if_neg (by show ¬ 2048 + d.val < 2048; omega)]

theorem pieces_ok (y : FVec Ideal S256x3072 .f32) : ∀ p ∈ pieces (F := Ideal) y, ∀ x, p.2 x = blockOf y (p.1.emb x) := by
  intro p hp
  unfold pieces at hp
  rcases List.mem_cons.1 hp with rfl | hp
  · exact block_v y
  · rcases List.mem_append.1 hp with hp | hp
    · obtain ⟨h, _, rfl⟩ := List.mem_map.1 hp
      exact block_k y h
    · obtain ⟨h, _, rfl⟩ := List.mem_map.1 hp
      exact block_q y h

/-! ## The two results -/

/-- The first result, at a token and a column. -/
def main5 (b : Fin 4) (s : Fin 4096) (e : Fin 3072) : EReal := tokenAt (fun e => act m c b s e) e
/-- The second result, at a token and a lane. -/
def side6 (b : Fin 4) (s : Fin 4096) (d : Fin 128) : EReal := gateAt (B m c b s d) (A0 m c d.val) (A1 m c d.val) d.val

theorem block_apply (t : Fin cfg0.N) (r : Fin 256) (e : Fin 3072) : blockOf (ys m c t) (ix3 0 r e) = main5 m c (seq t) (tok t r) e := by
  show tokenAt (fun e => ys m c t (ix2 r e)) e = _
  unfold main5
  refine congrArg (fun z => tokenAt z e) ?_
  funext e
  exact ys_apply m c t r e

/-- The gates' block of a point. -/
def gs (t : Fin cfg0.N) : FVec Ideal S1x256x128 .f32 := gateBlock (F := Ideal) (iblk m c 2 t) (iblk m c 4 t)

theorem gs_apply (t : Fin cfg0.N) (r : Fin 256) (d : Fin 128) : gs m c t (ix3 0 r d) = side6 m c (seq t) (tok t r) d := by
  refine (gateBlock_apply (iblk m c 2 t) (iblk m c 4 t) r d).trans ?_
  unfold side6
  exact three (fun x y z => gateAt x y z d.val) (blk2 m c t r d) ((blk4 m c t 0 d).trans (V_main_v10_0 m c d)) ((blk4 m c t 1 d).trans (V_main_v10_1 m c d))

/-- The first result. -/
def G5 : Buf (Elt Ideal) ((c : Thread nD τ).loc main_v12_0) := fun i : S4x4096x3072.Idx => main5 m c (i 0) (i 1) (i 2)
/-- The second result. -/
def G6 : Buf (Elt Ideal) ((c : Thread nD τ).loc main_v12_1) := fun i : S4x4096x128.Idx => side6 m c (i 0) (i 1) (i 2)

theorem index5 : ∀ t : Fin cfg0.N, win0_5.index t = ![t.val / 16, t.val % 16, 0] := (by decide +kernel : ∀ t : Fin grid0.N, _)
theorem index6 : ∀ t : Fin cfg0.N, win0_6.index t = ![t.val / 16, t.val % 16, 0] := (by decide +kernel : ∀ t : Fin grid0.N, _)

theorem back5 (t : Fin cfg0.N) : (dats m 0 c).flushed 5 t = ((cfg0.win 5).blk t).view.read (Elt Ideal) (G5 m c) := by
  have hi := index5 t
  rw [Value.flushed5_A, out5 (F := Ideal) c (grid0.coords t) _ _ _ _ _ _ _ _ _ _ _ _ _ _ (X0_0 m c t) (X0_1 m c t) (iblk m c 2 t) (iblk m c 3 t) (iblk m c 4 t) (blockOf (ys m c t)) (pieces_ok (ys m c t))]
  funext y
  have hl : (cfg0.win 5).xinj (grid0.coords t) y = (ix3 0 (y 1 : Fin 256) (y 2 : Fin 3072) : S1x256x3072.Idx) := by
    funext a
    match a with
    | ⟨0, _⟩ => exact Subsingleton.elim (α := Fin 1) _ _
    | ⟨1, _⟩ => rfl
    | ⟨2, _⟩ => rfl
  show blockOf (ys m c t) ((cfg0.win 5).xinj (grid0.coords t) y) = G5 m c (((cfg0.win 5).blk t).view.emb y)
  refine (congrArg (blockOf (ys m c t)) hl).trans ((block_apply m c t (y 1) (y 2)).trans ?_)
  have hy0 : (y 0).val < 1 := (y 0).isLt
  refine three (main5 m c) (Fin.ext ?_) (Fin.ext ?_) (Fin.ext ?_)
  · show t.val / 16 = win0_5.index t 0 * 1 + 1 * (y 0).val
    rw [hi]
    show _ = t.val / 16 * 1 + 1 * (y 0).val
    omega
  · show 256 * (t.val % 16) + (y 1).val = win0_5.index t 1 * 256 + 1 * (y 1).val
    rw [hi]
    show _ = t.val % 16 * 256 + 1 * (y 1).val
    omega
  · show (y 2).val = win0_5.index t 2 * 3072 + 1 * (y 2).val
    rw [hi]
    show _ = 0 * 3072 + 1 * (y 2).val
    omega

theorem back6 (t : Fin cfg0.N) : (dats m 0 c).flushed 6 t = ((cfg0.win 6).blk t).view.read (Elt Ideal) (G6 m c) := by
  have hi := index6 t
  rw [Value.flushed6_A, out6 (F := Ideal)]
  funext y
  have hl : (cfg0.win 6).xinj (grid0.coords t) y = (ix3 0 (y 1 : Fin 256) (y 2 : Fin 128) : S1x256x128.Idx) := by
    funext a
    match a with
    | ⟨0, _⟩ => exact Subsingleton.elim (α := Fin 1) _ _
    | ⟨1, _⟩ => rfl
    | ⟨2, _⟩ => rfl
  show gs m c t ((cfg0.win 6).xinj (grid0.coords t) y) = G6 m c (((cfg0.win 6).blk t).view.emb y)
  refine (congrArg (gs m c t) hl).trans ((gs_apply m c t (y 1) (y 2)).trans ?_)
  have hy0 : (y 0).val < 1 := (y 0).isLt
  refine three (side6 m c) (Fin.ext ?_) (Fin.ext ?_) (Fin.ext ?_)
  · show t.val / 16 = win0_6.index t 0 * 1 + 1 * (y 0).val
    rw [hi]
    show _ = t.val / 16 * 1 + 1 * (y 0).val
    omega
  · show 256 * (t.val % 16) + (y 1).val = win0_6.index t 1 * 256 + 1 * (y 1).val
    rw [hi]
    show _ = t.val % 16 * 256 + 1 * (y 1).val
    omega
  · show (y 2).val = win0_6.index t 2 * 128 + 1 * (y 2).val
    rw [hi]
    show _ = 0 * 128 + 1 * (y 2).val
    omega

theorem inblk5 (t : Fin cfg0.N) (i : S4x4096x3072.Idx) :
    i ∈ ((cfg0.win 5).blk t).view.set ↔ ∀ a : Fin 3, win0_5.index t a * S1x256x3072.size a ≤ (i a).val ∧ (i a).val < win0_5.index t a * S1x256x3072.size a + S1x256x3072.size a := by
  show i ∈ ((View.whole main_v12_0).slice (win0_5.rect t)).set ↔ _
  rw [View.set_slice_whole, Rect.mem_set_unit]
  exact Iff.rfl

theorem inblk6 (t : Fin cfg0.N) (i : S4x4096x128.Idx) :
    i ∈ ((cfg0.win 6).blk t).view.set ↔ ∀ a : Fin 3, win0_6.index t a * S1x256x128.size a ≤ (i a).val ∧ (i a).val < win0_6.index t a * S1x256x128.size a + S1x256x128.size a := by
  show i ∈ ((View.whole main_v12_1).slice (win0_6.rect t)).set ↔ _
  rw [View.set_slice_whole, Rect.mem_set_unit]
  exact Iff.rfl

theorem array5 : (dats m 0 c).arrAt 5 cfg0.N = G5 m c :=
  (dats m 0 c).arrAt_eq_of_cover 5 _ (fun t _ => back5 m c t) (fun i => by
    have h0 : (i 0).val < 4 := (i 0).isLt
    have h1 : (i 1).val < 4096 := (i 1).isLt
    have h2 : (i 2).val < 3072 := (i 2).isLt
    have hN : (i 0).val * 16 + (i 1).val / 256 < cfg0.N := lt_of_lt_of_eq (by omega) N_0.symm
    refine ⟨⟨_, hN⟩, flush0_5 _, ?_⟩
    rw [inblk5, index5]
    intro a
    match a with
    | ⟨0, _⟩ =>
      show ((i 0).val * 16 + (i 1).val / 256) / 16 * 1 ≤ (i 0).val ∧ (i 0).val < ((i 0).val * 16 + (i 1).val / 256) / 16 * 1 + 1
      omega
    | ⟨1, _⟩ =>
      show ((i 0).val * 16 + (i 1).val / 256) % 16 * 256 ≤ (i 1).val ∧ (i 1).val < ((i 0).val * 16 + (i 1).val / 256) % 16 * 256 + 256
      omega
    | ⟨2, _⟩ =>
      show 0 * 3072 ≤ (i 2).val ∧ (i 2).val < 0 * 3072 + 3072
      omega)

theorem array6 : (dats m 0 c).arrAt 6 cfg0.N = G6 m c :=
  (dats m 0 c).arrAt_eq_of_cover 6 _ (fun t _ => back6 m c t) (fun i => by
    have h0 : (i 0).val < 4 := (i 0).isLt
    have h1 : (i 1).val < 4096 := (i 1).isLt
    have h2 : (i 2).val < 128 := (i 2).isLt
    have hN : (i 0).val * 16 + (i 1).val / 256 < cfg0.N := lt_of_lt_of_eq (by omega) N_0.symm
    refine ⟨⟨_, hN⟩, flush0_6 _, ?_⟩
    rw [inblk6, index6]
    intro a
    match a with
    | ⟨0, _⟩ =>
      show ((i 0).val * 16 + (i 1).val / 256) / 16 * 1 ≤ (i 0).val ∧ (i 0).val < ((i 0).val * 16 + (i 1).val / 256) / 16 * 1 + 1
      omega
    | ⟨1, _⟩ =>
      show ((i 0).val * 16 + (i 1).val / 256) % 16 * 256 ≤ (i 1).val ∧ (i 1).val < ((i 0).val * 16 + (i 1).val / 256) % 16 * 256 + 256
      omega
    | ⟨2, _⟩ =>
      show 0 * 128 ≤ (i 2).val ∧ (i 2).val < 0 * 128 + 128
      omega)

end Arrays

/-- The run: each result at its closed form, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12_0) = G5 m c
      ∧ r.2.mem ((c : Thread nD τ).loc main_v12_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (array5 m c), (h c).2.1.trans (array6 m c), (h c).2.2⟩) (Value.run_blocks m ρ)

end Cert.Kernel8Ideal.Pre

end
-- ==== Proof.PreRef.lean ====
/- The short convolution's reference, read at an index. -/
module

public import proofs.«01_k».proof.Proof.PreMath
public import proofs.«01_k».proof.Proof.Gen.Reference8Ideal.Run
public import Idealize.ShloMosaic.Lib.Pointwise

@[expose] public section

set_option maxRecDepth 16384

noncomputable section

namespace Cert.Reference8Ideal.Pre

open Idealize.ShloMosaic Idealize.ShloMosaic.TcCoe Idealize.SL.Sem Cert.Reference8Ideal Cert.Reference8Ideal.Gen Cert.PreMath

section Terms

variable {F : FTy → Type} [FloatOps F]

/-- The columns widened, with three rows of zeros before them. -/
def padded (x : FVec F S4x4096x7168 .bf16) : FVec F S4x4099x3072 .f32 :=
  pad S4x4099x3072 ![0, 3, 0] ![0, 0, 0] ![0, 0, 0] (extf .f32 (extractStridedSlice S4x4096x3072 ![0, 0, 3072] x slices_S4x4096x7168_S4x4096x3072_0_0_3072) bitsLt_bf16_f32) (sitofp .f32 (constantI S_ 32 0#32)) pads_S4x4096x3072_S4x4099x3072_000_300_000 h_S_

/-- The convolution's sum. -/
def summed (p : FVec F S4x4099x3072 .f32) (w : FVec F S1x4x3072 .f32) : FVec F S4x4096x3072 .f32 :=
  addf (addf (addf (addf (broadcastInDim S4x4096x3072 ![] bcast_S_S4x4096x3072 (constant S_ .f32 0x00000000#32)) (mulf (extractStridedSlice S4x4096x3072 ![0, 0, 0] p slices_S4x4099x3072_S4x4096x3072_0_0_0) (broadcastInDim S4x4096x3072 ![0, 1, 2] bcast_S1x1x3072_S4x4096x3072_0_1_2 (broadcastInDim S1x1x3072 ![2] bcast_S3072_S1x1x3072_2 (shapeCast S3072 (extractStridedSlice S1x1x3072 ![0, 0, 0] w slices_S1x4x3072_S1x1x3072_0_0_0) shapeCasts_S1x1x3072_S3072))))) (mulf (extractStridedSlice S4x4096x3072 ![0, 1, 0] p slices_S4x4099x3072_S4x4096x3072_0_1_0) (broadcastInDim S4x4096x3072 ![0, 1, 2] bcast_S1x1x3072_S4x4096x3072_0_1_2 (broadcastInDim S1x1x3072 ![2] bcast_S3072_S1x1x3072_2 (shapeCast S3072 (extractStridedSlice S1x1x3072 ![0, 1, 0] w slices_S1x4x3072_S1x1x3072_0_1_0) shapeCasts_S1x1x3072_S3072))))) (mulf (extractStridedSlice S4x4096x3072 ![0, 2, 0] p slices_S4x4099x3072_S4x4096x3072_0_2_0) (broadcastInDim S4x4096x3072 ![0, 1, 2] bcast_S1x1x3072_S4x4096x3072_0_1_2 (broadcastInDim S1x1x3072 ![2] bcast_S3072_S1x1x3072_2 (shapeCast S3072 (extractStridedSlice S1x1x3072 ![0, 2, 0] w slices_S1x4x3072_S1x1x3072_0_2_0) shapeCasts_S1x1x3072_S3072))))) (mulf (extractStridedSlice S4x4096x3072 ![0, 3, 0] p slices_S4x4099x3072_S4x4096x3072_0_3_0) (broadcastInDim S4x4096x3072 ![0, 1, 2] bcast_S1x1x3072_S4x4096x3072_0_1_2 (broadcastInDim S1x1x3072 ![2] bcast_S3072_S1x1x3072_2 (shapeCast S3072 (extractStridedSlice S1x1x3072 ![0, 3, 0] w slices_S1x4x3072_S1x1x3072_0_3_0) shapeCasts_S1x1x3072_S3072))))

/-- The sums' SiLU, in three parts of eight heads. -/
def heads (z : FVec F S4x4096x3072 .f32) : FVec F S4x4096x3x8x128 .f32 :=
  shapeCast S4x4096x3x8x128 (mulf z (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf z))))) shapeCasts_S4x4096x3072_S4x4096x3x8x128

/-- The heads normalised. -/
def unitHeads (t : FVec F S4x4096x8x128 .f32) : FVec F S4x4096x8x128 .f32 :=
  mulf t (broadcastInDim S4x4096x8x128 ![0, 1, 2, 3] bcast_S4x4096x8x1_S4x4096x8x128_0_1_2_3 (Host.rsqrt (addf (broadcastInDim S4x4096x8x1 ![0, 1, 2] bcast_S4x4096x8_S4x4096x8x1_0_1_2 (Host.reduceAdd (mulf t t) (constant S_ .f32 0x00000000#32) reducesTo_S4x4096x8x128_S4x4096x8_d3 h_S_)) (broadcastInDim S4x4096x8x1 ![] bcast_S_S4x4096x8x1 (constant S_ .f32 0x358637BD#32)))))

def qPart (y : FVec F S4x4096x3x8x128 .f32) : FVec F S4x4096x8x128 .f32 := shapeCast S4x4096x8x128 (extractStridedSlice S4x4096x1x8x128 ![0, 0, 0, 0, 0] y slices_S4x4096x3x8x128_S4x4096x1x8x128_0_0_0_0_0) shapeCasts_S4x4096x1x8x128_S4x4096x8x128
def kPart (y : FVec F S4x4096x3x8x128 .f32) : FVec F S4x4096x8x128 .f32 := shapeCast S4x4096x8x128 (extractStridedSlice S4x4096x1x8x128 ![0, 0, 1, 0, 0] y slices_S4x4096x3x8x128_S4x4096x1x8x128_0_0_1_0_0) shapeCasts_S4x4096x1x8x128_S4x4096x8x128
def vPart (y : FVec F S4x4096x3x8x128 .f32) : FVec F S4x4096x8x128 .f32 := shapeCast S4x4096x8x128 (extractStridedSlice S4x4096x1x8x128 ![0, 0, 2, 0, 0] y slices_S4x4096x3x8x128_S4x4096x1x8x128_0_0_2_0_0) shapeCasts_S4x4096x1x8x128_S4x4096x8x128
def scaled (t : FVec F S4x4096x8x128 .f32) : FVec F S4x4096x8x128 .f32 := mulf t (broadcastInDim S4x4096x8x128 ![] bcast_S_S4x4096x8x128 (constant S_ .f32 0x3DB504F3#32))

/-- The three parts side by side. -/
def joined (q k v : FVec F S4x4096x8x128 .f32) : FVec F S4x4096x3x8x128 .f32 :=
  concatenate S4x4096x3x8x128 2 [⟨S4x4096x1x8x128, (broadcastInDim S4x4096x1x8x128 ![0, 1, 3, 4] bcast_S4x4096x8x128_S4x4096x1x8x128_0_1_3_4 q : (⟨S4x4096x1x8x128, .f32⟩ : BufTy).Contents (Elt F))⟩, ⟨S4x4096x1x8x128, (broadcastInDim S4x4096x1x8x128 ![0, 1, 3, 4] bcast_S4x4096x8x128_S4x4096x1x8x128_0_1_3_4 k : (⟨S4x4096x1x8x128, .f32⟩ : BufTy).Contents (Elt F))⟩, ⟨S4x4096x1x8x128, (broadcastInDim S4x4096x1x8x128 ![0, 1, 3, 4] bcast_S4x4096x8x128_S4x4096x1x8x128_0_1_3_4 v : (⟨S4x4096x1x8x128, .f32⟩ : BufTy).Contents (Elt F))⟩] concatenates_S4x4096x1x8x128_S4x4096x1x8x128_S4x4096x1x8x128_S4x4096x3x8x128_d2

/-- The three parts as columns, rounded. -/
def flat (z : FVec F S4x4096x3x8x128 .f32) : FVec F S4x4096x3072 .bf16 := truncf .bf16 (shapeCast S4x4096x3072 z shapeCasts_S4x4096x3x8x128_S4x4096x3072) bitsLt_bf16_f32

def stacked (q k v : FVec F S4x4096x8x128 .f32) : FVec F S4x4096x3072 .bf16 := flat (joined q k v)

/-- The decay columns and the bias. -/
def biased (b : FVec F S4x4096x128 .f32) (t : FVec F S1x8 .f32) : FVec F S4x4096x8 .f32 :=
  addf (extractStridedSlice S4x4096x8 ![0, 0, 8] b slices_S4x4096x128_S4x4096x8_0_0_8) (broadcastInDim S4x4096x8 ![0, 1, 2] bcast_S1x1x8_S4x4096x8_0_1_2 (broadcastInDim S1x1x8 ![2] bcast_S8_S1x1x8_2 (shapeCast S8 t shapeCasts_S1x8_S8)))

def soft (u : FVec F S4x4096x8 .f32) : FVec F S4x4096x8 .f32 :=
  select (cmpf .une (subf u (broadcastInDim S4x4096x8 ![] bcast_S_S4x4096x8 (constant S_ .f32 0x00000000#32))) (subf u (broadcastInDim S4x4096x8 ![] bcast_S_S4x4096x8 (constant S_ .f32 0x00000000#32)))) (addf u (broadcastInDim S4x4096x8 ![] bcast_S_S4x4096x8 (constant S_ .f32 0x00000000#32))) (addf (maximumf u (broadcastInDim S4x4096x8 ![] bcast_S_S4x4096x8 (constant S_ .f32 0x00000000#32))) (Host.log1p (Host.exp (Host.negf (Host.absf (subf u (broadcastInDim S4x4096x8 ![] bcast_S_S4x4096x8 (constant S_ .f32 0x00000000#32))))))))

def betas (b : FVec F S4x4096x128 .f32) : FVec F S4x4096x8 .f32 :=
  Host.divf (broadcastInDim S4x4096x8 ![] bcast_S_S4x4096x8 (constant S_ .f32 0x3F800000#32)) (addf (broadcastInDim S4x4096x8 ![] bcast_S_S4x4096x8 (constant S_ .f32 0x3F800000#32)) (Host.exp (Host.negf (extractStridedSlice S4x4096x8 ![0, 0, 0] b slices_S4x4096x128_S4x4096x8_0_0_0))))

def decays (a : FVec F S1x8 .f32) (s : FVec F S4x4096x8 .f32) : FVec F S4x4096x8 .f32 :=
  mulf (broadcastInDim S4x4096x8 ![0, 1, 2] bcast_S1x1x8_S4x4096x8_0_1_2 (broadcastInDim S1x1x8 ![2] bcast_S8_S1x1x8_2 (Host.negf (Host.exp (shapeCast S8 a shapeCasts_S1x8_S8))))) s

/-- The gates, of the beta and decay columns, the decay parameters and the bias. -/
def gated (u v : FVec F S4x4096x8 .f32) : FVec F S4x4096x128 .f32 :=
  (concatenate S4x4096x128 2 [⟨S4x4096x8, (u : (⟨S4x4096x8, .f32⟩ : BufTy).Contents (Elt F))⟩, ⟨S4x4096x8, (v : (⟨S4x4096x8, .f32⟩ : BufTy).Contents (Elt F))⟩, ⟨S4x4096x112, ((broadcastInDim S4x4096x112 ![] bcast_S_S4x4096x112 (constant S_ .f32 0x00000000#32)) : (⟨S4x4096x112, .f32⟩ : BufTy).Contents (Elt F))⟩] concatenates_S4x4096x8_S4x4096x8_S4x4096x112_S4x4096x128_d2 : (⟨S4x4096x128, .f32⟩ : BufTy).Contents (Elt F))

end Terms

theorem sitofp_zero : (FloatOps.sitofp FTy.f32 (0#32 : BitVec 32) : Ideal .f32) = 0 := by
  show (((0#32 : BitVec 32).toInt : ℝ) : EReal) = 0
  simp

/-- The convolved columns of the joint projection. -/
def cols (x : FVec Ideal S4x4096x7168 .bf16) (b : Fin 4) (s : Fin 4096) (e : Fin 3072) : EReal := x (ix3 b s ⟨3072 + e.val, by omega⟩)

/-- The padded columns `j` rows below a token's first tap. -/
theorem padded_apply (x : FVec Ideal S4x4096x7168 .bf16) (b : Fin 4) (s : Fin 4096) (e : Fin 3072) (t : Fin 4099) (k : ℕ) (hk : k ≤ 3)
    (ht : t.val + k = s.val + 3) : padded x (ix3 b t e) = above (cols x) k b s e := by
  have hr : padded x (ix3 b t e) = if h : 3 ≤ t.val ∧ t.val - 3 < 4096 then (x (ix3 b ⟨t.val - 3, h.2⟩ ⟨3072 + e.val, by omega⟩) : EReal) else (FloatOps.sitofp FTy.f32 (0#32 : BitVec 32) : Ideal .f32) := by
    unfold padded
    pointwise
  rw [hr]
  unfold above
  by_cases h : s.val < k
  · rw [dif_neg (by omega), if_pos h, sitofp_zero]
  · rw [dif_pos (by omega), if_neg h]
    unfold cols
    congr 2
    apply Fin.ext
    show t.val - 3 = s.val - k
    omega

theorem summed_apply (p : FVec Ideal S4x4099x3072 .f32) (w : FVec Ideal S1x4x3072 .f32) (b : Fin 4) (s : Fin 4096) (e : Fin 3072) :
    summed p w (ix3 b s e) = p (ix3 b ⟨s.val, by omega⟩ e) * w (ix3 0 0 e) + p (ix3 b ⟨1 + s.val, by omega⟩ e) * w (ix3 0 1 e)
      + p (ix3 b ⟨2 + s.val, by omega⟩ e) * w (ix3 0 2 e) + p (ix3 b ⟨3 + s.val, by omega⟩ e) * w (ix3 0 3 e) := by
  unfold summed
  pointwise

theorem conv_apply (x : FVec Ideal S4x4096x7168 .bf16) (w : FVec Ideal S1x4x3072 .f32) (b : Fin 4) (s : Fin 4096) (e : Fin 3072) :
    summed (padded x) w (ix3 b s e) = convAt (cols x) (fun j e => w (ix3 0 j e)) b s e := by
  rw [summed_apply, padded_apply x b s e _ 3 (by norm_num) (by show s.val + 3 = _; omega),
    padded_apply x b s e _ 2 (by norm_num) (by show 1 + s.val + 2 = _; omega),
    padded_apply x b s e _ 1 (by norm_num) (by show 2 + s.val + 1 = _; omega),
    padded_apply x b s e _ 0 (by norm_num) (by show 3 + s.val + 0 = _; omega)]
  have h0 : above (cols x) 0 b s e = cols x b s e := by
    unfold above
    rw [if_neg (by omega)]
    rfl
  rw [h0]
  unfold convAt
  rw [add_comm _ (cols x b s e * _), add_comm (_ + _) (above (cols x) 1 b s e * _), add_comm (above (cols x) 3 b s e * _), ← add_assoc, ← add_assoc]

theorem heads_apply (z : FVec Ideal S4x4096x3072 .f32) (b : Fin 4) (s : Fin 4096) (j : Fin 3) (h : Fin 8) (d : Fin 128) :
    heads z (ix5 b s j h d) = silu (z (ix3 b s ⟨j.val * 1024 + h.val * 128 + d.val, by omega⟩)) := by
  unfold heads
  pointwise
  rfl

theorem unitHeads_apply (t : FVec Ideal S4x4096x8x128 .f32) (b : Fin 4) (s : Fin 4096) (h : Fin 8) (d : Fin 128) :
    unitHeads t (ix4 b s h d) = unitAt (fun a => t (ix4 b s h a)) d := by
  unfold unitHeads
  pointwise
  rfl

theorem scaled_apply (t : FVec Ideal S4x4096x8x128 .f32) (b : Fin 4) (s : Fin 4096) (h : Fin 8) (d : Fin 128) :
    scaled t (ix4 b s h d) = t (ix4 b s h d) * scale := by
  unfold scaled
  pointwise
  rfl

theorem qPart_apply (y : FVec Ideal S4x4096x3x8x128 .f32) (b : Fin 4) (s : Fin 4096) (h : Fin 8) (d : Fin 128) : qPart y (ix4 b s h d) = y (ix5 b s 0 h d) := by
  unfold qPart
  pointwise

theorem kPart_apply (y : FVec Ideal S4x4096x3x8x128 .f32) (b : Fin 4) (s : Fin 4096) (h : Fin 8) (d : Fin 128) : kPart y (ix4 b s h d) = y (ix5 b s 1 h d) := by
  unfold kPart
  pointwise

theorem vPart_apply (y : FVec Ideal S4x4096x3x8x128 .f32) (b : Fin 4) (s : Fin 4096) (h : Fin 8) (d : Fin 128) : vPart y (ix4 b s h d) = y (ix5 b s 2 h d) := by
  unfold vPart
  pointwise

theorem joined_apply (q k v : FVec Ideal S4x4096x8x128 .f32) (b : Fin 4) (s : Fin 4096) (j : Fin 3) (h : Fin 8) (d : Fin 128) :
    joined q k v (ix5 b s j h d) = if j.val < 1 then q (ix4 b s h d) else if j.val - 1 < 1 then k (ix4 b s h d) else v (ix4 b s h d) := by
  unfold joined
  pointwise
  rfl

theorem flat_apply (z : FVec Ideal S4x4096x3x8x128 .f32) (b : Fin 4) (s : Fin 4096) (e : Fin 3072) :
    flat z (ix3 b s e) = z (ix5 b s ⟨e.val / 1024, by omega⟩ ⟨e.val / 128 % 8, by omega⟩ ⟨e.val % 128, by omega⟩) := by
  unfold flat
  pointwise

theorem stacked_apply (q k v : FVec Ideal S4x4096x8x128 .f32) (b : Fin 4) (s : Fin 4096) (e : Fin 3072) :
    stacked q k v (ix3 b s e) = if e.val / 1024 < 1 then q (ix4 b s ⟨e.val / 128 % 8, by omega⟩ ⟨e.val % 128, by omega⟩)
      else if e.val / 1024 - 1 < 1 then k (ix4 b s ⟨e.val / 128 % 8, by omega⟩ ⟨e.val % 128, by omega⟩)
      else v (ix4 b s ⟨e.val / 128 % 8, by omega⟩ ⟨e.val % 128, by omega⟩) :=
  (flat_apply _ b s e).trans (joined_apply q k v b s _ _ _)

theorem biased_apply (x : FVec Ideal S4x4096x128 .f32) (t : FVec Ideal S1x8 .f32) (b : Fin 4) (s : Fin 4096) (d : Fin 8) :
    biased x t (ix3 b s d) = x (ix3 b s ⟨8 + d.val, by omega⟩) + t (ix2 0 d) := by
  unfold biased
  pointwise

theorem soft_apply (u : FVec Ideal S4x4096x8 .f32) (b : Fin 4) (s : Fin 4096) (d : Fin 8) :
    soft u (ix3 b s d) = softplus (u (ix3 b s d)) := by
  have hs : ∀ t x y : EReal, (if t ≠ t then x else y) = y := fun t x y => if_neg (fun h => h rfl)
  unfold soft
  pointwise
  exact hs _ _ _

theorem betas_apply (x : FVec Ideal S4x4096x128 .f32) (b : Fin 4) (s : Fin 4096) (d : Fin 8) :
    betas x (ix3 b s d) = Ideal.logistic (x (ix3 b s ⟨d.val, by omega⟩)) := by
  unfold betas
  pointwise
  rfl

theorem decays_apply (a : FVec Ideal S1x8 .f32) (x : FVec Ideal S4x4096x8 .f32) (b : Fin 4) (s : Fin 4096) (d : Fin 8) :
    decays a x (ix3 b s d) = -Ideal.exp (a (ix2 0 d)) * x (ix3 b s d) := by
  unfold decays
  pointwise

theorem gated_apply (u v : FVec Ideal S4x4096x8 .f32) (b : Fin 4) (s : Fin 4096) (d : Fin 128) :
    gated u v (ix3 b s d) = if h : d.val < 8 then u (ix3 b s ⟨d.val, h⟩) else if h : d.val - 8 < 8 then v (ix3 b s ⟨d.val - 8, h⟩) else 0 := by
  unfold gated
  pointwise

/-! ## The two results -/

def mainOf (x : FVec Ideal S4x4096x7168 .bf16) (w : FVec Ideal S1x4x3072 .f32) : FVec Ideal S4x4096x3072 .bf16 :=
  stacked (scaled (unitHeads (qPart (heads (summed (padded x) w))))) (unitHeads (kPart (heads (summed (padded x) w)))) (vPart (heads (summed (padded x) w)))

def sideOf (x : FVec Ideal S4x4096x128 .f32) (a t : FVec Ideal S1x8 .f32) : FVec Ideal S4x4096x128 .f32 := gated (betas x) (decays a (soft (biased x t)))

theorem mainOf_apply (x : FVec Ideal S4x4096x7168 .bf16) (w : FVec Ideal S1x4x3072 .f32) (b : Fin 4) (s : Fin 4096) (e : Fin 3072) :
    mainOf x w (ix3 b s e) = tokenAt (fun e => silu (convAt (cols x) (fun j e => w (ix3 0 j e)) b s e)) e := by
  unfold mainOf tokenAt
  rw [stacked_apply]
  by_cases h1 : e.val < 1024
  · rw [if_pos (by omega), if_pos h1, scaled_apply, unitHeads_apply]
    congr 2
    funext a
    rw [qPart_apply, heads_apply, conv_apply]
    congr 2
    apply Fin.ext
    show 0 * 1024 + e.val / 128 % 8 * 128 + a.val = 128 * (e.val / 128) + a.val
    omega
  · rw [if_neg (by omega), if_neg h1]
    by_cases h2 : e.val < 2048
    · rw [if_pos (by omega), if_pos h2, unitHeads_apply]
      congr 1
      funext a
      rw [kPart_apply, heads_apply, conv_apply]
      congr 2
      apply Fin.ext
      show 1 * 1024 + e.val / 128 % 8 * 128 + a.val = 128 * (e.val / 128) + a.val
      omega
    · rw [if_neg (by omega), if_neg h2, vPart_apply, heads_apply, conv_apply]
      congr 2
      apply Fin.ext
      show 2 * 1024 + e.val / 128 % 8 * 128 + e.val % 128 = e.val
      omega

theorem sideOf_apply (x : FVec Ideal S4x4096x128 .f32) (a t : FVec Ideal S1x8 .f32) (b : Fin 4) (s : Fin 4096) (d : Fin 128) :
    sideOf x a t (ix3 b s d) = gateAt (x (ix3 b s d)) (laneAt (fun h => a (ix2 0 h)) d.val) (laneAt (fun h => t (ix2 0 h)) d.val) d.val := by
  unfold sideOf gateAt
  rw [gated_apply]
  by_cases h1 : d.val < 8
  · rw [dif_pos h1, if_pos h1, betas_apply]
  · rw [dif_neg h1, if_neg h1]
    by_cases h2 : d.val < 16
    · rw [dif_pos (by omega), if_pos h2, decays_apply, soft_apply, biased_apply]
      unfold laneAt
      rw [dif_pos ⟨by omega, h2⟩, dif_pos ⟨by omega, h2⟩]
      congr 5
      apply Fin.ext
      show 8 + (d.val - 8) = d.val
      omega
    · rw [dif_neg (by omega), if_neg h2]

/-- The run: the two results at their terms, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84) = mainOf (m ((c : Thread nD τ).loc main_arg0)) (m ((c : Thread nD τ).loc main_arg2))
      ∧ r.2.mem ((c.tc : Thread nD τ).loc main_v78) = sideOf (m ((c : Thread nD τ).loc main_arg1)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Reference8Ideal.Pre

end
-- ==== Proof.PreClaim.lean ====
/- The short convolution with its normalisations and gates: its frames, its reference's frame, and that the two compute the same two results. -/
module

public import proofs.«01_k».proof.Defs
public import proofs.«01_k».proof.Proof.Gen.Kernel8.Frame
public import proofs.«01_k».proof.Proof.PreValue
public import proofs.«01_k».proof.Proof.PreRef

@[expose] public section

noncomputable section

namespace Cert.GdnPre

open Idealize.ShloMosaic Idealize.ShloMosaic.TcCoe Idealize.SL.Sem

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2.2, sem_eq_zero_of_no_sems (by decide) _⟩) (Cert.Reference8Ideal.Pre.run m ρ)

open Cert.Kernel8Ideal.Pre in
theorem value : Cert.algebraic_Kernel8Ideal_Reference8Ideal := by
  intro m ρ m' ρ' hpre hargs
  refine ⟨fun c => G5 m c, fun c => G6 m c, run m ρ, ?_⟩
  refine (θ_run Cert.Reference8Ideal.defs _ _).mono (fun r h c => ⟨(h c).1.trans ?_, (h c).2.1.trans ?_, (h c).2.2⟩) (Cert.Reference8Ideal.Pre.run m' ρ')
  · obtain ⟨a0, a1, a2, a3, a4⟩ := hargs c
    funext y
    have hy : ∃ (b : Fin 4) (s : Fin 4096) (e : Fin 3072), y = (ix3 b s e : Cert.Kernel8Ideal.S4x4096x3072.Idx) := by
      refine ⟨y 0, y 1, y 2, ?_⟩
      funext a
      match a with
      | ⟨0, _⟩ => rfl
      | ⟨1, _⟩ => rfl
      | ⟨2, _⟩ => rfl
    obtain ⟨b, s, e, rfl⟩ := hy
    refine (Cert.Reference8Ideal.Pre.mainOf_apply _ _ b s e).trans ?_
    rw [a0, a2]
    rfl
  · obtain ⟨a0, a1, a2, a3, a4⟩ := hargs c
    funext y
    have hy : ∃ (b : Fin 4) (s : Fin 4096) (d : Fin 128), y = (ix3 b s d : Cert.Kernel8Ideal.S4x4096x128.Idx) := by
      refine ⟨y 0, y 1, y 2, ?_⟩
      funext a
      match a with
      | ⟨0, _⟩ => rfl
      | ⟨1, _⟩ => rfl
      | ⟨2, _⟩ => rfl
    obtain ⟨b, s, d, rfl⟩ := hy
    refine (Cert.Reference8Ideal.Pre.sideOf_apply _ _ _ b s d).trans ?_
    rw [a1, a3, a4]
    rfl

end Cert.GdnPre

end
-- ==== Proof.lean ====
module

public import proofs.«01_k».proof.Defs
public import proofs.«01_k».proof.Proof.GdnClaim
public import proofs.«01_k».proof.Proof.FfnClaim2
public import proofs.«01_k».proof.Proof.FfnClaim3
public import proofs.«01_k».proof.Proof.ProjClaim
public import proofs.«01_k».proof.Proof.PinClaim
public import proofs.«01_k».proof.Proof.MixClaim
public import proofs.«01_k».proof.Proof.KvClaim
public import proofs.«01_k».proof.Proof.PreClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Gdn.facts_finite, Cert.Mix.facts_finite,
    Cert.Gdn.frame_kernel, Cert.Gdn.frame_ideal, Cert.Gdn.frame_ideal_finite, Cert.Gdn.frame_reference, Cert.Gdn.frame_reference_finite, Cert.FfnLast.frame_kernel, Cert.FfnLast.frame_ideal, Cert.FfnLast.frame_reference, Cert.FfnPlain.frame_kernel, Cert.FfnPlain.frame_ideal, Cert.FfnPlain.frame_reference, Cert.ProjGates.frame_kernel, Cert.ProjGates.frame_ideal, Cert.ProjGates.frame_reference, Cert.ProjIn.frame_kernel, Cert.ProjIn.frame_ideal, Cert.ProjIn.frame_reference, Cert.Mix.frame_kernel, Cert.Mix.frame_ideal, Cert.Mix.frame_ideal_finite, Cert.Mix.frame_reference, Cert.Mix.frame_reference_finite, Cert.MemKv.frame_kernel, Cert.MemKv.frame_ideal, Cert.MemKv.frame_reference, Cert.GdnPre.frame_kernel, Cert.GdnPre.frame_ideal, Cert.GdnPre.frame_reference,
    trivial, Cert.Gdn.value, trivial, Cert.FfnLast.value, trivial, Cert.FfnPlain.value, trivial, Cert.ProjGates.value, trivial, Cert.ProjIn.value, trivial, Cert.Mix.value, trivial, Cert.MemKv.value, trivial, Cert.GdnPre.value⟩

end Cert.Proof

end
